-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "mask" .f32 0xF1800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x12288 : Shape := ⟨3, ![4, 8192, 12288]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S4x8192x12288 : S_.BroadcastsInDim S4x8192x12288 (![] : Fin 0 → Fin S4x8192x12288.rank)
  reducesTo_S4x8192x12288_S_d0_1_2 : S4x8192x12288.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : IVec S_ 1 := andi main_v14 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  main_v24

def fn {F : FTy → Type} [FloatOps F] (main_arg0 : FVec F S4x8192x12288 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S4x8192x12288 .f32 := (extf .f32 · bitsLt_bf16_f32) main_arg0
  let main_v1 : FVec F S4x8192x12288 .f32 := Host.absf main_v0
  let main_cst : FVec F S_ .f32 := constant S_ .f32 0x7F800000#32
  let main_v2 : FVec F S4x8192x12288 .f32 := broadcastInDim S4x8192x12288 ![] bcast_S_S4x8192x12288 main_cst
  let main_v3 : IVec S4x8192x12288 1 := cmpf .olt main_v1 main_v2
  let main_c : IVec S_ 1 := constantI S_ 1 1#1
  let main_v4 : IVec S_ 1 := (fun x v => Host.reduce IntOp.andi x v reducesTo_S4x8192x12288_S_d0_1_2 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_v14 main_v15 main_v16
-- ==== Kernel.lean ====
abbrev S4x8192x12288 : Shape := ⟨3, ![4, 8192, 12288]⟩
abbrev S1x64 : Shape := ⟨2, ![1, 64]⟩
abbrev S1x128 : Shape := ⟨2, ![1, 128]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x8192x1024 : Shape := ⟨3, ![4, 8192, 1024]⟩
abbrev S1x512x128 : Shape := ⟨3, ![1, 512, 128]⟩
abbrev S1x8192x128 : Shape := ⟨3, ![1, 8192, 128]⟩
abbrev S512x128 : Shape := ⟨2, ![512, 128]⟩
abbrev S1024x128 : Shape := ⟨2, ![1024, 128]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S512x256 : Shape := ⟨2, ![512, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 46
  | .vmem => 37
  | .smem => 0
  | _ => 0

abbrev bufTy : (tb : Table) → Fin (tcTables nBuf tb) → BufTy
  | .hbm, ⟨0, _⟩ => ⟨S4x8192x12288, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S8192, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S_, .f32⟩
  | .hbm, ⟨28, _⟩ => ⟨S8192x8, .f32⟩
  | .hbm, ⟨29, _⟩ => ⟨S_, .f32⟩
  | .hbm, ⟨30, _⟩ => ⟨S8192x48, .f32⟩
  | .hbm, ⟨31, _⟩ => ⟨S8192x48, .f32⟩
  | .hbm, ⟨32, _⟩ => ⟨S8192x64, .f32⟩
  | .hbm, ⟨33, _⟩ => ⟨S8192x8, .f32⟩
  | .hbm, ⟨34, _⟩ => ⟨S8192x64, .f32⟩
  | .hbm, ⟨35, _⟩ => ⟨S8192x64, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S1x8192x1x64, .f32⟩
  | .hbm, ⟨43, _⟩ => ⟨S1x8192x2x64, .f32⟩
  | .hbm, ⟨44, _⟩ => ⟨S8192x128, .f32⟩
  | .hbm, ⟨45, _⟩ => ⟨S4x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x512x128, .bf16⟩
  | .local _ .vmem, ⟨9, _⟩ => ⟨S1x512x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x128, .f32⟩
  | .local _ .vmem, ⟨27, _⟩ => ⟨S1x512x128, .bf16⟩
  | .local _ .vmem, ⟨28, _⟩ => ⟨S1x512x128, .bf16⟩
  | .local _ .vmem, ⟨29, _⟩ => ⟨S1024x128, .bf16⟩
  | .local _ .vmem, ⟨30, _⟩ => ⟨S1024x128, .bf16⟩
  | .local _ .vmem, ⟨31, _⟩ => ⟨S8192x128, .bf16⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S1024x128, .f32⟩
  | .local _ .vmem, ⟨36, _⟩ => ⟨S1024x256, .f32⟩
  | _, _ => ⟨S4x8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg2 : BitVec 32 := BitVec.ofNat 32 (i 2).val
  let c512_i32 : BitVec 32 := 512#32
  let v72 : BitVec 32 := Scalar.muli arg2 c512_i32
  v72
def k0_off1 (i : grid0.Coords) : Fin 2 → Nat :=
  let arg2 : BitVec 32 := BitVec.ofNat 32 (i 2).val
  let c512_i32 : BitVec 32 := 512#32
  let v72 : BitVec 32 := Scalar.muli arg2 c512_i32
  let v73 : BitVec 32 := v72
  let v74 : Index := Scalar.indexCast v73
  let c0_35 : Index := 0#32
  ![v74.toNat, 0]
def k0_mult2 : BitVec 32 :=
  let c0_i32_85 : BitVec 32 := 0#32
  c0_i32_85
def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def k0_mult3 (i : grid0.Coords) : BitVec 32 :=
  let arg2 : BitVec 32 := BitVec.ofNat 32 (i 2).val
  let c512_i32 : BitVec 32 := 512#32
  let v76 : BitVec 32 := Scalar.muli arg2 c512_i32
  v76
def k0_off2 (i : grid0.Coords) : Fin 2 → Nat :=
  let arg2 : BitVec 32 := BitVec.ofNat 32 (i 2).val
  let c512_i32 : BitVec 32 := 512#32
  let v76 : BitVec 32 := Scalar.muli arg2 c512_i32
  let v77 : BitVec 32 := v76
  let v78 : Index := Scalar.indexCast v77
  let c0_39 : Index := 0#32
  ![v78.toNat, 0]
def k0_mult4 : BitVec 32 :=
  let c512_i32_42 : BitVec 32 := 512#32
  c512_i32_42
def k0_mult5 : BitVec 32 :=
  let c0_i32_67 : BitVec 32 := 0#32
  c0_i32_67
@[reducible] def k0_t1_loop (i : grid0.Coords) : Scf.Loop 32 :=
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_92 : BitVec 32 := 1#32
  ⟨c0_i32_90, v175, c1_i32_92⟩
def k0_mult6 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c0_i32_105 : BitVec 32 := 0#32
  let v194 : BitVec 32 := Scalar.addi v193 c0_i32_105
  let c1_i32_106 : BitVec 32 := 1#32
  let v195 : BitVec 32 := Scalar.addi v194 c1_i32_106
  let c512_i32_109 : BitVec 32 := 512#32
  let v197 : BitVec 32 := Scalar.muli v195 c512_i32_109
  v197
def k0_off3 (i : grid0.Coords) (k0_t1 : Fin (k0_t1_loop i).trips) (c0_i32_105 : BitVec 32) : Fin 2 → Nat :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let v194 : BitVec 32 := Scalar.addi v193 c0_i32_105
  let c1_i32_106 : BitVec 32 := 1#32
  let v195 : BitVec 32 := Scalar.addi v194 c1_i32_106
  let c512_i32_109 : BitVec 32 := 512#32
  let v197 : BitVec 32 := Scalar.muli v195 c512_i32_109
  let v198 : BitVec 32 := v197
  let v199 : Index := Scalar.indexCast v198
  let c0_110 : Index := 0#32
  ![v199.toNat, 0]
def k0_mult7 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c0_i32_114 : BitVec 32 := 0#32
  let v205 : BitVec 32 := Scalar.addi v193 c0_i32_114
  let c512_i32_117 : BitVec 32 := 512#32
  let v207 : BitVec 32 := Scalar.muli v205 c512_i32_117
  v207
def k0_off4 (i : grid0.Coords) (k0_t1 : Fin (k0_t1_loop i).trips) (c0_i32_114 : BitVec 32) : Fin 3 → Nat :=
  let c0_118 : Index := 0#32
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let v205 : BitVec 32 := Scalar.addi v193 c0_i32_114
  let c512_i32_117 : BitVec 32 := 512#32
  let v207 : BitVec 32 := Scalar.muli v205 c512_i32_117
  let v208 : BitVec 32 := v207
  let v209 : Index := Scalar.indexCast v208
  let c0_119 : Index := 0#32
  ![0, v209.toNat, 0]
def k0_mult8 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c1_i32_131 : BitVec 32 := 1#32
  let v236 : BitVec 32 := Scalar.addi v193 c1_i32_131
  let c1_i32_132 : BitVec 32 := 1#32
  let v237 : BitVec 32 := Scalar.addi v236 c1_i32_132
  let c512_i32_135 : BitVec 32 := 512#32
  let v239 : BitVec 32 := Scalar.muli v237 c512_i32_135
  v239
def k0_mult9 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c1_i32_140 : BitVec 32 := 1#32
  let v247 : BitVec 32 := Scalar.addi v193 c1_i32_140
  let c512_i32_143 : BitVec 32 := 512#32
  let v249 : BitVec 32 := Scalar.muli v247 c512_i32_143
  v249
def k0_mult10 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c2_i32_157 : BitVec 32 := 2#32
  let v278 : BitVec 32 := Scalar.addi v193 c2_i32_157
  let c1_i32_158 : BitVec 32 := 1#32
  let v279 : BitVec 32 := Scalar.addi v278 c1_i32_158
  let c512_i32_161 : BitVec 32 := 512#32
  let v281 : BitVec 32 := Scalar.muli v279 c512_i32_161
  v281
def k0_mult11 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c2_i32_166 : BitVec 32 := 2#32
  let v289 : BitVec 32 := Scalar.addi v193 c2_i32_166
  let c512_i32_169 : BitVec 32 := 512#32
  let v291 : BitVec 32 := Scalar.muli v289 c512_i32_169
  v291
def k0_mult12 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c3_i32_183 : BitVec 32 := 3#32
  let v320 : BitVec 32 := Scalar.addi v193 c3_i32_183
  let c1_i32_184 : BitVec 32 := 1#32
  let v321 : BitVec 32 := Scalar.addi v320 c1_i32_184
  let c512_i32_187 : BitVec 32 := 512#32
  let v323 : BitVec 32 := Scalar.muli v321 c512_i32_187
  v323
def k0_mult13 (i : grid0.Coords) (k0_t1 : Fin (k0_t1_loop i).trips) : BitVec 32 :=
  let c1_i32_104 : BitVec 32 := 1#32
  let c4_i32_103 : BitVec 32 := 4#32
  let c0_i32_90 : BitVec 32 := 0#32
  let c1_i32_92 : BitVec 32 := 1#32
  let arg28 : BitVec 32 := Scf.iv c0_i32_90 c1_i32_92 k0_t1
  let v192 : BitVec 32 := Scalar.muli c4_i32_103 arg28
  let v193 : BitVec 32 := Scalar.addi c1_i32_104 v192
  let c3_i32_192 : BitVec 32 := 3#32
  let v331 : BitVec 32 := Scalar.addi v193 c3_i32_192
  let c512_i32_195 : BitVec 32 := 512#32
  let v333 : BitVec 32 := Scalar.muli v331 c512_i32_195
  v333
@[reducible] def k0_t2_loop (i : grid0.Coords) : Scf.Loop 32 :=
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let v172 : BitVec 32 := Scalar.addi c0_i32_90 v171
  let c1_i32_93 : BitVec 32 := 1#32
  ⟨v175, v172, c1_i32_93⟩
def k0_mult14 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c0_i32_105 : BitVec 32 := 0#32
  let v194 : BitVec 32 := Scalar.addi v193 c0_i32_105
  let c1_i32_106 : BitVec 32 := 1#32
  let v195 : BitVec 32 := Scalar.addi v194 c1_i32_106
  let c512_i32_109 : BitVec 32 := 512#32
  let v197 : BitVec 32 := Scalar.muli v195 c512_i32_109
  v197
def k0_off5 (i : grid0.Coords) (k0_t2 : Fin (k0_t2_loop i).trips) (c0_i32_105 : BitVec 32) : Fin 2 → Nat :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let v194 : BitVec 32 := Scalar.addi v193 c0_i32_105
  let c1_i32_106 : BitVec 32 := 1#32
  let v195 : BitVec 32 := Scalar.addi v194 c1_i32_106
  let c512_i32_109 : BitVec 32 := 512#32
  let v197 : BitVec 32 := Scalar.muli v195 c512_i32_109
  let v198 : BitVec 32 := v197
  let v199 : Index := Scalar.indexCast v198
  let c0_110 : Index := 0#32
  ![v199.toNat, 0]
def k0_mult15 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c0_i32_114 : BitVec 32 := 0#32
  let v205 : BitVec 32 := Scalar.addi v193 c0_i32_114
  let c512_i32_117 : BitVec 32 := 512#32
  let v207 : BitVec 32 := Scalar.muli v205 c512_i32_117
  v207
def k0_off6 (i : grid0.Coords) (k0_t2 : Fin (k0_t2_loop i).trips) (c0_i32_114 : BitVec 32) : Fin 3 → Nat :=
  let c0_118 : Index := 0#32
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let v205 : BitVec 32 := Scalar.addi v193 c0_i32_114
  let c512_i32_117 : BitVec 32 := 512#32
  let v207 : BitVec 32 := Scalar.muli v205 c512_i32_117
  let v208 : BitVec 32 := v207
  let v209 : Index := Scalar.indexCast v208
  let c0_119 : Index := 0#32
  ![0, v209.toNat, 0]
def k0_mult16 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c1_i32_131 : BitVec 32 := 1#32
  let v236 : BitVec 32 := Scalar.addi v193 c1_i32_131
  let c1_i32_132 : BitVec 32 := 1#32
  let v237 : BitVec 32 := Scalar.addi v236 c1_i32_132
  let c512_i32_135 : BitVec 32 := 512#32
  let v239 : BitVec 32 := Scalar.muli v237 c512_i32_135
  v239
def k0_mult17 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c1_i32_140 : BitVec 32 := 1#32
  let v247 : BitVec 32 := Scalar.addi v193 c1_i32_140
  let c512_i32_143 : BitVec 32 := 512#32
  let v249 : BitVec 32 := Scalar.muli v247 c512_i32_143
  v249
def k0_mult18 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c2_i32_157 : BitVec 32 := 2#32
  let v278 : BitVec 32 := Scalar.addi v193 c2_i32_157
  let c1_i32_158 : BitVec 32 := 1#32
  let v279 : BitVec 32 := Scalar.addi v278 c1_i32_158
  let c512_i32_161 : BitVec 32 := 512#32
  let v281 : BitVec 32 := Scalar.muli v279 c512_i32_161
  v281
def k0_mult19 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c2_i32_166 : BitVec 32 := 2#32
  let v289 : BitVec 32 := Scalar.addi v193 c2_i32_166
  let c512_i32_169 : BitVec 32 := 512#32
  let v291 : BitVec 32 := Scalar.muli v289 c512_i32_169
  v291
def k0_mult20 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c3_i32_183 : BitVec 32 := 3#32
  let v320 : BitVec 32 := Scalar.addi v193 c3_i32_183
  let c1_i32_184 : BitVec 32 := 1#32
  let v321 : BitVec 32 := Scalar.addi v320 c1_i32_184
  let c512_i32_187 : BitVec 32 := 512#32
  let v323 : BitVec 32 := Scalar.muli v321 c512_i32_187
  v323
def k0_mult21 (i : grid0.Coords) (k0_t2 : Fin (k0_t2_loop i).trips) : BitVec 32 :=
  let c1_i32_104 : BitVec 32 := 1#32
  let c4_i32_103 : BitVec 32 := 4#32
  let c0_i32_90 : BitVec 32 := 0#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v171 : BitVec 32 := Scalar.subi v170 c0_i32_90
  let c1_i32_91 : BitVec 32 := 1#32
  let v173 : BitVec 32 := Scalar.divsi v171 c1_i32_91
  let v174 : BitVec 32 := Scalar.muli v173 c1_i32_91
  let v175 : BitVec 32 := Scalar.addi c0_i32_90 v174
  let c1_i32_93 : BitVec 32 := 1#32
  let arg28 : BitVec 32 := Scf.iv v175 c1_i32_93 k0_t2
  let v192 : BitVec 32 := Scalar.muli c4_i32_103 arg28
  let v193 : BitVec 32 := Scalar.addi c1_i32_104 v192
  let c3_i32_192 : BitVec 32 := 3#32
  let v331 : BitVec 32 := Scalar.addi v193 c3_i32_192
  let c512_i32_195 : BitVec 32 := 512#32
  let v333 : BitVec 32 := Scalar.muli v331 c512_i32_195
  v333
def k0_cond3 (i : grid0.Coords) : BitVec 1 :=
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c4_i32_96 : BitVec 32 := 4#32
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v178 : BitVec 32 := Scalar.muli c4_i32_96 v170
  let v179 : BitVec 32 := Scalar.subi v151 v178
  let c1_i32_97 : BitVec 32 := 1#32
  let v180 : BitVec 1 := Scalar.cmpi .eq v179 c1_i32_97
  let v181 : BitVec 32 := Scalar.extui v180
  let c0_i32_98 : BitVec 32 := 0#32
  let v182 : BitVec 1 := Scalar.cmpi .ne v181 c0_i32_98
  v182

def k0_mult22 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_110 : BitVec 32 := 0#32
  let v198 : BitVec 32 := Scalar.addi v177 c0_i32_110
  let c512_i32_115 : BitVec 32 := 512#32
  let v209 : BitVec 32 := Scalar.muli v198 c512_i32_115
  v209
def k0_off7 (i : grid0.Coords) : Fin 3 → Nat :=
  let c0_116 : Index := 0#32
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_110 : BitVec 32 := 0#32
  let v198 : BitVec 32 := Scalar.addi v177 c0_i32_110
  let c512_i32_115 : BitVec 32 := 512#32
  let v209 : BitVec 32 := Scalar.muli v198 c512_i32_115
  let v210 : BitVec 32 := v209
  let v211 : Index := Scalar.indexCast v210
  let c0_117 : Index := 0#32
  ![0, v211.toNat, 0]
def k0_cond4 (i : grid0.Coords) : BitVec 1 :=
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c4_i32_96 : BitVec 32 := 4#32
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v178 : BitVec 32 := Scalar.muli c4_i32_96 v170
  let v179 : BitVec 32 := Scalar.subi v151 v178
  let c2_i32 : BitVec 32 := 2#32
  let v183 : BitVec 1 := Scalar.cmpi .eq v179 c2_i32
  let v184 : BitVec 32 := Scalar.extui v183
  let c0_i32_99 : BitVec 32 := 0#32
  let v185 : BitVec 1 := Scalar.cmpi .ne v184 c0_i32_99
  v185

def k0_mult23 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_103 : BitVec 32 := 0#32
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  v195
def k0_off8 (i : grid0.Coords) : Fin 2 → Nat :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_103 : BitVec 32 := 0#32
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  let v196 : BitVec 32 := v195
  let v197 : Index := Scalar.indexCast v196
  let c0_108 : Index := 0#32
  ![v197.toNat, 0]
def k0_mult24 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_112 : BitVec 32 := 0#32
  let v203 : BitVec 32 := Scalar.addi v177 c0_i32_112
  let c512_i32_115 : BitVec 32 := 512#32
  let v205 : BitVec 32 := Scalar.muli v203 c512_i32_115
  v205
def k0_off9 (i : grid0.Coords) (c0_i32_112 : BitVec 32) : Fin 3 → Nat :=
  let c0_116 : Index := 0#32
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let v203 : BitVec 32 := Scalar.addi v177 c0_i32_112
  let c512_i32_115 : BitVec 32 := 512#32
  let v205 : BitVec 32 := Scalar.muli v203 c512_i32_115
  let v206 : BitVec 32 := v205
  let v207 : Index := Scalar.indexCast v206
  let c0_117 : Index := 0#32
  ![0, v207.toNat, 0]
def k0_mult25 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c1_i32_136 : BitVec 32 := 1#32
  let v240 : BitVec 32 := Scalar.addi v177 c1_i32_136
  let c512_i32_141 : BitVec 32 := 512#32
  let v251 : BitVec 32 := Scalar.muli v240 c512_i32_141
  v251
def k0_cond5 (i : grid0.Coords) : BitVec 1 :=
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c4_i32_96 : BitVec 32 := 4#32
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v178 : BitVec 32 := Scalar.muli c4_i32_96 v170
  let v179 : BitVec 32 := Scalar.subi v151 v178
  let c3_i32 : BitVec 32 := 3#32
  let v186 : BitVec 1 := Scalar.cmpi .eq v179 c3_i32
  let v187 : BitVec 32 := Scalar.extui v186
  let c0_i32_100 : BitVec 32 := 0#32
  let v188 : BitVec 1 := Scalar.cmpi .ne v187 c0_i32_100
  v188

def k0_mult26 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_103 : BitVec 32 := 0#32
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  v195
def k0_off10 (i : grid0.Coords) (c0_i32_103 : BitVec 32) : Fin 2 → Nat :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  let v196 : BitVec 32 := v195
  let v197 : Index := Scalar.indexCast v196
  let c0_108 : Index := 0#32
  ![v197.toNat, 0]
def k0_mult27 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_112 : BitVec 32 := 0#32
  let v203 : BitVec 32 := Scalar.addi v177 c0_i32_112
  let c512_i32_115 : BitVec 32 := 512#32
  let v205 : BitVec 32 := Scalar.muli v203 c512_i32_115
  v205
def k0_off11 (i : grid0.Coords) (c0_i32_112 : BitVec 32) : Fin 3 → Nat :=
  let c0_116 : Index := 0#32
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let v203 : BitVec 32 := Scalar.addi v177 c0_i32_112
  let c512_i32_115 : BitVec 32 := 512#32
  let v205 : BitVec 32 := Scalar.muli v203 c512_i32_115
  let v206 : BitVec 32 := v205
  let v207 : Index := Scalar.indexCast v206
  let c0_117 : Index := 0#32
  ![0, v207.toNat, 0]
def k0_mult28 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c1_i32_129 : BitVec 32 := 1#32
  let v234 : BitVec 32 := Scalar.addi v177 c1_i32_129
  let c1_i32_130 : BitVec 32 := 1#32
  let v235 : BitVec 32 := Scalar.addi v234 c1_i32_130
  let c512_i32_133 : BitVec 32 := 512#32
  let v237 : BitVec 32 := Scalar.muli v235 c512_i32_133
  v237
def k0_mult29 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c1_i32_138 : BitVec 32 := 1#32
  let v245 : BitVec 32 := Scalar.addi v177 c1_i32_138
  let c512_i32_141 : BitVec 32 := 512#32
  let v247 : BitVec 32 := Scalar.muli v245 c512_i32_141
  v247
def k0_mult30 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c2_i32_162 : BitVec 32 := 2#32
  let v282 : BitVec 32 := Scalar.addi v177 c2_i32_162
  let c512_i32_167 : BitVec 32 := 512#32
  let v293 : BitVec 32 := Scalar.muli v282 c512_i32_167
  v293
def k0_cond6 (i : grid0.Coords) : BitVec 1 :=
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c4_i32_96 : BitVec 32 := 4#32
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v178 : BitVec 32 := Scalar.muli c4_i32_96 v170
  let v179 : BitVec 32 := Scalar.subi v151 v178
  let c4_i32_101 : BitVec 32 := 4#32
  let v189 : BitVec 1 := Scalar.cmpi .eq v179 c4_i32_101
  let v190 : BitVec 32 := Scalar.extui v189
  let c0_i32_102 : BitVec 32 := 0#32
  let v191 : BitVec 1 := Scalar.cmpi .ne v190 c0_i32_102
  v191

def k0_mult31 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_103 : BitVec 32 := 0#32
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  v195
def k0_off12 (i : grid0.Coords) (c0_i32_103 : BitVec 32) : Fin 2 → Nat :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let v192 : BitVec 32 := Scalar.addi v177 c0_i32_103
  let c1_i32_104 : BitVec 32 := 1#32
  let v193 : BitVec 32 := Scalar.addi v192 c1_i32_104
  let c512_i32_107 : BitVec 32 := 512#32
  let v195 : BitVec 32 := Scalar.muli v193 c512_i32_107
  let v196 : BitVec 32 := v195
  let v197 : Index := Scalar.indexCast v196
  let c0_108 : Index := 0#32
  ![v197.toNat, 0]
def k0_mult32 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c0_i32_112 : BitVec 32 := 0#32
  let v203 : BitVec 32 := Scalar.addi v177 c0_i32_112
  let c512_i32_115 : BitVec 32 := 512#32
  let v205 : BitVec 32 := Scalar.muli v203 c512_i32_115
  v205
def k0_off13 (i : grid0.Coords) (c0_i32_112 : BitVec 32) : Fin 3 → Nat :=
  let c0_116 : Index := 0#32
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let v203 : BitVec 32 := Scalar.addi v177 c0_i32_112
  let c512_i32_115 : BitVec 32 := 512#32
  let v205 : BitVec 32 := Scalar.muli v203 c512_i32_115
  let v206 : BitVec 32 := v205
  let v207 : Index := Scalar.indexCast v206
  let c0_117 : Index := 0#32
  ![0, v207.toNat, 0]
def k0_mult33 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c1_i32_129 : BitVec 32 := 1#32
  let v234 : BitVec 32 := Scalar.addi v177 c1_i32_129
  let c1_i32_130 : BitVec 32 := 1#32
  let v235 : BitVec 32 := Scalar.addi v234 c1_i32_130
  let c512_i32_133 : BitVec 32 := 512#32
  let v237 : BitVec 32 := Scalar.muli v235 c512_i32_133
  v237
def k0_mult34 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c1_i32_138 : BitVec 32 := 1#32
  let v245 : BitVec 32 := Scalar.addi v177 c1_i32_138
  let c512_i32_141 : BitVec 32 := 512#32
  let v247 : BitVec 32 := Scalar.muli v245 c512_i32_141
  v247
def k0_mult35 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c2_i32_155 : BitVec 32 := 2#32
  let v276 : BitVec 32 := Scalar.addi v177 c2_i32_155
  let c1_i32_156 : BitVec 32 := 1#32
  let v277 : BitVec 32 := Scalar.addi v276 c1_i32_156
  let c512_i32_159 : BitVec 32 := 512#32
  let v279 : BitVec 32 := Scalar.muli v277 c512_i32_159
  v279
def k0_mult36 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c2_i32_164 : BitVec 32 := 2#32
  let v287 : BitVec 32 := Scalar.addi v177 c2_i32_164
  let c512_i32_167 : BitVec 32 := 512#32
  let v289 : BitVec 32 := Scalar.muli v287 c512_i32_167
  v289
def k0_mult37 (i : grid0.Coords) : BitVec 32 :=
  let c1_i32_95 : BitVec 32 := 1#32
  let c4_i32_94 : BitVec 32 := 4#32
  let c1_i32_77 : BitVec 32 := 1#32
  let arg2 : BitVec 32 := BitVec.ofNat 32 (i 2).val
  let c1_i32 : BitVec 32 := 1#32
  let v147 : BitVec 32 := Scalar.addi arg2 c1_i32
  let v148 : BitVec 32 := Scalar.muli c1_i32_77 v147
  let c1_i32_78 : BitVec 32 := 1#32
  let v149 : BitVec 32 := Scalar.subi v148 c1_i32_78
  let c1_i32_79 : BitVec 32 := 1#32
  let v150 : BitVec 32 := Scalar.subi v149 c1_i32_79
  let c1_i32_80 : BitVec 32 := 1#32
  let v151 : BitVec 32 := Scalar.addi v150 c1_i32_80
  let c1_i32_81 : BitVec 32 := 1#32
  let v152 : BitVec 32 := Scalar.subi v151 c1_i32_81
  let c0_i32_82 : BitVec 32 := 0#32
  let v154 : BitVec 1 := Scalar.cmpi .sgt v152 c0_i32_82
  let v155 : BitVec 32 := Scalar.extui v154
  let c0_i32_83 : BitVec 32 := 0#32
  let v156 : BitVec 1 := Scalar.cmpi .slt v152 c0_i32_83
  let v157 : BitVec 32 := Scalar.extui v156
  let v158 : BitVec 32 := Scalar.subi v155 v157
  let c4_i32 : BitVec 32 := 4#32
  let c0_i32_84 : BitVec 32 := 0#32
  let v159 : BitVec 1 := Scalar.cmpi .sgt c4_i32 c0_i32_84
  let v160 : BitVec 32 := Scalar.extui v159
  let c0_i32_85 : BitVec 32 := 0#32
  let v161 : BitVec 1 := Scalar.cmpi .slt c4_i32 c0_i32_85
  let v162 : BitVec 32 := Scalar.extui v161
  let v163 : BitVec 32 := Scalar.subi v160 v162
  let v164 : BitVec 1 := Scalar.cmpi .ne v158 v163
  let v165 : BitVec 32 := Scalar.remsi v152 c4_i32
  let c0_i32_86 : BitVec 32 := 0#32
  let v166 : BitVec 1 := Scalar.cmpi .ne v165 c0_i32_86
  let v167 : BitVec 1 := Scalar.andi v164 v166
  let v153 : BitVec 32 := Scalar.divsi v152 c4_i32
  let c1_i32_87 : BitVec 32 := 1#32
  let v168 : BitVec 32 := Scalar.subi v153 c1_i32_87
  let v169 : BitVec 32 := Scalar.select v167 v168 v153
  let c0_i32_88 : BitVec 32 := 0#32
  let v170 : BitVec 32 := Scalar.maxsi v169 c0_i32_88
  let v176 : BitVec 32 := Scalar.muli c4_i32_94 v170
  let v177 : BitVec 32 := Scalar.addi c1_i32_95 v176
  let c3_i32_188 : BitVec 32 := 3#32
  let v324 : BitVec 32 := Scalar.addi v177 c3_i32_188
  let c512_i32_193 : BitVec 32 := 512#32
  let v335 : BitVec 32 := Scalar.muli v324 c512_i32_193
  v335
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c36_i32 : BitVec 32 := 36#32
  let v2 : BitVec 32 := Scalar.addi c36_i32 arg1
  let c0_i32 : BitVec 32 := 0#32
  ![arg0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi c60_i32 arg1
  let c0_i32 : BitVec 32 := 0#32
  ![arg0.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 2 → Memref sig .tc .vmem S1x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S4x8192x12288 : Shape := ⟨3, ![4, 8192, 12288]⟩
abbrev S1x64 : Shape := ⟨2, ![1, 64]⟩
abbrev S1x128 : Shape := ⟨2, ![1, 128]⟩
abbrev S4x8192x1024 : Shape := ⟨3, ![4, 8192, 1024]⟩
abbrev S8192 : Shape := ⟨1, ![8192]⟩
abbrev S4x8192x16x64 : Shape := ⟨4, ![4, 8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S4x8192x16x8 : Shape := ⟨4, ![4, 8192, 16, 8]⟩
abbrev S1x8192x1x8 : Shape := ⟨4, ![1, 8192, 1, 8]⟩
abbrev S4x8192x16x16 : Shape := ⟨4, ![4, 8192, 16, 16]⟩
abbrev S4x8192x16x48 : Shape := ⟨4, ![4, 8192, 16, 48]⟩
abbrev S4x8192x8x2x64 : Shape := ⟨5, ![4, 8192, 8, 2, 64]⟩
abbrev S4x8192x8x128 : Shape := ⟨4, ![4, 8192, 8, 128]⟩
abbrev S64 : Shape := ⟨1, ![64]⟩
abbrev S128 : Shape := ⟨1, ![128]⟩
abbrev S4x8x2x8192x8192 : Shape := ⟨5, ![4, 8, 2, 8192, 8192]⟩
abbrev S1x8192 : Shape := ⟨2, ![1, 8192]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 182
  | .vmem => 0
  | .smem => 0
  | _ => 0

abbrev hbmTy0_0 (i : Nat) : BufTy := match i % 128 with
  | 0 => ⟨S4x8192x12288, .bf16⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S4x8192x1024, .bf16⟩
  | 7 => ⟨S4x8192x1024, .f32⟩
  | 8 => ⟨S4x8192x1024, .bf16⟩
  | 9 => ⟨S4x8192x1024, .f32⟩
  | 10 => ⟨S4x8192x1024, .bf16⟩
  | 11 => ⟨S4x8192x1024, .f32⟩
  | 12 => ⟨S4x8192x1024, .bf16⟩
  | 13 => ⟨S4x8192x1024, .f32⟩
  | 14 => ⟨S8192, .i32⟩
  | 15 => ⟨S4x8192x16x64, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8192, .f32⟩
  | 27 => ⟨S8192x1, .f32⟩
  | 28 => ⟨S1x8, .f32⟩
  | 29 => ⟨S8192x8, .f32⟩
  | 30 => ⟨S8192x8, .f32⟩
  | 31 => ⟨S8192x8, .f32⟩
  | 32 => ⟨S8192x8, .f32⟩
  | 33 => ⟨S8192x1x8, .f32⟩
  | 34 => ⟨S8192x8, .f32⟩
  | 35 => ⟨S8192x1x8, .f32⟩
  | 36 => ⟨S4x8192x16x8, .f32⟩
  | 37 => ⟨S4x8192x16x8, .f32⟩
  | 38 => ⟨S1x8192x1x8, .f32⟩
  | 39 => ⟨S4x8192x16x8, .f32⟩
  | 40 => ⟨S4x8192x16x8, .f32⟩
  | 41 => ⟨S1x8192x1x8, .f32⟩
  | 42 => ⟨S4x8192x16x8, .f32⟩
  | 43 => ⟨S4x8192x16x8, .f32⟩
  | 44 => ⟨S4x8192x16x8, .f32⟩
  | 45 => ⟨S1x8192x1x8, .f32⟩
  | 46 => ⟨S4x8192x16x8, .f32⟩
  | 47 => ⟨S4x8192x16x8, .f32⟩
  | 48 => ⟨S1x8192x1x8, .f32⟩
  | 49 => ⟨S4x8192x16x8, .f32⟩
  | 50 => ⟨S4x8192x16x8, .f32⟩
  | 51 => ⟨S4x8192x16x8, .f32⟩
  | 52 => ⟨S4x8192x16x16, .f32⟩
  | 53 => ⟨S4x8192x16x48, .f32⟩
  | 54 => ⟨S4x8192x16x64, .f32⟩
  | 55 => ⟨S4x8192x8x2x64, .f32⟩
  | 56 => ⟨S4x8192x16x64, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8192, .f32⟩
  | 68 => ⟨S8192x1, .f32⟩
  | 69 => ⟨S1x8, .f32⟩
  | 70 => ⟨S8192x8, .f32⟩
  | 71 => ⟨S8192x8, .f32⟩
  | 72 => ⟨S8192x8, .f32⟩
  | 73 => ⟨S8192x8, .f32⟩
  | 74 => ⟨S8192x1x8, .f32⟩
  | 75 => ⟨S8192x8, .f32⟩
  | 76 => ⟨S8192x1x8, .f32⟩
  | 77 => ⟨S4x8192x16x8, .f32⟩
  | 78 => ⟨S4x8192x16x8, .f32⟩
  | 79 => ⟨S1x8192x1x8, .f32⟩
  | 80 => ⟨S4x8192x16x8, .f32⟩
  | 81 => ⟨S4x8192x16x8, .f32⟩
  | 82 => ⟨S1x8192x1x8, .f32⟩
  | 83 => ⟨S4x8192x16x8, .f32⟩
  | 84 => ⟨S4x8192x16x8, .f32⟩
  | 85 => ⟨S4x8192x16x8, .f32⟩
  | 86 => ⟨S1x8192x1x8, .f32⟩
  | 87 => ⟨S4x8192x16x8, .f32⟩
  | 88 => ⟨S4x8192x16x8, .f32⟩
  | 89 => ⟨S1x8192x1x8, .f32⟩
  | 90 => ⟨S4x8192x16x8, .f32⟩
  | 91 => ⟨S4x8192x16x8, .f32⟩
  | 92 => ⟨S4x8192x16x8, .f32⟩
  | 93 => ⟨S4x8192x16x16, .f32⟩
  | 94 => ⟨S4x8192x16x48, .f32⟩
  | 95 => ⟨S4x8192x16x64, .f32⟩
  | 96 => ⟨S4x8192x8x2x64, .f32⟩
  | 97 => ⟨S4x8192x8x128, .f32⟩
  | 98 => ⟨S64, .f32⟩
  | 99 => ⟨S64, .f32⟩
  | 100 => ⟨S64, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S128, .f32⟩
  | 114 => ⟨S8192, .i32⟩
  | 115 => ⟨S4x8x2x8192x8192, .f32⟩
  | 116 => ⟨S_, .f32⟩
  | 117 => ⟨S4x8x2x8192x8192, .f32⟩
  | 118 => ⟨S4x8x2x8192x8192, .f32⟩
  | 119 => ⟨S1x8192, .i32⟩
  | 120 => ⟨S8192x1, .i32⟩
  | 121 => ⟨S8192x8192, .i32⟩
  | 122 => ⟨S8192x8192, .i32⟩
  | 123 => ⟨S8192x8192, .i1⟩
  | 124 => ⟨S4x8x2x8192x8192, .i1⟩
  | 125 => ⟨S_, .f32⟩
  | 126 => ⟨S4x8x2x8192x8192, .f32⟩
  | 127 => ⟨S4x8x2x8192x8192, .f32⟩
  | _ => ⟨S4x8192x12288, .bf16⟩

abbrev hbmTy0_1 (i : Nat) : BufTy := match i % 128 with
  | 0 => ⟨S_, .f32⟩
  | 1 => ⟨S4x8x2x8192, .f32⟩
  | 2 => ⟨S_, .f32⟩
  | 3 => ⟨S4x8x2x8192, .f32⟩
  | 4 => ⟨S4x8x2x8192, .f32⟩
  | 5 => ⟨S4x8x2x8192x1, .f32⟩
  | 6 => ⟨S4x8x2x8192x8192, .f32⟩
  | 7 => ⟨S4x8x2x8192x8192, .f32⟩
  | 8 => ⟨S4x8x2x8192x8192, .f32⟩
  | 9 => ⟨S_, .f32⟩
  | 10 => ⟨S4x8x2x8192, .f32⟩
  | 11 => ⟨S4x8x2x8192x1, .f32⟩
  | 12 => ⟨S4x8x2x8192x8192, .f32⟩
  | 13 => ⟨S4x8x2x8192x8192, .f32⟩
  | 14 => ⟨S4x8x1x8192x8192, .f32⟩
  | 15 => ⟨S4x8x8192x8192, .f32⟩
  | 16 => ⟨S4x8x1x8192x8192, .f32⟩
  | 17 => ⟨S4x8x8192x8192, .f32⟩
  | 18 => ⟨S4x8x8192x8192, .f32⟩
  | 19 => ⟨S4x8x8192x8192, .f32⟩
  | 20 => ⟨S4x8x8192x8192, .f32⟩
  | 21 => ⟨S4x8x128x8192, .f32⟩
  | 22 => ⟨S4x8192x8x128, .f32⟩
  | 23 => ⟨S4x8192x8x128, .f32⟩
  | 24 => ⟨S_, .f32⟩
  | 25 => ⟨S4x8192x8, .f32⟩
  | 26 => ⟨S4x8192x8x1, .f32⟩
  | 27 => ⟨S_, .f32⟩
  | 28 => ⟨S4x8192x8x1, .f32⟩
  | 29 => ⟨S4x8192x8x1, .f32⟩
  | 30 => ⟨S_, .f32⟩
  | 31 => ⟨S4x8192x8x1, .f32⟩
  | 32 => ⟨S4x8192x8x1, .f32⟩
  | 33 => ⟨S4x8192x8x1, .f32⟩
  | 34 => ⟨S4x8192x8x128, .f32⟩
  | 35 => ⟨S4x8192x8x128, .f32⟩
  | 36 => ⟨S1x1x1x128, .f32⟩
  | 37 => ⟨S4x8192x8x128, .f32⟩
  | 38 => ⟨S4x8192x8x128, .f32⟩
  | 39 => ⟨S_, .f32⟩
  | 40 => ⟨S4x8192x8x128, .f32⟩
  | 41 => ⟨S4x8192x8x128, .f32⟩
  | 42 => ⟨S4x8192x1024, .f32⟩
  | 43 => ⟨S4x8192x1024, .f32⟩
  | 44 => ⟨S4x8192x1024, .f32⟩
  | 45 => ⟨S_, .f32⟩
  | 46 => ⟨S4x8192x1024, .f32⟩
  | 47 => ⟨S4x8192x1024, .f32⟩
  | 48 => ⟨S_, .f32⟩
  | 49 => ⟨S4x8192x1024, .f32⟩
  | 50 => ⟨S4x8192x1024, .f32⟩
  | 51 => ⟨S4x8192x1024, .f32⟩
  | 52 => ⟨S4x8192x1024, .f32⟩
  | 53 => ⟨S4x8192x1024, .bf16⟩
  | _ => ⟨S4x8192x12288, .bf16⟩

abbrev hbmTy (i : Nat) : BufTy := match i / 128 with
  | 0 => hbmTy0_0 i
  | 1 => hbmTy0_1 i
  | _ => ⟨S4x8192x12288, .bf16⟩

abbrev bufTy : (tb : Table) → Fin (tcTables nBuf tb) → BufTy
  | .hbm, ⟨i, _⟩ => hbmTy i
  | _, _ => ⟨S4x8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_5 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_6 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_7 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_8 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_9 : Ref sig .tc := ⟨.hbm, 125, rfl⟩
abbrev main_v109 : Ref sig .tc := ⟨.hbm, 126, rfl⟩
abbrev main_v110 : Ref sig .tc := ⟨.hbm, 127, rfl⟩
abbrev main_cst_10 : Ref sig .tc := ⟨.hbm, 128, rfl⟩
abbrev main_v111 : Ref sig .tc := ⟨.hbm, 129, rfl⟩
abbrev main_cst_11 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_12 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_cst_13 : Ref sig .tc := ⟨.hbm, 152, rfl⟩
abbrev main_v132 : Ref sig .tc := ⟨.hbm, 153, rfl⟩
abbrev main_v133 : Ref sig .tc := ⟨.hbm, 154, rfl⟩
abbrev main_cst_14 : Ref sig .tc := ⟨.hbm, 155, rfl⟩
abbrev main_v134 : Ref sig .tc := ⟨.hbm, 156, rfl⟩
abbrev main_v135 : Ref sig .tc := ⟨.hbm, 157, rfl⟩
abbrev main_cst_15 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_16 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_cst_17 : Ref sig .tc := ⟨.hbm, 173, rfl⟩
abbrev main_v149 : Ref sig .tc := ⟨.hbm, 174, rfl⟩
abbrev main_v150 : Ref sig .tc := ⟨.hbm, 175, rfl⟩
abbrev main_cst_18 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩

abbrev nD : Nat := 1
abbrev τ : Topo := Topo.v7x

variable {F : FTy → Type} [FloatOps F]
-- ==== Kernel2.lean ====
abbrev S4x8192x2048 : Shape := ⟨3, ![4, 8192, 2048]⟩
abbrev S4x2048 : Shape := ⟨2, ![4, 2048]⟩
abbrev S1x2048 : Shape := ⟨2, ![1, 2048]⟩
abbrev S1x2048x11800 : Shape := ⟨3, ![1, 2048, 11800]⟩
abbrev S32768x2048 : Shape := ⟨2, ![32768, 2048]⟩
abbrev S2048x11800 : Shape := ⟨2, ![2048, 11800]⟩
abbrev S2048 : Shape := ⟨1, ![2048]⟩
abbrev S4x1x2048 : Shape := ⟨3, ![4, 1, 2048]⟩
abbrev S_ : Shape := ⟨0, ![]⟩
abbrev S2048x116 : Shape := ⟨2, ![2048, 116]⟩
abbrev S2048x4096 : Shape := ⟨2, ![2048, 4096]⟩
abbrev S2048x12 : Shape := ⟨2, ![2048, 12]⟩
abbrev S2048x256 : Shape := ⟨2, ![2048, 256]⟩
abbrev S2048x4608 : Shape := ⟨2, ![2048, 4608]⟩
abbrev S32768x12288 : Shape := ⟨2, ![32768, 12288]⟩
abbrev S1024x2048 : Shape := ⟨2, ![1024, 2048]⟩
abbrev S1x1x2048 : Shape := ⟨3, ![1, 1, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048, .f32⟩
  | .hbm, ⟨3, _⟩ => ⟨S1x2048, .f32⟩
  | .hbm, ⟨4, _⟩ => ⟨S1x2048x11800, .f32⟩
  | .hbm, ⟨5, _⟩ => ⟨S32768x2048, .f32⟩
  | .hbm, ⟨6, _⟩ => ⟨S2048x11800, .f32⟩
  | .hbm, ⟨7, _⟩ => ⟨S2048x11800, .bf16⟩
  | .hbm, ⟨8, _⟩ => ⟨S2048, .f32⟩
  | .hbm, ⟨9, _⟩ => ⟨S1x2048, .f32⟩
  | .hbm, ⟨10, _⟩ => ⟨S4x1x2048, .f32⟩
  | .hbm, ⟨11, _⟩ => ⟨S4x1x2048, .f32⟩
  | .hbm, ⟨12, _⟩ => ⟨S_, .bf16⟩
  | .hbm, ⟨13, _⟩ => ⟨S2048x116, .bf16⟩
  | .hbm, ⟨14, _⟩ => ⟨S2048x4096, .bf16⟩
  | .hbm, ⟨15, _⟩ => ⟨S2048x12, .bf16⟩
  | .hbm, ⟨16, _⟩ => ⟨S2048x12, .bf16⟩
  | .hbm, ⟨17, _⟩ => ⟨S_, .bf16⟩
  | .hbm, ⟨18, _⟩ => ⟨S2048x256, .bf16⟩
  | .hbm, ⟨19, _⟩ => ⟨S2048x4608, .bf16⟩
  | .hbm, ⟨20, _⟩ => ⟨S32768x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S2048x1536, .bf16⟩
  | .local _ .vmem, ⟨10, _⟩ => ⟨S2048x1536, .bf16⟩
  | .local _ .vmem, ⟨11, _⟩ => ⟨S1024x1536, .bf16⟩
  | .local _ .vmem, ⟨12, _⟩ => ⟨S1024x1536, .bf16⟩
  | .local _ .vmem, ⟨13, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c3_i32 : BitVec 32 := 3#32
  let v3 : BitVec 1 := Scalar.cmpi .slt arg1 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c3_i32_2 : BitVec 32 := 3#32
  let v6 : BitVec 1 := Scalar.cmpi .sge arg1 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x8192x2048 : Shape := ⟨3, ![4, 8192, 2048]⟩
abbrev S4x2048 : Shape := ⟨2, ![4, 2048]⟩
abbrev S1x2048 : Shape := ⟨2, ![1, 2048]⟩
abbrev S1x2048x11800 : Shape := ⟨3, ![1, 2048, 11800]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x1x2048 : Shape := ⟨3, ![4, 1, 2048]⟩
abbrev S2048x11800 : Shape := ⟨2, ![2048, 11800]⟩
abbrev S4x8192x11800 : Shape := ⟨3, ![4, 8192, 11800]⟩
abbrev S4x8192x7680 : Shape := ⟨3, ![4, 8192, 7680]⟩
abbrev S4x8192x24 : Shape := ⟨3, ![4, 8192, 24]⟩
abbrev S4x8192x4096 : Shape := ⟨3, ![4, 8192, 4096]⟩
abbrev S4x8192x116 : Shape := ⟨3, ![4, 8192, 116]⟩
abbrev S4x8192x12 : Shape := ⟨3, ![4, 8192, 12]⟩
abbrev S4x8192x256 : Shape := ⟨3, ![4, 8192, 256]⟩
abbrev S4x8192x12288 : Shape := ⟨3, ![4, 8192, 12288]⟩
abbrev S32768x12288 : Shape := ⟨2, ![32768, 12288]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x2048, .f32⟩
  | .hbm, ⟨2, _⟩ => ⟨S4x2048, .f32⟩
  | .hbm, ⟨3, _⟩ => ⟨S1x2048, .f32⟩
  | .hbm, ⟨4, _⟩ => ⟨S1x2048x11800, .f32⟩
  | .hbm, ⟨5, _⟩ => ⟨S2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x8192x2048, .f32⟩
  | .hbm, ⟨27, _⟩ => ⟨S4x8192x2048, .f32⟩
  | .hbm, ⟨28, _⟩ => ⟨S4x1x2048, .f32⟩
  | .hbm, ⟨29, _⟩ => ⟨S4x8192x2048, .f32⟩
  | .hbm, ⟨30, _⟩ => ⟨S4x8192x2048, .f32⟩
  | .hbm, ⟨31, _⟩ => ⟨S2048x11800, .f32⟩
  | .hbm, ⟨32, _⟩ => ⟨S4x8192x11800, .f32⟩
  | .hbm, ⟨33, _⟩ => ⟨S4x8192x7680, .f32⟩
  | .hbm, ⟨34, _⟩ => ⟨S4x8192x24, .f32⟩
  | .hbm, ⟨35, _⟩ => ⟨S4x8192x4096, .f32⟩
  | .hbm, ⟨36, _⟩ => ⟨S_, .f32⟩
  | .hbm, ⟨37, _⟩ => ⟨S4x8192x116, .f32⟩
  | .hbm, ⟨38, _⟩ => ⟨S4x8192x12, .f32⟩
  | .hbm, ⟨39, _⟩ => ⟨S4x8192x12, .f32⟩
  | .hbm, ⟨40, _⟩ => ⟨S_, .f32⟩
  | .hbm, ⟨41, _⟩ => ⟨S4x8192x256, .f32⟩
  | .hbm, ⟨42, _⟩ => ⟨S4x8192x12288, .f32⟩
  | .hbm, ⟨43, _⟩ => ⟨S32768x12288, .f32⟩
  | .hbm, ⟨44, _⟩ => ⟨S32768x12288, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel3.lean ====
abbrev S4x8192x1024 : Shape := ⟨3, ![4, 8192, 1024]⟩
abbrev S32768x12288 : Shape := ⟨2, ![32768, 12288]⟩
abbrev S4x8192x2048 : Shape := ⟨3, ![4, 8192, 2048]⟩
abbrev S4x2048 : Shape := ⟨2, ![4, 2048]⟩
abbrev S1x2048x2048 : Shape := ⟨3, ![1, 2048, 2048]⟩
abbrev S2048 : Shape := ⟨1, ![2048]⟩
abbrev S32768x2048 : Shape := ⟨2, ![32768, 2048]⟩
abbrev S2048x2048 : Shape := ⟨2, ![2048, 2048]⟩
abbrev S32768x1024 : Shape := ⟨2, ![32768, 1024]⟩
abbrev S4x1x2048 : Shape := ⟨3, ![4, 1, 2048]⟩
abbrev S1024x2048 : Shape := ⟨2, ![1024, 2048]⟩
abbrev S1x2048 : Shape := ⟨2, ![1, 2048]⟩
abbrev S512x1024 : Shape := ⟨2, ![512, 1024]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x12288, .bf16⟩
  | .hbm, ⟨3, _⟩ => ⟨S4x8192x2048, .f32⟩
  | .hbm, ⟨4, _⟩ => ⟨S4x2048, .f32⟩
  | .hbm, ⟨5, _⟩ => ⟨S1x2048x2048, .f32⟩
  | .hbm, ⟨6, _⟩ => ⟨S1x2048x2048, .f32⟩
  | .hbm, ⟨7, _⟩ => ⟨S2048, .f32⟩
  | .hbm, ⟨8, _⟩ => ⟨S32768x2048, .f32⟩
  | .hbm, ⟨9, _⟩ => ⟨S2048x2048, .f32⟩
  | .hbm, ⟨10, _⟩ => ⟨S2048x2048, .bf16⟩
  | .hbm, ⟨11, _⟩ => ⟨S32768x1024, .bf16⟩
  | .hbm, ⟨12, _⟩ => ⟨S32768x1024, .bf16⟩
  | .hbm, ⟨13, _⟩ => ⟨S4x1x2048, .f32⟩
  | .hbm, ⟨14, _⟩ => ⟨S1024x2048, .bf16⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x1024 : Shape := ⟨3, ![4, 8192, 1024]⟩
abbrev S32768x12288 : Shape := ⟨2, ![32768, 12288]⟩
abbrev S4x8192x2048 : Shape := ⟨3, ![4, 8192, 2048]⟩
abbrev S4x2048 : Shape := ⟨2, ![4, 2048]⟩
abbrev S1x2048x2048 : Shape := ⟨3, ![1, 2048, 2048]⟩
abbrev S2048 : Shape := ⟨1, ![2048]⟩
abbrev S32768x4096 : Shape := ⟨2, ![32768, 4096]⟩
abbrev S_ : Shape := ⟨0, ![]⟩
abbrev S4x8192x4096 : Shape := ⟨3, ![4, 8192, 4096]⟩
abbrev S1x1024x2048 : Shape := ⟨3, ![1, 1024, 2048]⟩
abbrev S1024x2048 : Shape := ⟨2, ![1024, 2048]⟩
abbrev S2048x2048 : Shape := ⟨2, ![2048, 2048]⟩
abbrev S4x1x2048 : Shape := ⟨3, ![4, 1, 2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x12288, .bf16⟩
  | .hbm, ⟨3, _⟩ => ⟨S4x8192x2048, .f32⟩
  | .hbm, ⟨4, _⟩ => ⟨S4x2048, .f32⟩
  | .hbm, ⟨5, _⟩ => ⟨S1x2048x2048, .f32⟩
  | .hbm, ⟨6, _⟩ => ⟨S1x2048x2048, .f32⟩
  | .hbm, ⟨7, _⟩ => ⟨S2048, .f32⟩
  | .hbm, ⟨8, _⟩ => ⟨S32768x4096, .bf16⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S_, .f32⟩
  | .hbm, ⟨16, _⟩ => ⟨S32768x4096, .f32⟩
  | .hbm, ⟨17, _⟩ => ⟨S32768x4096, .f32⟩
  | .hbm, ⟨18, _⟩ => ⟨S4x8192x4096, .f32⟩
  | .hbm, ⟨19, _⟩ => ⟨S4x8192x1024, .f32⟩
  | .hbm, ⟨20, _⟩ => ⟨S1x1024x2048, .f32⟩
  | .hbm, ⟨21, _⟩ => ⟨S1024x2048, .f32⟩
  | .hbm, ⟨22, _⟩ => ⟨S4x8192x2048, .f32⟩
  | .hbm, ⟨23, _⟩ => ⟨S4x8192x1024, .f32⟩
  | .hbm, ⟨24, _⟩ => ⟨S1x1024x2048, .f32⟩
  | .hbm, ⟨25, _⟩ => ⟨S1024x2048, .f32⟩
  | .hbm, ⟨26, _⟩ => ⟨S4x8192x2048, .f32⟩
  | .hbm, ⟨27, _⟩ => ⟨S4x8192x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S2048x2048, .f32⟩
  | .hbm, ⟨33, _⟩ => ⟨S4x8192x2048, .f32⟩
  | .hbm, ⟨34, _⟩ => ⟨S4x1x2048, .f32⟩
  | .hbm, ⟨35, _⟩ => ⟨S4x8192x2048, .f32⟩
  | .hbm, ⟨36, _⟩ => ⟨S4x8192x2048, .f32⟩
  | .hbm, ⟨37, _⟩ => ⟨S4x8192x2048, .f32⟩
  | .hbm, ⟨38, _⟩ => ⟨S4x8192x2048, .f32⟩
  | .hbm, ⟨39, _⟩ => ⟨S_, .f32⟩
  | .hbm, ⟨40, _⟩ => ⟨S4x8192, .f32⟩
  | .hbm, ⟨41, _⟩ => ⟨S4x8192x1, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1, .f32⟩
  | .hbm, ⟨49, _⟩ => ⟨S4x8192x2048, .f32⟩
  | .hbm, ⟨50, _⟩ => ⟨S4x8192x2048, .f32⟩
  | .hbm, ⟨51, _⟩ => ⟨S1x1x2048, .f32⟩
  | .hbm, ⟨52, _⟩ => ⟨S4x8192x2048, .f32⟩
  | .hbm, ⟨53, _⟩ => ⟨S4x8192x2048, .f32⟩
  | .hbm, ⟨54, _⟩ => ⟨S32768x2048, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel4.lean ====
abbrev S4x2048 : Shape := ⟨2, ![4, 2048]⟩
abbrev S1x2048x6144 : Shape := ⟨3, ![1, 2048, 6144]⟩
abbrev S1x6144 : Shape := ⟨2, ![1, 6144]⟩
abbrev S_ : Shape := ⟨0, ![]⟩
abbrev S8x2048 : Shape := ⟨2, ![8, 2048]⟩
abbrev S2048x6144 : Shape := ⟨2, ![2048, 6144]⟩
abbrev S6144 : Shape := ⟨1, ![6144]⟩
abbrev S8x6144 : Shape := ⟨2, ![8, 6144]⟩
abbrev S2048x768 : Shape := ⟨2, ![2048, 768]⟩
abbrev S1x768 : Shape := ⟨2, ![1, 768]⟩
abbrev S8x768 : Shape := ⟨2, ![8, 768]⟩
abbrev S4x6144 : Shape := ⟨2, ![4, 6144]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S2048x6144, .f32⟩
  | .hbm, ⟨7, _⟩ => ⟨S6144, .f32⟩
  | .hbm, ⟨8, _⟩ => ⟨S1x6144, .f32⟩
  | .hbm, ⟨9, _⟩ => ⟨S8x6144, .f32⟩
  | .hbm, ⟨10, _⟩ => ⟨S4x6144, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S4x6144 : Shape := ⟨2, ![4, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x6144, .f32⟩
  | .hbm, ⟨2, _⟩ => ⟨S1x6144, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2048x6144, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S4x6144, .f32⟩
  | .hbm, ⟨17, _⟩ => ⟨S4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Words.lean ====
/- The offsets, conditions and trip counts of the attention body, in closed form over the query block's number. -/
module

public import proofs.«01_k».proof.Proof.Gen.KernelIdeal.Skeleton

@[expose] public section

set_option maxRecDepth 16384

noncomputable section

namespace Cert.KernelIdeal.Diff

open Idealize.ShloMosaic Cert.KernelIdeal Cert.KernelIdeal.Gen

/-- The point of the grid at batch 0, head 0 and query block `n`. -/
abbrev pt (n : Fin 16) : grid0.Coords := fun | 0 => (0 : Fin 4) | 1 => (0 : Fin 8) | 2 => n

/-- The first branch is taken at a row's first block. -/
theorem cond1_iff (i : grid0.Coords) : k0_cond1 i = 1#1 ↔ (i 2).val = 0 :=
  (by decide +kernel : ∀ n : Fin 16, k0_cond1 (pt n) = 1#1 ↔ n.val = 0) (i 2)

/-- The second branch is taken at every later block of a row. -/
theorem cond2_iff (i : grid0.Coords) : k0_cond2 i = 1#1 ↔ 0 < (i 2).val :=
  (by decide +kernel : ∀ n : Fin 16, k0_cond2 (pt n) = 1#1 ↔ 0 < n.val) (i 2)

/-- The keys are stored at the block's rows. -/
theorem off1_eq (i : grid0.Coords) : k0_off1 i = ![512 * (i 2).val, 0] :=
  (by decide +kernel : ∀ n : Fin 16, k0_off1 (pt n) = ![512 * n.val, 0]) (i 2)

/-- The next keys are read at the block's rows. -/
theorem off2_eq (i : grid0.Coords) : k0_off2 i = ![512 * (i 2).val, 0] :=
  (by decide +kernel : ∀ n : Fin 16, k0_off2 (pt n) = ![512 * n.val, 0]) (i 2)

/-- The unrolled loop runs once for every four earlier key blocks but the first. -/
theorem trips1 (i : grid0.Coords) : (k0_t1_loop i).trips = ((i 2).val - 1) / 4 :=
  (by decide +kernel : ∀ n : Fin 16, (k0_t1_loop (pt n)).trips = (n.val - 1) / 4) (i 2)

/-- The remainder loop never runs. -/
theorem trips2 (i : grid0.Coords) : (k0_t2_loop i).trips = 0 :=
  (by decide +kernel : ∀ n : Fin 16, (k0_t2_loop (pt n)).trips = 0) (i 2)

/-- The key rows that a trip of the loop reads. -/
theorem off3_eq (i : grid0.Coords) (k : Fin (k0_t1_loop i).trips) (r : Fin 4) :
    k0_off3 i k (BitVec.ofNat 32 r.val) = ![512 * (4 * k.val + r.val + 2), 0] :=
  (by decide +kernel : ∀ n : Fin 16, ∀ k : Fin (k0_t1_loop (pt n)).trips, ∀ r : Fin 4,
    k0_off3 (pt n) k (BitVec.ofNat 32 r.val) = ![512 * (4 * k.val + r.val + 2), 0]) (i 2) k r

/-- The value rows that a trip of the loop reads. -/
theorem off4_eq (i : grid0.Coords) (k : Fin (k0_t1_loop i).trips) (r : Fin 4) :
    k0_off4 i k (BitVec.ofNat 32 r.val) = ![0, 512 * (4 * k.val + r.val + 1), 0] :=
  (by decide +kernel : ∀ n : Fin 16, ∀ k : Fin (k0_t1_loop (pt n)).trips, ∀ r : Fin 4,
    k0_off4 (pt n) k (BitVec.ofNat 32 r.val) = ![0, 512 * (4 * k.val + r.val + 1), 0]) (i 2) k r

/-- The tail with one key block left. -/
theorem cond3_iff (i : grid0.Coords) (h : 0 < (i 2).val) : k0_cond3 i = 1#1 ↔ (i 2).val = 4 * (((i 2).val - 1) / 4) + 1 :=
  (by decide +kernel : ∀ n : Fin 16, 0 < n.val → (k0_cond3 (pt n) = 1#1 ↔ n.val = 4 * ((n.val - 1) / 4) + 1)) (i 2) h

/-- The tail with two key blocks left. -/
theorem cond4_iff (i : grid0.Coords) (h : 0 < (i 2).val) : k0_cond4 i = 1#1 ↔ (i 2).val = 4 * (((i 2).val - 1) / 4) + 2 :=
  (by decide +kernel : ∀ n : Fin 16, 0 < n.val → (k0_cond4 (pt n) = 1#1 ↔ n.val = 4 * ((n.val - 1) / 4) + 2)) (i 2) h

/-- The tail with three key blocks left. -/
theorem cond5_iff (i : grid0.Coords) (h : 0 < (i 2).val) : k0_cond5 i = 1#1 ↔ (i 2).val = 4 * (((i 2).val - 1) / 4) + 3 :=
  (by decide +kernel : ∀ n : Fin 16, 0 < n.val → (k0_cond5 (pt n) = 1#1 ↔ n.val = 4 * ((n.val - 1) / 4) + 3)) (i 2) h

/-- The tail with four key blocks left. -/
theorem cond6_iff (i : grid0.Coords) (h : 0 < (i 2).val) : k0_cond6 i = 1#1 ↔ (i 2).val = 4 * (((i 2).val - 1) / 4) + 4 :=
  (by decide +kernel : ∀ n : Fin 16, 0 < n.val → (k0_cond6 (pt n) = 1#1 ↔ n.val = 4 * ((n.val - 1) / 4) + 4)) (i 2) h

/-- The value rows of the tail of one. -/
theorem off7_eq (i : grid0.Coords) (h : 0 < (i 2).val) : k0_off7 i = ![0, 512 * (4 * (((i 2).val - 1) / 4) + 1), 0] :=
  (by decide +kernel : ∀ n : Fin 16, 0 < n.val → k0_off7 (pt n) = ![0, 512 * (4 * ((n.val - 1) / 4) + 1), 0]) (i 2) h

/-- The key rows of the tail of two. -/
theorem off8_eq (i : grid0.Coords) (h : 0 < (i 2).val) : k0_off8 i = ![512 * (4 * (((i 2).val - 1) / 4) + 2), 0] :=
  (by decide +kernel : ∀ n : Fin 16, 0 < n.val → k0_off8 (pt n) = ![512 * (4 * ((n.val - 1) / 4) + 2), 0]) (i 2) h

/-- The value rows of the tail of two. -/
theorem off9_eq (i : grid0.Coords) (h : 0 < (i 2).val) (r : Fin 4) : k0_off9 i (BitVec.ofNat 32 r.val) = ![0, 512 * (4 * (((i 2).val - 1) / 4) + r.val + 1), 0] :=
  (by decide +kernel : ∀ n : Fin 16, 0 < n.val → ∀ r : Fin 4, k0_off9 (pt n) (BitVec.ofNat 32 r.val) = ![0, 512 * (4 * ((n.val - 1) / 4) + r.val + 1), 0]) (i 2) h r

/-- The key rows of the tail of three. -/
theorem off10_eq (i : grid0.Coords) (h : 0 < (i 2).val) (r : Fin 4) : k0_off10 i (BitVec.ofNat 32 r.val) = ![512 * (4 * (((i 2).val - 1) / 4) + r.val + 2), 0] :=
  (by decide +kernel : ∀ n : Fin 16, 0 < n.val → ∀ r : Fin 4, k0_off10 (pt n) (BitVec.ofNat 32 r.val) = ![512 * (4 * ((n.val - 1) / 4) + r.val + 2), 0]) (i 2) h r

/-- The value rows of the tail of three. -/
theorem off11_eq (i : grid0.Coords) (h : 0 < (i 2).val) (r : Fin 4) : k0_off11 i (BitVec.ofNat 32 r.val) = ![0, 512 * (4 * (((i 2).val - 1) / 4) + r.val + 1), 0] :=
  (by decide +kernel : ∀ n : Fin 16, 0 < n.val → ∀ r : Fin 4, k0_off11 (pt n) (BitVec.ofNat 32 r.val) = ![0, 512 * (4 * ((n.val - 1) / 4) + r.val + 1), 0]) (i 2) h r

/-- The key rows of the tail of four. -/
theorem off12_eq (i : grid0.Coords) (h : 0 < (i 2).val) (r : Fin 4) : k0_off12 i (BitVec.ofNat 32 r.val) = ![512 * (4 * (((i 2).val - 1) / 4) + r.val + 2), 0] :=
  (by decide +kernel : ∀ n : Fin 16, 0 < n.val → ∀ r : Fin 4, k0_off12 (pt n) (BitVec.ofNat 32 r.val) = ![512 * (4 * ((n.val - 1) / 4) + r.val + 2), 0]) (i 2) h r

/-- The value rows of the tail of four. -/
theorem off13_eq (i : grid0.Coords) (h : 0 < (i 2).val) (r : Fin 4) : k0_off13 i (BitVec.ofNat 32 r.val) = ![0, 512 * (4 * (((i 2).val - 1) / 4) + r.val + 1), 0] :=
  (by decide +kernel : ∀ n : Fin 16, 0 < n.val → ∀ r : Fin 4, k0_off13 (pt n) (BitVec.ofNat 32 r.val) = ![0, 512 * (4 * ((n.val - 1) / 4) + r.val + 1), 0]) (i 2) h r

end Cert.KernelIdeal.Diff

end
-- ==== Proof.Vals.lean ====
/- What the attention body's steps compute, over whole blocks: the scores of a tile, the mask of the diagonal tile,
   the running maximum and the running sums, and the fold of these over a row's tiles. -/
module

public import proofs.«01_k».proof.Proof.Words
public import Idealize.ShloMosaic.Lib.VecWindow
public import Idealize.ShloMosaic.Lib.Pipeline.Value
public import Idealize.ShloMosaic.Lib.Pointwise

@[expose] public section

set_option maxRecDepth 16384

noncomputable section

namespace Cert.KernelIdeal.Diff

open Idealize.ShloMosaic Cert.KernelIdeal Cert.KernelIdeal.Gen

variable {F : FTy → Type} [FloatOps F] [Named F]

/-- The scores of the query block `q` against the key tile `k`. -/
abbrev scoreT (q : Vec F S1024x128 .bf16) (k : Vec F S512x128 .bf16) : Vec F S1024x512 .f32 := k0_pay16 q k
/-- The diagonal tile's scores with the keys after the query masked out. -/
abbrev maskT (s : Vec F S1024x512 .f32) : Vec F S1024x512 .f32 := k0_pay127 s k0_pay98 k0_pay99
/-- The running maximum after a tile's scores `s`. -/
abbrev updM (s : Vec F S1024x512 .f32) (m : Vec F S1024x128 .f32) : Vec F S1024x128 .f32 := k0_pay116 s m
/-- The running sums after a tile's scores `s` and values `v`. -/
abbrev updA (s : Vec F S1024x512 .f32) (v : Vec F S1x512x128 .bf16) (m : Vec F S1024x128 .f32) (a : Vec F S1024x256 .f32) : Vec F S1024x256 .f32 :=
  k0_pay115 s v m a
/-- The running maximum after the first tile. -/
abbrev firstM (s : Vec F S1024x512 .f32) : Vec F S1024x128 .f32 := k0_pay109 s
/-- The running sums after the first tile. -/
abbrev firstA (s : Vec F S1024x512 .f32) (v : Vec F S1x512x128 .bf16) : Vec F S1024x256 .f32 := k0_pay108 s v

/-- The running maximum and sums after tiles `0 … n`. -/
def st (s : ℕ → Vec F S1024x512 .f32) (v : ℕ → Vec F S1x512x128 .bf16) : ℕ → Vec F S1024x128 .f32 × Vec F S1024x256 .f32
  | 0 => (firstM (s 0), firstA (s 0) (v 0))
  | n + 1 => (updM (s (n + 1)) (st s v n).1, updA (s (n + 1)) (v (n + 1)) (st s v n).1 (st s v n).2)

/-- The fold reads only the tiles up to its count. -/
theorem st_congr {s s' : ℕ → Vec F S1024x512 .f32} (v : ℕ → Vec F S1x512x128 .bf16) (n : ℕ) (h : ∀ j ≤ n, s j = s' j) : st s v n = st s' v n := by
  induction n with
  | zero => simp only [st, h 0 le_rfl]
  | succ n ih => simp only [st, h (n + 1) le_rfl, ih fun j hj => h j (Nat.le_succ_of_le hj)]

/-- Tile `j` of the rotated keys. -/
def krT (x : Vec F S8192x128 .bf16) (j : ℕ) : Vec F S512x128 .bf16 :=
  fun y => x (ix2 (n0 := 8192) (n1 := 128) ⟨(512 * j + (y 0).val) % 8192, Nat.mod_lt _ (by decide)⟩ (y 1))
/-- Tile `j` of the values. -/
def vT (x : Vec F S1x8192x128 .bf16) (j : ℕ) : Vec F S1x512x128 .bf16 :=
  fun y => x (ix3 (n0 := 1) (n1 := 8192) (n2 := 128) (y 0) ⟨(512 * j + (y 1).val) % 8192, Nat.mod_lt _ (by decide)⟩ (y 2))

/-- The query block's two copies: the first component's lanes on top, the second's below. -/
def twoHalves (lo hi : Vec F S512x128 .bf16) : Vec F S1024x128 .bf16 :=
  fun y => if h : (y 0).val < 512 then lo (ix2 (n0 := 512) (n1 := 128) ⟨(y 0).val, h⟩ (y 1))
    else hi (ix2 (n0 := 512) (n1 := 128) ⟨(y 0).val - 512, by have h2 : (y 0).val < 1024 := (y 0).isLt; omega⟩ (y 1))

/-- The rotated, scaled and split query block. -/
def qsT (q : Vec F S1x512x128 .bf16) (c s1 s2 : Vec F S512x128 .f32) : Vec F S1024x128 .bf16 :=
  twoHalves (k0_pay105 q c s1 s2) (k0_pay106 q c s1 s2)
/-- The rotated key tile. -/
abbrev kT (k : Vec F S1x512x128 .bf16) (c s1 s2 : Vec F S512x128 .f32) : Vec F S512x128 .bf16 := k0_pay101 c s1 s2 k

/-- The block written: the two attentions' difference, normalised, scaled and gated. -/
def outT (a : Vec F S1024x256 .f32) (l1 l2 l3 l4 : Vec F S1x64 .f32) (g : Vec F S1x128 .f32) (z : Vec F S1x512x128 .bf16) : Vec F S1x512x128 .bf16 :=
  k0_pay1 (k0_pay131 a l1 l2 l3 l4) (k0_pay132 a l1 l2 l3 l4) (Scalar.ofBits .f32 0x358637BD#32) g z

/-! ### The printed steps are these. -/

/-- These scores are the products of queries and keys. -/
theorem e22 (q k) : k0_pay22 (F := F) q k = scoreT q k := rfl
/-- These scores are the products of queries and keys. -/
theorem e28 (q k) : k0_pay28 (F := F) q k = scoreT q k := rfl
/-- These scores are the products of queries and keys. -/
theorem e32 (q k) : k0_pay32 (F := F) q k = scoreT q k := rfl
/-- These scores are the products of queries and keys. -/
theorem e9 (q k) : k0_pay9 (F := F) q k = scoreT q k := rfl
/-- These scores are the products of queries and keys. -/
theorem e50 (q k) : k0_pay50 (F := F) q k = scoreT q k := rfl
/-- These scores are the products of queries and keys. -/
theorem e55 (q k) : k0_pay55 (F := F) q k = scoreT q k := rfl
/-- These scores are the products of queries and keys. -/
theorem e60 (q k) : k0_pay60 (F := F) q k = scoreT q k := rfl
/-- These scores are the products of queries and keys. -/
theorem e65 (q k) : k0_pay65 (F := F) q k = scoreT q k := rfl
/-- These scores are the products of queries and keys. -/
theorem e70 (q k) : k0_pay70 (F := F) q k = scoreT q k := rfl
/-- These scores are the products of queries and keys. -/
theorem e77 (q k) : k0_pay77 (F := F) q k = scoreT q k := rfl
/-- These scores are the products of queries and keys. -/
theorem e79 (q k) : k0_pay79 (F := F) q k = scoreT q k := rfl
/-- These scores are the products of queries and keys. -/
theorem e84 (q k) : k0_pay84 (F := F) q k = scoreT q k := rfl
/-- These scores are the products of queries and keys. -/
theorem e91 (q k) : k0_pay91 (F := F) q k = scoreT q k := rfl
/-- These scores are the products of queries and keys. -/
theorem e97 (q k) : k0_pay97 (F := F) q k = scoreT q k := rfl
/-- These scores are the products of queries and keys. -/
theorem e113 (q k) : k0_pay113 (F := F) q k = scoreT q k := rfl
/-- These scores are the products of queries and keys. -/
theorem e103 (q k) : k0_pay103 (F := F) (k0_pay102 q k) = scoreT q k := rfl

/-- This is the accumulator's update. -/
theorem e20 (s v m a) : k0_pay20 (F := F) (k0_pay18 s v m) (k0_pay19 s m) a = updA s v m a := rfl
/-- This is the maximum's update. -/
theorem e21 (s m) : k0_pay21 (F := F) (k0_pay17 s m) = updM s m := rfl
/-- This is the accumulator's update. -/
theorem e26 (s v m a) : k0_pay26 (F := F) s (k0_pay23 v) (k0_pay24 s m) (k0_pay25 s m) a = updA s v m a := rfl
/-- This is the maximum's update. -/
theorem e27 (s m) : k0_pay27 (F := F) (k0_pay24 s m) = updM s m := rfl
/-- This is the accumulator's update. -/
theorem e30 (s v m a) : k0_pay30 (F := F) s v m a = updA s v m a := rfl
/-- This is the maximum's update. -/
theorem e31 (s m) : k0_pay31 (F := F) s m = updM s m := rfl

/-- This is the accumulator's update by the masked scores. -/
theorem e120 (s v m a) : k0_pay120 (F := F) (k0_pay53 s v m) (k0_pay54 s m) a = updA (maskT s) v m a := rfl
/-- This is the maximum's update by the masked scores. -/
theorem e121 (s m) : k0_pay121 (F := F) (k0_pay52 s m) = updM (maskT s) m := rfl

/-- This is the accumulator's update. -/
theorem e58 (s v m a) : k0_pay58 (F := F) (k0_pay57 s v m a) = updA s v m a := rfl
/-- This is the maximum's update. -/
theorem e59 (s m) : k0_pay59 (F := F) (k0_pay56 s m) = updM s m := rfl
/-- This is the accumulator's update by the masked scores. -/
theorem e122 (s v m a) : k0_pay122 (F := F) (k0_pay61 s) (k0_pay62 v) (k0_pay63 s m) (k0_pay64 s m) a = updA (maskT s) v m a := rfl
/-- This is the maximum's update by the masked scores. -/
theorem e123 (s m) : k0_pay123 (F := F) (k0_pay63 s m) = updM (maskT s) m := rfl

/-- This is the accumulator's update. -/
theorem e68 (s v m a) : k0_pay68 (F := F) (k0_pay67 s v m a) = updA s v m a := rfl
/-- This is the maximum's update. -/
theorem e69 (s m) : k0_pay69 (F := F) (k0_pay66 s m) = updM s m := rfl
/-- This is the accumulator's update. -/
theorem e75 (s v m a) : k0_pay75 (F := F) (k0_pay71 v) (k0_pay73 s m) (k0_pay74 s m) (Scalar.ofBits .bf16 0x3F80#16) a = updA s v m a := rfl
/-- This is the maximum's update. -/
theorem e76 (s m) : k0_pay76 (F := F) (k0_pay72 s m) = updM s m := rfl
/-- This is the accumulator's update by the masked scores. -/
theorem e125 (s v m a) : k0_pay125 (F := F) (k0_pay78 s) v m a = updA (maskT s) v m a := rfl
/-- This is the maximum's update by the masked scores. -/
theorem e126 (s m) : k0_pay126 (F := F) (k0_pay78 s) m = updM (maskT s) m := rfl

/-- This is the accumulator's update. -/
theorem e82 (s v m a) : k0_pay82 (F := F) (k0_pay81 s v m a) = updA s v m a := rfl
/-- This is the maximum's update. -/
theorem e83 (s m) : k0_pay83 (F := F) (k0_pay80 s m) = updM s m := rfl
/-- This is the accumulator's update. -/
theorem e89 (s v m a) : k0_pay89 (F := F) (k0_pay85 v) (k0_pay87 s m) (k0_pay88 s m) (Scalar.ofBits .bf16 0x3F80#16) a = updA s v m a := rfl
/-- This is the maximum's update. -/
theorem e90 (s m) : k0_pay90 (F := F) (k0_pay86 s m) = updM s m := rfl
/-- This is the accumulator's update. -/
theorem e95 (s v m a) : k0_pay95 (F := F) s (k0_pay92 v) (k0_pay93 s) m a = updA s v m a := rfl
/-- This is the maximum's update. -/
theorem e96 (s m) : k0_pay96 (F := F) (k0_pay93 s) m = updM s m := rfl
/-- This is the accumulator's update by the masked scores. -/
theorem e129 (s v m a) : k0_pay129 (F := F) s k0_pay98 k0_pay99 v m a = updA (maskT s) v m a := rfl
/-- This is the maximum's update by the masked scores. -/
theorem e130 (s m) : k0_pay130 (F := F) s k0_pay98 k0_pay99 m = updM (maskT s) m := rfl

/-- This is the row's first accumulator. -/
theorem e111 (s v) : k0_pay111 (F := F) (k0_pay15 s) v = firstA (maskT s) v := rfl
/-- This is the row's first maximum. -/
theorem e112 (s) : k0_pay112 (F := F) (k0_pay15 s) = firstM (maskT s) := rfl
/-- The stored keys are the rotated keys. -/
theorem e2 (c s1 s2 k) : k0_pay2 (F := F) c s1 s2 k = kT k c s1 s2 := rfl
/-- These are the first component's rotated queries. -/
theorem e7 (q c s1 s2) : k0_pay7 (F := F) (k0_pay3 q) (k0_pay4 s2) (k0_pay5 q c s1) = k0_pay105 q c s1 s2 := rfl
/-- These are the second component's rotated queries. -/
theorem e8 (q c s1 s2) : k0_pay8 (F := F) (k0_pay3 q) (k0_pay4 s2) (k0_pay5 q c s1) = k0_pay106 q c s1 s2 := rfl
/-- These are the first component's rotated queries. -/
theorem e13 (q c s1 s2) : k0_pay13 (F := F) (k0_pay10 q) (k0_pay11 c) s1 s2 = k0_pay105 q c s1 s2 := rfl
/-- These are the second component's rotated queries. -/
theorem e14 (q c s1 s2) : k0_pay14 (F := F) (k0_pay10 q) (k0_pay11 c) s1 s2 = k0_pay106 q c s1 s2 := rfl
/-- The last queries' cast is the identity. -/
theorem e100 (q) : k0_pay100 (F := F) q = q := by
  show shapeCast S1024x128 q _ = q
  exact Idealize.ShloMosaic.shapeCast_self _ _

end Cert.KernelIdeal.Diff

end
-- ==== Proof.Mem.lean ====
/- What whole-block loads and stores of each buffer shape read. -/
module

public import proofs.«01_k».proof.Proof.Vals
public import Idealize.ShloMosaic.Lib.Exec
public import Idealize.ShloMosaic.Lib.Tactic
public import Idealize.ShloMosaic.Lib.Pipeline.Kit

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A load of the whole buffer reads its contents. -/
theorem rd_S1024x512_f32 (M : Memref sig .tc .vmem S1024x512 .f32) (f : BufTy.Contents (Elt F) M.view.ty) {off : Fin 2 → ℕ} (inb : ∀ a : Fin 2, off a + ![1024, 512] a ≤ S1024x512.size a) :
    M.view.readAt (Elt F) (Rect.unit (s := S1024x512) off ![1024, 512] inb).toLoadRect f = M.view.read (Elt F) f := View.readAt_full M.view f inb
/-- After a store of the whole buffer its contents are the stored block. -/
theorem rw_S1024x512_f32 (M : Memref sig .tc .vmem S1024x512 .f32) (f : BufTy.Contents (Elt F) M.view.ty) {off : Fin 2 → ℕ} (inb : ∀ a : Fin 2, off a + ![1024, 512] a ≤ S1024x512.size a)
    (w : (Rect.unit (s := S1024x512) off ![1024, 512] inb).shape.Idx → Elt F .f32) (L) :
    M.view.read (Elt F) (M.view.writes (Elt F) f (⟨Rect.unit (s := S1024x512) off ![1024, 512] inb, w⟩ :: L)) = w := View.read_writes_full M.view f inb w L
/-- A load of the whole buffer after a store of the whole buffer reads the stored block. -/
theorem rc_S1024x512_f32 (M : Memref sig .tc .vmem S1024x512 .f32) {off off' : Fin 2 → ℕ} (inb : ∀ a : Fin 2, off a + ![1024, 512] a ≤ S1024x512.size a) (inb' : ∀ a : Fin 2, off' a + ![1024, 512] a ≤ S1024x512.size a)
    (w : (Rect.unit (s := S1024x512) off' ![1024, 512] inb').shape.Idx → Elt F .f32) (L) :
    M.view.readCov (⟨Rect.unit (s := S1024x512) off' ![1024, 512] inb', w⟩ :: L) (Rect.unit (s := S1024x512) off ![1024, 512] inb).toLoadRect = w := View.readCov_full M.view inb inb' w L
/-- A load of the whole buffer reads its contents. -/
theorem rd_S1024x128_f32 (M : Memref sig .tc .vmem S1024x128 .f32) (f : BufTy.Contents (Elt F) M.view.ty) {off : Fin 2 → ℕ} (inb : ∀ a : Fin 2, off a + ![1024, 128] a ≤ S1024x128.size a) :
    M.view.readAt (Elt F) (Rect.unit (s := S1024x128) off ![1024, 128] inb).toLoadRect f = M.view.read (Elt F) f := View.readAt_full M.view f inb
/-- After a store of the whole buffer its contents are the stored block. -/
theorem rw_S1024x128_f32 (M : Memref sig .tc .vmem S1024x128 .f32) (f : BufTy.Contents (Elt F) M.view.ty) {off : Fin 2 → ℕ} (inb : ∀ a : Fin 2, off a + ![1024, 128] a ≤ S1024x128.size a)
    (w : (Rect.unit (s := S1024x128) off ![1024, 128] inb).shape.Idx → Elt F .f32) (L) :
    M.view.read (Elt F) (M.view.writes (Elt F) f (⟨Rect.unit (s := S1024x128) off ![1024, 128] inb, w⟩ :: L)) = w := View.read_writes_full M.view f inb w L
/-- A load of the whole buffer after a store of the whole buffer reads the stored block. -/
theorem rc_S1024x128_f32 (M : Memref sig .tc .vmem S1024x128 .f32) {off off' : Fin 2 → ℕ} (inb : ∀ a : Fin 2, off a + ![1024, 128] a ≤ S1024x128.size a) (inb' : ∀ a : Fin 2, off' a + ![1024, 128] a ≤ S1024x128.size a)
    (w : (Rect.unit (s := S1024x128) off' ![1024, 128] inb').shape.Idx → Elt F .f32) (L) :
    M.view.readCov (⟨Rect.unit (s := S1024x128) off' ![1024, 128] inb', w⟩ :: L) (Rect.unit (s := S1024x128) off ![1024, 128] inb).toLoadRect = w := View.readCov_full M.view inb inb' w L
/-- A load of the whole buffer reads its contents. -/
theorem rd_S1024x128_bf16 (M : Memref sig .tc .vmem S1024x128 .bf16) (f : BufTy.Contents (Elt F) M.view.ty) {off : Fin 2 → ℕ} (inb : ∀ a : Fin 2, off a + ![1024, 128] a ≤ S1024x128.size a) :
    M.view.readAt (Elt F) (Rect.unit (s := S1024x128) off ![1024, 128] inb).toLoadRect f = M.view.read (Elt F) f := View.readAt_full M.view f inb
/-- After a store of the whole buffer its contents are the stored block. -/
theorem rw_S1024x128_bf16 (M : Memref sig .tc .vmem S1024x128 .bf16) (f : BufTy.Contents (Elt F) M.view.ty) {off : Fin 2 → ℕ} (inb : ∀ a : Fin 2, off a + ![1024, 128] a ≤ S1024x128.size a)
    (w : (Rect.unit (s := S1024x128) off ![1024, 128] inb).shape.Idx → Elt F .bf16) (L) :
    M.view.read (Elt F) (M.view.writes (Elt F) f (⟨Rect.unit (s := S1024x128) off ![1024, 128] inb, w⟩ :: L)) = w := View.read_writes_full M.view f inb w L
/-- A load of the whole buffer after a store of the whole buffer reads the stored block. -/
theorem rc_S1024x128_bf16 (M : Memref sig .tc .vmem S1024x128 .bf16) {off off' : Fin 2 → ℕ} (inb : ∀ a : Fin 2, off a + ![1024, 128] a ≤ S1024x128.size a) (inb' : ∀ a : Fin 2, off' a + ![1024, 128] a ≤ S1024x128.size a)
    (w : (Rect.unit (s := S1024x128) off' ![1024, 128] inb').shape.Idx → Elt F .bf16) (L) :
    M.view.readCov (⟨Rect.unit (s := S1024x128) off' ![1024, 128] inb', w⟩ :: L) (Rect.unit (s := S1024x128) off ![1024, 128] inb).toLoadRect = w := View.readCov_full M.view inb inb' w L
/-- A load of the whole buffer reads its contents. -/
theorem rd_S1024x256_f32 (M : Memref sig .tc .vmem S1024x256 .f32) (f : BufTy.Contents (Elt F) M.view.ty) {off : Fin 2 → ℕ} (inb : ∀ a : Fin 2, off a + ![1024, 256] a ≤ S1024x256.size a) :
    M.view.readAt (Elt F) (Rect.unit (s := S1024x256) off ![1024, 256] inb).toLoadRect f = M.view.read (Elt F) f := View.readAt_full M.view f inb
/-- After a store of the whole buffer its contents are the stored block. -/
theorem rw_S1024x256_f32 (M : Memref sig .tc .vmem S1024x256 .f32) (f : BufTy.Contents (Elt F) M.view.ty) {off : Fin 2 → ℕ} (inb : ∀ a : Fin 2, off a + ![1024, 256] a ≤ S1024x256.size a)
    (w : (Rect.unit (s := S1024x256) off ![1024, 256] inb).shape.Idx → Elt F .f32) (L) :
    M.view.read (Elt F) (M.view.writes (Elt F) f (⟨Rect.unit (s := S1024x256) off ![1024, 256] inb, w⟩ :: L)) = w := View.read_writes_full M.view f inb w L
/-- A load of the whole buffer after a store of the whole buffer reads the stored block. -/
theorem rc_S1024x256_f32 (M : Memref sig .tc .vmem S1024x256 .f32) {off off' : Fin 2 → ℕ} (inb : ∀ a : Fin 2, off a + ![1024, 256] a ≤ S1024x256.size a) (inb' : ∀ a : Fin 2, off' a + ![1024, 256] a ≤ S1024x256.size a)
    (w : (Rect.unit (s := S1024x256) off' ![1024, 256] inb').shape.Idx → Elt F .f32) (L) :
    M.view.readCov (⟨Rect.unit (s := S1024x256) off' ![1024, 256] inb', w⟩ :: L) (Rect.unit (s := S1024x256) off ![1024, 256] inb).toLoadRect = w := View.readCov_full M.view inb inb' w L
/-- A load of the whole buffer reads its contents. -/
theorem rd_S1x512x128_bf16 (M : Memref sig .tc .vmem S1x512x128 .bf16) (f : BufTy.Contents (Elt F) M.view.ty) {off : Fin 3 → ℕ} (inb : ∀ a : Fin 3, off a + ![1, 512, 128] a ≤ S1x512x128.size a) :
    M.view.readAt (Elt F) (Rect.unit (s := S1x512x128) off ![1, 512, 128] inb).toLoadRect f = M.view.read (Elt F) f := View.readAt_full M.view f inb
/-- After a store of the whole buffer its contents are the stored block. -/
theorem rw_S1x512x128_bf16 (M : Memref sig .tc .vmem S1x512x128 .bf16) (f : BufTy.Contents (Elt F) M.view.ty) {off : Fin 3 → ℕ} (inb : ∀ a : Fin 3, off a + ![1, 512, 128] a ≤ S1x512x128.size a)
    (w : (Rect.unit (s := S1x512x128) off ![1, 512, 128] inb).shape.Idx → Elt F .bf16) (L) :
    M.view.read (Elt F) (M.view.writes (Elt F) f (⟨Rect.unit (s := S1x512x128) off ![1, 512, 128] inb, w⟩ :: L)) = w := View.read_writes_full M.view f inb w L
/-- A load of the whole buffer after a store of the whole buffer reads the stored block. -/
theorem rc_S1x512x128_bf16 (M : Memref sig .tc .vmem S1x512x128 .bf16) {off off' : Fin 3 → ℕ} (inb : ∀ a : Fin 3, off a + ![1, 512, 128] a ≤ S1x512x128.size a) (inb' : ∀ a : Fin 3, off' a + ![1, 512, 128] a ≤ S1x512x128.size a)
    (w : (Rect.unit (s := S1x512x128) off' ![1, 512, 128] inb').shape.Idx → Elt F .bf16) (L) :
    M.view.readCov (⟨Rect.unit (s := S1x512x128) off' ![1, 512, 128] inb', w⟩ :: L) (Rect.unit (s := S1x512x128) off ![1, 512, 128] inb).toLoadRect = w := View.readCov_full M.view inb inb' w L
/-- A load of the whole buffer reads its contents. -/
theorem rd_S512x128_f32 (M : Memref sig .tc .vmem S512x128 .f32) (f : BufTy.Contents (Elt F) M.view.ty) {off : Fin 2 → ℕ} (inb : ∀ a : Fin 2, off a + ![512, 128] a ≤ S512x128.size a) :
    M.view.readAt (Elt F) (Rect.unit (s := S512x128) off ![512, 128] inb).toLoadRect f = M.view.read (Elt F) f := View.readAt_full M.view f inb
/-- After a store of the whole buffer its contents are the stored block. -/
theorem rw_S512x128_f32 (M : Memref sig .tc .vmem S512x128 .f32) (f : BufTy.Contents (Elt F) M.view.ty) {off : Fin 2 → ℕ} (inb : ∀ a : Fin 2, off a + ![512, 128] a ≤ S512x128.size a)
    (w : (Rect.unit (s := S512x128) off ![512, 128] inb).shape.Idx → Elt F .f32) (L) :
    M.view.read (Elt F) (M.view.writes (Elt F) f (⟨Rect.unit (s := S512x128) off ![512, 128] inb, w⟩ :: L)) = w := View.read_writes_full M.view f inb w L
/-- A load of the whole buffer after a store of the whole buffer reads the stored block. -/
theorem rc_S512x128_f32 (M : Memref sig .tc .vmem S512x128 .f32) {off off' : Fin 2 → ℕ} (inb : ∀ a : Fin 2, off a + ![512, 128] a ≤ S512x128.size a) (inb' : ∀ a : Fin 2, off' a + ![512, 128] a ≤ S512x128.size a)
    (w : (Rect.unit (s := S512x128) off' ![512, 128] inb').shape.Idx → Elt F .f32) (L) :
    M.view.readCov (⟨Rect.unit (s := S512x128) off' ![512, 128] inb', w⟩ :: L) (Rect.unit (s := S512x128) off ![512, 128] inb).toLoadRect = w := View.readCov_full M.view inb inb' w L
/-- A load of the whole buffer reads its contents. -/
theorem rd_S1x64_f32 (M : Memref sig .tc .vmem S1x64 .f32) (f : BufTy.Contents (Elt F) M.view.ty) {off : Fin 2 → ℕ} (inb : ∀ a : Fin 2, off a + ![1, 64] a ≤ S1x64.size a) :
    M.view.readAt (Elt F) (Rect.unit (s := S1x64) off ![1, 64] inb).toLoadRect f = M.view.read (Elt F) f := View.readAt_full M.view f inb
/-- After a store of the whole buffer its contents are the stored block. -/
theorem rw_S1x64_f32 (M : Memref sig .tc .vmem S1x64 .f32) (f : BufTy.Contents (Elt F) M.view.ty) {off : Fin 2 → ℕ} (inb : ∀ a : Fin 2, off a + ![1, 64] a ≤ S1x64.size a)
    (w : (Rect.unit (s := S1x64) off ![1, 64] inb).shape.Idx → Elt F .f32) (L) :
    M.view.read (Elt F) (M.view.writes (Elt F) f (⟨Rect.unit (s := S1x64) off ![1, 64] inb, w⟩ :: L)) = w := View.read_writes_full M.view f inb w L
/-- A load of the whole buffer after a store of the whole buffer reads the stored block. -/
theorem rc_S1x64_f32 (M : Memref sig .tc .vmem S1x64 .f32) {off off' : Fin 2 → ℕ} (inb : ∀ a : Fin 2, off a + ![1, 64] a ≤ S1x64.size a) (inb' : ∀ a : Fin 2, off' a + ![1, 64] a ≤ S1x64.size a)
    (w : (Rect.unit (s := S1x64) off' ![1, 64] inb').shape.Idx → Elt F .f32) (L) :
    M.view.readCov (⟨Rect.unit (s := S1x64) off' ![1, 64] inb', w⟩ :: L) (Rect.unit (s := S1x64) off ![1, 64] inb).toLoadRect = w := View.readCov_full M.view inb inb' w L
/-- A load of the whole buffer reads its contents. -/
theorem rd_S1x128_f32 (M : Memref sig .tc .vmem S1x128 .f32) (f : BufTy.Contents (Elt F) M.view.ty) {off : Fin 2 → ℕ} (inb : ∀ a : Fin 2, off a + ![1, 128] a ≤ S1x128.size a) :
    M.view.readAt (Elt F) (Rect.unit (s := S1x128) off ![1, 128] inb).toLoadRect f = M.view.read (Elt F) f := View.readAt_full M.view f inb
/-- After a store of the whole buffer its contents are the stored block. -/
theorem rw_S1x128_f32 (M : Memref sig .tc .vmem S1x128 .f32) (f : BufTy.Contents (Elt F) M.view.ty) {off : Fin 2 → ℕ} (inb : ∀ a : Fin 2, off a + ![1, 128] a ≤ S1x128.size a)
    (w : (Rect.unit (s := S1x128) off ![1, 128] inb).shape.Idx → Elt F .f32) (L) :
    M.view.read (Elt F) (M.view.writes (Elt F) f (⟨Rect.unit (s := S1x128) off ![1, 128] inb, w⟩ :: L)) = w := View.read_writes_full M.view f inb w L
/-- A load of the whole buffer after a store of the whole buffer reads the stored block. -/
theorem rc_S1x128_f32 (M : Memref sig .tc .vmem S1x128 .f32) {off off' : Fin 2 → ℕ} (inb : ∀ a : Fin 2, off a + ![1, 128] a ≤ S1x128.size a) (inb' : ∀ a : Fin 2, off' a + ![1, 128] a ≤ S1x128.size a)
    (w : (Rect.unit (s := S1x128) off' ![1, 128] inb').shape.Idx → Elt F .f32) (L) :
    M.view.readCov (⟨Rect.unit (s := S1x128) off' ![1, 128] inb', w⟩ :: L) (Rect.unit (s := S1x128) off ![1, 128] inb).toLoadRect = w := View.readCov_full M.view inb inb' w L

/-- Reading tile `j` of the rotated keys at the offsets the program computes. -/
theorem readAt_krT (M : Memref sig .tc .vmem S8192x128 .bf16) (f : BufTy.Contents (Elt F) M.view.ty) {off : Fin 2 → ℕ}
    (inb : ∀ a, off a + S512x128.size a ≤ S8192x128.size a) (j : ℕ) (h : off = ![512 * j, 0]) :
    M.view.readAt (Elt F) (Rect.unit (s := S8192x128) off S512x128.size inb).toLoadRect f = krT (M.view.read (Elt F) f) j := by
  subst h
  rw [View.readAt_unit M.view f inb rfl inb]
  funext y
  have h0 := inb 0
  have hy : (y 0).val < 512 := (y 0).isLt
  unfold krT
  refine congrArg (M.view.read (Elt F) f) (funext fun a => Fin.ext ?_)
  have h1 : 512 * j + 512 ≤ 8192 := h0
  match a with
  | ⟨0, _⟩ => show 512 * j + 1 * (y 0).val = (512 * j + (y 0).val) % 8192; omega
  | ⟨1, _⟩ => show 0 + 1 * (y 1).val = (y 1).val; omega

/-- Reading tile `j` of the values at the offsets the program computes. -/
theorem readAt_vT (M : Memref sig .tc .vmem S1x8192x128 .bf16) (f : BufTy.Contents (Elt F) M.view.ty) {off : Fin 3 → ℕ}
    (inb : ∀ a, off a + S1x512x128.size a ≤ S1x8192x128.size a) (j : ℕ) (h : off = ![0, 512 * j, 0]) :
    M.view.readAt (Elt F) (Rect.unit (s := S1x8192x128) off S1x512x128.size inb).toLoadRect f = vT (M.view.read (Elt F) f) j := by
  subst h
  rw [View.readAt_unit M.view f inb rfl inb]
  funext y
  have h0 := inb 1
  have hy : (y 1).val < 512 := (y 1).isLt
  unfold vT
  refine congrArg (M.view.read (Elt F) f) (funext fun a => Fin.ext ?_)
  have h1 : 512 * j + 512 ≤ 8192 := h0
  match a with
  | ⟨0, _⟩ => show 0 + 1 * (y 0).val = (y 0).val; omega
  | ⟨1, _⟩ => show 512 * j + 1 * (y 1).val = (512 * j + (y 1).val) % 8192; omega
  | ⟨2, _⟩ => show 0 + 1 * (y 2).val = (y 2).val; omega

end Cert.KernelIdeal.Diff

end
-- ==== Proof.Trip.lean ====
/- One trip of the tile loop, and the loop: four tiles folded into the running maximum and sums. -/
module

public import proofs.«01_k».proof.Proof.Mem
public import Idealize.ShloMosaic.Lib.Exec
public import Idealize.ShloMosaic.Lib.Tactic
public import Idealize.ShloMosaic.Lib.Pipeline.Kit

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The scores of every tile, unmasked, from the query block and the rotated keys. -/
abbrev scores (q : Vec F S1024x128 .bf16) (kr : Vec F S8192x128 .bf16) : ℕ → Vec F S1024x512 .f32 := fun j => scoreT q (krT kr j)

/-- What the buffers hold before trip `k`: tiles `0 … 4k` are folded, and the next tile's scores stand ready. -/
def tripSt (c : Dev nD) (arg6 : Memref sig .tc .vmem S1x8192x128 .bf16) (arg20 : Memref sig .tc .vmem S1024x128 .bf16) (arg22 : Memref sig .tc .vmem S8192x128 .bf16) (arg23 : Memref sig .tc .vmem S1024x512 .f32) (arg24 : Memref sig .tc .vmem S1024x512 .f32) (arg26 : Memref sig .tc .vmem S1024x128 .f32) (arg27 : Memref sig .tc .vmem S1024x256 .f32) (f6 : BufTy.Contents (Elt F) arg6.view.ty) (f20 : BufTy.Contents (Elt F) arg20.view.ty) (f22 : BufTy.Contents (Elt F) arg22.view.ty) (k : ℕ) (_u : Unit) : sProp 𝕄 :=
  iprop(∃ (f23 : BufTy.Contents (Elt F) arg23.view.ty) (f24 : BufTy.Contents (Elt F) arg24.view.ty) (f26 : BufTy.Contents (Elt F) arg26.view.ty) (f27 : BufTy.Contents (Elt F) arg27.view.ty),
    (arg6.view.loc (c : Thread nD τ) ↦[arg6.view.set]{fullShare} f6) ∗ (arg20.view.loc (c : Thread nD τ) ↦[arg20.view.set]{fullShare} f20) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg26.view.loc (c : Thread nD τ) ↦[arg26.view.set]{fullShare} f26) ∗ (arg27.view.loc (c : Thread nD τ) ↦[arg27.view.set]{fullShare} f27)
    ∗ ⌜arg23.view.read (Elt F) f23 = scores (arg20.view.read (Elt F) f20) (arg22.view.read (Elt F) f22) (4 * k + 1)
      ∧ arg26.view.read (Elt F) f26 = (st (scores (arg20.view.read (Elt F) f20) (arg22.view.read (Elt F) f22)) (vT (arg6.view.read (Elt F) f6)) (4 * k)).1
      ∧ arg27.view.read (Elt F) f27 = (st (scores (arg20.view.read (Elt F) f20) (arg22.view.read (Elt F) f22)) (vT (arg6.view.read (Elt F) f6)) (4 * k)).2⌝)

/-- One trip folds four tiles. -/
theorem trip (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (k0_h2 : k0_cond2 i = 1#1)
    (f6 : BufTy.Contents (Elt F) arg6.view.ty) (f20 : BufTy.Contents (Elt F) arg20.view.ty) (f22 : BufTy.Contents (Elt F) arg22.view.ty) (k : Fin (k0_t1_loop i).trips) (u : Unit) :
    tripSt c arg6 arg20 arg22 arg23 arg24 arg26 arg27 f6 f20 f22 k.val u
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h2 k u)
          (fun u' => tripSt c arg6 arg20 arg22 arg23 arg24 arg26 arg27 f6 f20 f22 (k.val + 1) u') := by
  unfold k0_t1_body tripSt
  iintro ⟨%f23, %f24, %f26, %f27, H6, H20, H22, H23, H24, H26, H27, %h23, %h26, %h27⟩
  simp only [k0_part4_eq_skeleton, k0_part5_eq_skeleton, k0_part6_eq_skeleton, k0_part7_eq_skeleton]
  unfold k0_part4_skel k0_part5_skel k0_part6_skel k0_part7_skel
  sl_exec
  sl_step
  iexists _, _, _, _
  isplitl [H6]; · iexact H6
  isplitl [H20]; · iexact H20
  isplitl [H22]; · iexact H22
  isplitl [H23]; · iexact H23
  isplitl [H24]; · iexact H24
  isplitl [H26]; · iexact H26
  isplitl [H27]; · iexact H27
  ipureintro
  have k2 := fun inb => readAt_krT arg22 f22 (off := k0_off3 i k 0#32) inb (4 * k.val + 2) (off3_eq i k 0)
  have k3 := fun inb => readAt_krT arg22 f22 (off := k0_off3 i k 1#32) inb (4 * k.val + 3) (off3_eq i k 1)
  have k4 := fun inb => readAt_krT arg22 f22 (off := k0_off3 i k 2#32) inb (4 * k.val + 4) (off3_eq i k 2)
  have k5 := fun inb => readAt_krT arg22 f22 (off := k0_off3 i k 3#32) inb (4 * k.val + 5) (off3_eq i k 3)
  have v1 := fun inb => readAt_vT arg6 f6 (off := k0_off4 i k 0#32) inb (4 * k.val + 1) (off4_eq i k 0)
  have v2 := fun inb => readAt_vT arg6 f6 (off := k0_off4 i k 1#32) inb (4 * k.val + 2) (off4_eq i k 1)
  have v3 := fun inb => readAt_vT arg6 f6 (off := k0_off4 i k 2#32) inb (4 * k.val + 3) (off4_eq i k 2)
  have v4 := fun inb => readAt_vT arg6 f6 (off := k0_off4 i k 3#32) inb (4 * k.val + 4) (off4_eq i k 3)
  have e : 4 * (k.val + 1) = 4 * k.val + 1 + 1 + 1 + 1 := by omega
  repeat delta trip.sl.H23_1 trip.sl.H26_1 trip.sl.H24_1 trip.sl.H24_2 trip.sl.H26_2 trip.sl.H26_3 trip.sl.H27_1 trip.sl.H27_2 trip.sl.H27_3 trip.sl.v248 trip.sl.v256 trip.sl.v269 trip.sl.v290 trip.sl.v298 trip.sl.v311 trip.sl.v332 trip.sl.v340 trip.sl.v353
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32,
    k2, k3, k4, k5, v1, v2, v3, v4, e22, e28, e32, e9, e20, e21, e26, e27, e30, e31, h23, h26, h27, e, st]
  refine ⟨?_, ?_, ?_⟩ <;> first | trivial | rfl

end Cert.KernelIdeal.Diff

end
-- ==== Proof.Post.lean ====
/- What one point of the attention leaves, over the blocks it reads. -/
module

public import proofs.«01_k».proof.Proof.Trip
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The scores of query block `n`: the diagonal tile masked. -/
def mscores (n : ℕ) (q : Vec F S1024x128 .bf16) (kr : Vec F S8192x128 .bf16) : ℕ → Vec F S1024x512 .f32 :=
  fun j => if j = n then maskT (scores q kr j) else scores q kr j

/-- The fold over query block `m + 1`'s tiles: the plain fold to `m`, then the masked diagonal tile. -/
theorem st_mscores (m : ℕ) (q : Vec F S1024x128 .bf16) (kr : Vec F S8192x128 .bf16) (v : ℕ → Vec F S1x512x128 .bf16) :
    (st (mscores (m + 1) q kr) v (m + 1)).2
      = updA (maskT (scores q kr (m + 1))) (v (m + 1)) (st (scores q kr) v m).1 (st (scores q kr) v m).2 := by
  have e : st (mscores (m + 1) q kr) v m = st (scores q kr) v m := st_congr v m fun j hj => by
    unfold mscores; rw [if_neg (by omega)]
  show updA (mscores (m + 1) q kr (m + 1)) (v (m + 1)) (st (mscores (m + 1) q kr) v m).1 (st (mscores (m + 1) q kr) v m).2 = _
  rw [e]; unfold mscores; rw [if_pos rfl]

/-- What point `n` of a row leaves, when it starts from the split queries `Q` and the rotated keys `kr`. -/
def PointOut (n : ℕ) (Q : Vec F S1024x128 .bf16) (kr kr' : Vec F S8192x128 .bf16) (qn k : Vec F S1x512x128 .bf16) (v : Vec F S1x8192x128 .bf16) (z : Vec F S1x512x128 .bf16)
    (c s1 s2 c' s1' s2' : Vec F S512x128 .f32) (l1 l2 l3 l4 : Vec F S1x64 .f32) (g : Vec F S1x128 .f32)
    (out : Vec F S1x512x128 .bf16) (Q' : Vec F S1024x128 .bf16) (sc : Vec F S1024x512 .f32) : Prop :=
  (∀ j < 16, krT kr' j = if j = n then kT k c s1 s2 else krT kr j) ∧ Q' = qsT qn c' s1' s2' ∧ sc = scoreT Q' (krT kr' 0)
    ∧ out = outT (st (mscores n Q kr') (vT v) n).2 l1 l2 l3 l4 g z

/-- Storing tile `n` of the rotated keys leaves the other tiles. -/
theorem krT_store (M : Memref sig .tc .vmem S8192x128 .bf16) (f : BufTy.Contents (Elt F) M.view.ty) {off : Fin 2 → ℕ}
    (inb : ∀ a, off a + S512x128.size a ≤ S8192x128.size a) (n : ℕ) (hn : n < 16) (h : off = ![512 * n, 0])
    (w : (Rect.unit (s := S8192x128) off S512x128.size inb).shape.Idx → Elt F .bf16) (j : ℕ) (hj : j < 16) :
    krT (M.view.read (Elt F) (M.view.writes (Elt F) f [⟨Rect.unit (s := S8192x128) off S512x128.size inb, w⟩])) j = if j = n then w else krT (M.view.read (Elt F) f) j := by
  rw [View.read_writes_cons_put M.view f inb w [] h, View.writes_nil]
  funext y
  have hy : (y 0).val < 512 := (y 0).isLt
  have hy1 : (y 1).val < 128 := (y 1).isLt
  unfold krT VecWindow.put
  have e0 : (512 * j + (y 0).val) % 8192 = 512 * j + (y 0).val := by omega
  by_cases hjn : j = n
  · subst hjn
    rw [if_pos rfl, dif_pos]
    · refine congrArg w (funext fun a => Fin.ext ?_)
      match a with
      | ⟨0, _⟩ => show (512 * j + (y 0).val) % 8192 - 512 * j = (y 0).val; omega
      | ⟨1, _⟩ => show (y 1).val - 0 = (y 1).val; omega
    · intro a
      match a with
      | ⟨0, _⟩ => show 512 * j ≤ (512 * j + (y 0).val) % 8192 ∧ (512 * j + (y 0).val) % 8192 < 512 * j + 512; omega
      | ⟨1, _⟩ => show 0 ≤ (y 1).val ∧ (y 1).val < 0 + 128; omega
  · rw [if_neg hjn, dif_neg]
    intro hall
    have h2 : 512 * n ≤ (512 * j + (y 0).val) % 8192 ∧ (512 * j + (y 0).val) % 8192 < 512 * n + 512 := hall 0
    omega

/-- Storing the two halves of the split queries leaves both. -/
theorem read_halves (M : Memref sig .tc .vmem S1024x128 .bf16) (f : BufTy.Contents (Elt F) M.view.ty) {off off' : Fin 2 → ℕ}
    (inb : ∀ a : Fin 2, off a + ![512, 128] a ≤ S1024x128.size a) (inb' : ∀ a : Fin 2, off' a + ![512, 128] a ≤ S1024x128.size a)
    (h : off = ![0, 0]) (h' : off' = ![512, 0])
    (lo : (Rect.unit (s := S1024x128) off ![512, 128] inb).shape.Idx → Elt F .bf16) (hi : (Rect.unit (s := S1024x128) off' ![512, 128] inb').shape.Idx → Elt F .bf16) (L) :
    M.view.read (Elt F) (M.view.writes (Elt F) f (⟨Rect.unit (s := S1024x128) off' ![512, 128] inb', hi⟩ :: ⟨Rect.unit (s := S1024x128) off ![512, 128] inb, lo⟩ :: L)) = twoHalves lo hi := by
  rw [View.read_writes_cons_put M.view f inb' hi _ h', View.read_writes_cons_put M.view f inb lo _ h]
  funext y
  have hy : (y 0).val < 1024 := (y 0).isLt
  have hy1 : (y 1).val < 128 := (y 1).isLt
  unfold twoHalves VecWindow.put
  by_cases hlt : (y 0).val < 512
  · rw [dif_pos hlt, dif_neg, dif_pos]
    · refine congrArg lo (funext fun a => Fin.ext ?_)
      match a with
      | ⟨0, _⟩ => show (y 0).val - 0 = (y 0).val; omega
      | ⟨1, _⟩ => show (y 1).val - 0 = (y 1).val; omega
    · intro a
      match a with
      | ⟨0, _⟩ => show 0 ≤ (y 0).val ∧ (y 0).val < 0 + 512; omega
      | ⟨1, _⟩ => show 0 ≤ (y 1).val ∧ (y 1).val < 0 + 128; omega
    · intro hall
      have h2 : 512 ≤ (y 0).val ∧ (y 0).val < 512 + 512 := hall 0
      omega
  · rw [dif_neg hlt, dif_pos]
    · refine congrArg hi (funext fun a => Fin.ext ?_)
      match a with
      | ⟨0, _⟩ => show (y 0).val - 512 = (y 0).val - 512; rfl
      | ⟨1, _⟩ => show (y 1).val - 0 = (y 1).val; omega
    · intro a
      match a with
      | ⟨0, _⟩ => show 512 ≤ (y 0).val ∧ (y 0).val < 512 + 512; omega
      | ⟨1, _⟩ => show 0 ≤ (y 1).val ∧ (y 1).val < 0 + 128; omega

/-- A load of the whole buffer after its two halves are stored reads both. -/
theorem cov_halves (M : Memref sig .tc .vmem S1024x128 .bf16) {off off' o : Fin 2 → ℕ} (ib : ∀ a : Fin 2, o a + ![1024, 128] a ≤ S1024x128.size a)
    (inb : ∀ a : Fin 2, off a + ![512, 128] a ≤ S1024x128.size a) (inb' : ∀ a : Fin 2, off' a + ![512, 128] a ≤ S1024x128.size a)
    (h : off = ![0, 0]) (h' : off' = ![512, 0])
    (lo : (Rect.unit (s := S1024x128) off ![512, 128] inb).shape.Idx → Elt F .bf16) (hi : (Rect.unit (s := S1024x128) off' ![512, 128] inb').shape.Idx → Elt F .bf16) (L) :
    M.view.readCov (⟨Rect.unit (s := S1024x128) off' ![512, 128] inb', hi⟩ :: ⟨Rect.unit (s := S1024x128) off ![512, 128] inb, lo⟩ :: L) (Rect.unit (s := S1024x128) o ![1024, 128] ib).toLoadRect = twoHalves lo hi := by
  refine Eq.trans ?_ (read_halves M M.view.junk inb inb' h h' lo hi L)
  exact View.readAt_full M.view _ ib

/-- The buffers after point `n`: the inputs as they were, the output and the scratches as `PointOut` says. -/
def bodyPost (c : Dev nD) (arg3 : Memref sig .tc .vmem S1x512x128 .bf16) (arg4 : Memref sig .tc .vmem S1x512x128 .bf16) (arg5 : Memref sig .tc .vmem S1x512x128 .bf16) (arg6 : Memref sig .tc .vmem S1x8192x128 .bf16) (arg7 : Memref sig .tc .vmem S1x512x128 .bf16) (arg8 : Memref sig .tc .vmem S512x128 .f32) (arg9 : Memref sig .tc .vmem S512x128 .f32) (arg10 : Memref sig .tc .vmem S512x128 .f32) (arg11 : Memref sig .tc .vmem S512x128 .f32) (arg12 : Memref sig .tc .vmem S512x128 .f32) (arg13 : Memref sig .tc .vmem S512x128 .f32) (arg14 : Memref sig .tc .vmem S1x64 .f32) (arg15 : Memref sig .tc .vmem S1x64 .f32) (arg16 : Memref sig .tc .vmem S1x64 .f32) (arg17 : Memref sig .tc .vmem S1x64 .f32) (arg18 : Memref sig .tc .vmem S1x128 .f32) (arg19 : Memref sig .tc .vmem S1x512x128 .bf16) (arg20 : Memref sig .tc .vmem S1024x128 .bf16) (arg21 : Memref sig .tc .vmem S1024x128 .bf16) (arg22 : Memref sig .tc .vmem S8192x128 .bf16) (arg23 : Memref sig .tc .vmem S1024x512 .f32) (arg24 : Memref sig .tc .vmem S1024x512 .f32) (arg25 : Memref sig .tc .vmem S1024x512 .f32) (arg26 : Memref sig .tc .vmem S1024x128 .f32) (arg27 : Memref sig .tc .vmem S1024x256 .f32) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f22 : BufTy.Contents (Elt F) arg22.view.ty) (n : ℕ) (Q : Vec F S1024x128 .bf16) : sProp 𝕄 :=
  iprop(∃ (g19 : BufTy.Contents (Elt F) arg19.view.ty) (g20 : BufTy.Contents (Elt F) arg20.view.ty) (g21 : BufTy.Contents (Elt F) arg21.view.ty) (g22 : BufTy.Contents (Elt F) arg22.view.ty) (g23 : BufTy.Contents (Elt F) arg23.view.ty) (g24 : BufTy.Contents (Elt F) arg24.view.ty) (g25 : BufTy.Contents (Elt F) arg25.view.ty) (g26 : BufTy.Contents (Elt F) arg26.view.ty) (g27 : BufTy.Contents (Elt F) arg27.view.ty),
    (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (arg24.view.loc (c : Thread nD τ) ↦[arg24.view.set]{fullShare} g24) ∗ (arg25.view.loc (c : Thread nD τ) ↦[arg25.view.set]{fullShare} g25) ∗ (arg26.view.loc (c : Thread nD τ) ↦[arg26.view.set]{fullShare} g26) ∗ (arg27.view.loc (c : Thread nD τ) ↦[arg27.view.set]{fullShare} g27)
    ∗ ⌜PointOut n Q (arg22.view.read (Elt F) f22) (arg22.view.read (Elt F) g22) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12) (arg13.view.read (Elt F) f13) (arg14.view.read (Elt F) f14) (arg15.view.read (Elt F) f15) (arg16.view.read (Elt F) f16) (arg17.view.read (Elt F) f17) (arg18.view.read (Elt F) f18) (arg19.view.read (Elt F) g19) (arg21.view.read (Elt F) g21) (arg25.view.read (Elt F) g25)⌝)

end Cert.KernelIdeal.Diff

end
-- ==== Proof.Blocks.lean ====
/- What each window's block holds at a grid point, as a piece of its array. -/
module

public import proofs.«01_k».proof.Proof.Post
public import proofs.«01_k».proof.Proof.Gen.KernelIdeal.Frame

@[expose] public section

set_option maxRecDepth 16384
set_option maxHeartbeats 4000000

noncomputable section

namespace Cert.KernelIdeal.Diff

open Idealize.ShloMosaic Idealize.ShloMosaic.TcCoe
open Cert.KernelIdeal Cert.KernelIdeal.Gen

variable {F : FTy → Type} [FloatOps F] [Named F]

/-- Rows `512 n …` and columns `128 cb …` of batch `b` of the activations. -/
def pB (A : Vec F S4x8192x12288 .bf16) (b cb n : ℕ) : Vec F S1x512x128 .bf16 := fun y =>
  A (ix3 (n0 := 4) (n1 := 8192) (n2 := 12288) ⟨b % 4, Nat.mod_lt _ (by decide)⟩ ⟨(512 * n + (y 1).val) % 8192, Nat.mod_lt _ (by decide)⟩
    ⟨(128 * cb + (y 2).val) % 12288, Nat.mod_lt _ (by decide)⟩)
/-- Every row and columns `128 cb …` of batch `b` of the activations. -/
def vB (A : Vec F S4x8192x12288 .bf16) (b cb : ℕ) : Vec F S1x8192x128 .bf16 := fun y =>
  A (ix3 (n0 := 4) (n1 := 8192) (n2 := 12288) ⟨b % 4, Nat.mod_lt _ (by decide)⟩ (y 1)
    ⟨(128 * cb + (y 2).val) % 12288, Nat.mod_lt _ (by decide)⟩)
/-- Rows `512 n …` of a rotation table. -/
def tB (T : Vec F S8192x128 .f32) (n : ℕ) : Vec F S512x128 .f32 := fun y =>
  T (ix2 (n0 := 8192) (n1 := 128) ⟨(512 * n + (y 0).val) % 8192, Nat.mod_lt _ (by decide)⟩ (y 1))

/-! ### The block indices at point `t`: batch `t / 128`, head `t / 16 % 8`, query block `t % 16`. -/

/-- The block that window 0 is at. -/
theorem tr0 : ∀ t : Fin grid0.N, cc0_transform_0 (grid0.coords t) = ![t.val / 128, t.val % 16, 36 + t.val / 16 % 8] := by decide +kernel
/-- The block that window 1 is at. -/
theorem tr1 : ∀ t : Fin grid0.N, cc0_transform_1 (grid0.coords t) = ![t.val / 128, min (t.val % 16 + 1) 15, 36 + t.val / 16 % 8] := by decide +kernel
/-- The block that window 2 is at. -/
theorem tr2 : ∀ t : Fin grid0.N, cc0_transform_2 (grid0.coords t) = ![t.val / 128, t.val % 16, 44 + t.val / 16 % 8] := by decide +kernel
/-- The block that window 3 is at. -/
theorem tr3 : ∀ t : Fin grid0.N, cc0_transform_3 (grid0.coords t) = ![t.val / 128, 0, 52 + t.val / 16 % 8] := by decide +kernel
/-- The block that window 4 is at. -/
theorem tr4 : ∀ t : Fin grid0.N, cc0_transform_4 (grid0.coords t) = ![t.val / 128, t.val % 16, 60 + t.val / 16 % 8] := by decide +kernel
/-- The block that window 5 is at. -/
theorem tr5 : ∀ t : Fin grid0.N, cc0_transform_5 (grid0.coords t) = ![t.val % 16, 0] := by decide +kernel
/-- The block that window 6 is at. -/
theorem tr6 : ∀ t : Fin grid0.N, cc0_transform_6 (grid0.coords t) = ![t.val % 16, 0] := by decide +kernel
/-- The block that window 7 is at. -/
theorem tr7 : ∀ t : Fin grid0.N, cc0_transform_7 (grid0.coords t) = ![t.val % 16, 0] := by decide +kernel
/-- The block that window 8 is at. -/
theorem tr8 : ∀ t : Fin grid0.N, cc0_transform_8 (grid0.coords t) = ![min (t.val % 16 + 1) 15, 0] := by decide +kernel
/-- The block that window 9 is at. -/
theorem tr9 : ∀ t : Fin grid0.N, cc0_transform_9 (grid0.coords t) = ![min (t.val % 16 + 1) 15, 0] := by decide +kernel
/-- The block that window 10 is at. -/
theorem tr10 : ∀ t : Fin grid0.N, cc0_transform_10 (grid0.coords t) = ![min (t.val % 16 + 1) 15, 0] := by decide +kernel
/-- The block that window 16 is at. -/
theorem tr16 : ∀ t : Fin grid0.N, cc0_transform_16 (grid0.coords t) = ![t.val / 128, t.val % 16, t.val / 16 % 8] := by decide +kernel
/-- A point's block within its row. -/
theorem coord2 : ∀ t : Fin grid0.N, (grid0.coords t 2).val = t.val % 16 := by decide +kernel

variable (m : (ℓ : Loc nD τ sig) → Buf (Elt F) ℓ)

/-- Window 0 holds its query block. -/
theorem blk0 (c : Dev nD) (t : Fin cfg0.N) : iblk m c 0 t = pB (V m c main_arg0) (t.val / 128) (36 + t.val / 16 % 8) (t.val % 16) := by
  have ht : t.val < 512 := t.isLt
  unfold iblk pB
  funext y
  refine congrArg (V m c main_arg0) (funext fun a => Fin.ext ?_)
  have y1 : (y 1).val < 512 := (y 1).isLt
  have y2 : (y 2).val < 128 := (y 2).isLt
  have y0 : (y 0).val < 1 := (y 0).isLt
  have q : ∀ a : Fin 3, cc0_transform_0 (grid0.coords t) a = (![t.val / 128, t.val % 16, 36 + t.val / 16 % 8] : Fin 3 → ℕ) a := fun a => congrFun (tr0 t) a
  match a with
  | ⟨0, _⟩ => show cc0_transform_0 (grid0.coords t) 0 * 1 + 1 * (y 0).val = t.val / 128 % 4; rw [q 0]; show t.val / 128 * 1 + 1 * (y 0).val = _; omega
  | ⟨1, _⟩ => show cc0_transform_0 (grid0.coords t) 1 * 512 + 1 * (y 1).val = (512 * (t.val % 16) + (y 1).val) % 8192; rw [q 1]; show (t.val % 16) * 512 + 1 * (y 1).val = _; omega
  | ⟨2, _⟩ => show cc0_transform_0 (grid0.coords t) 2 * 128 + 1 * (y 2).val = _; rw [q 2]; show (36 + t.val / 16 % 8) * 128 + 1 * (y 2).val = (128 * (36 + t.val / 16 % 8) + (y 2).val) % 12288; omega

/-- Window 1 holds the next point's query block. -/
theorem blk1 (c : Dev nD) (t : Fin cfg0.N) : iblk m c 1 t = pB (V m c main_arg0) (t.val / 128) (36 + t.val / 16 % 8) (min (t.val % 16 + 1) 15) := by
  have ht : t.val < 512 := t.isLt
  unfold iblk pB
  funext y
  refine congrArg (V m c main_arg0) (funext fun a => Fin.ext ?_)
  have y1 : (y 1).val < 512 := (y 1).isLt
  have y2 : (y 2).val < 128 := (y 2).isLt
  have y0 : (y 0).val < 1 := (y 0).isLt
  have q : ∀ a : Fin 3, cc0_transform_1 (grid0.coords t) a = (![t.val / 128, min (t.val % 16 + 1) 15, 36 + t.val / 16 % 8] : Fin 3 → ℕ) a := fun a => congrFun (tr1 t) a
  match a with
  | ⟨0, _⟩ => show cc0_transform_1 (grid0.coords t) 0 * 1 + 1 * (y 0).val = t.val / 128 % 4; rw [q 0]; show t.val / 128 * 1 + 1 * (y 0).val = _; omega
  | ⟨1, _⟩ => show cc0_transform_1 (grid0.coords t) 1 * 512 + 1 * (y 1).val = (512 * (min (t.val % 16 + 1) 15) + (y 1).val) % 8192; rw [q 1]; show (min (t.val % 16 + 1) 15) * 512 + 1 * (y 1).val = _; omega
  | ⟨2, _⟩ => show cc0_transform_1 (grid0.coords t) 2 * 128 + 1 * (y 2).val = _; rw [q 2]; show (36 + t.val / 16 % 8) * 128 + 1 * (y 2).val = (128 * (36 + t.val / 16 % 8) + (y 2).val) % 12288; omega

/-- Window 2 holds its key block. -/
theorem blk2 (c : Dev nD) (t : Fin cfg0.N) : iblk m c 2 t = pB (V m c main_arg0) (t.val / 128) (44 + t.val / 16 % 8) (t.val % 16) := by
  have ht : t.val < 512 := t.isLt
  unfold iblk pB
  funext y
  refine congrArg (V m c main_arg0) (funext fun a => Fin.ext ?_)
  have y1 : (y 1).val < 512 := (y 1).isLt
  have y2 : (y 2).val < 128 := (y 2).isLt
  have y0 : (y 0).val < 1 := (y 0).isLt
  have q : ∀ a : Fin 3, cc0_transform_2 (grid0.coords t) a = (![t.val / 128, t.val % 16, 44 + t.val / 16 % 8] : Fin 3 → ℕ) a := fun a => congrFun (tr2 t) a
  match a with
  | ⟨0, _⟩ => show cc0_transform_2 (grid0.coords t) 0 * 1 + 1 * (y 0).val = t.val / 128 % 4; rw [q 0]; show t.val / 128 * 1 + 1 * (y 0).val = _; omega
  | ⟨1, _⟩ => show cc0_transform_2 (grid0.coords t) 1 * 512 + 1 * (y 1).val = (512 * (t.val % 16) + (y 1).val) % 8192; rw [q 1]; show (t.val % 16) * 512 + 1 * (y 1).val = _; omega
  | ⟨2, _⟩ => show cc0_transform_2 (grid0.coords t) 2 * 128 + 1 * (y 2).val = _; rw [q 2]; show (44 + t.val / 16 % 8) * 128 + 1 * (y 2).val = (128 * (44 + t.val / 16 % 8) + (y 2).val) % 12288; omega

/-- Window 3 holds a head's values, every row. -/
theorem blk3 (c : Dev nD) (t : Fin cfg0.N) : iblk m c 3 t = vB (V m c main_arg0) (t.val / 128) (52 + t.val / 16 % 8) := by
  have ht : t.val < 512 := t.isLt
  unfold iblk vB
  funext y
  refine congrArg (V m c main_arg0) (funext fun a => Fin.ext ?_)
  have y1 : (y 1).val < 8192 := (y 1).isLt
  have y2 : (y 2).val < 128 := (y 2).isLt
  have y0 : (y 0).val < 1 := (y 0).isLt
  have q : ∀ a : Fin 3, cc0_transform_3 (grid0.coords t) a = (![t.val / 128, 0, 52 + t.val / 16 % 8] : Fin 3 → ℕ) a := fun a => congrFun (tr3 t) a
  match a with
  | ⟨0, _⟩ => show cc0_transform_3 (grid0.coords t) 0 * 1 + 1 * (y 0).val = t.val / 128 % 4; rw [q 0]; show t.val / 128 * 1 + 1 * (y 0).val = _; omega
  | ⟨1, _⟩ => show cc0_transform_3 (grid0.coords t) 1 * 8192 + 1 * (y 1).val = (y 1).val; rw [q 1]; show 0 * 8192 + 1 * (y 1).val = _; omega
  | ⟨2, _⟩ => show cc0_transform_3 (grid0.coords t) 2 * 128 + 1 * (y 2).val = _; rw [q 2]; show (52 + t.val / 16 % 8) * 128 + 1 * (y 2).val = (128 * (52 + t.val / 16 % 8) + (y 2).val) % 12288; omega

/-- Window 4 holds its gate block. -/
theorem blk4 (c : Dev nD) (t : Fin cfg0.N) : iblk m c 4 t = pB (V m c main_arg0) (t.val / 128) (60 + t.val / 16 % 8) (t.val % 16) := by
  have ht : t.val < 512 := t.isLt
  unfold iblk pB
  funext y
  refine congrArg (V m c main_arg0) (funext fun a => Fin.ext ?_)
  have y1 : (y 1).val < 512 := (y 1).isLt
  have y2 : (y 2).val < 128 := (y 2).isLt
  have y0 : (y 0).val < 1 := (y 0).isLt
  have q : ∀ a : Fin 3, cc0_transform_4 (grid0.coords t) a = (![t.val / 128, t.val % 16, 60 + t.val / 16 % 8] : Fin 3 → ℕ) a := fun a => congrFun (tr4 t) a
  match a with
  | ⟨0, _⟩ => show cc0_transform_4 (grid0.coords t) 0 * 1 + 1 * (y 0).val = t.val / 128 % 4; rw [q 0]; show t.val / 128 * 1 + 1 * (y 0).val = _; omega
  | ⟨1, _⟩ => show cc0_transform_4 (grid0.coords t) 1 * 512 + 1 * (y 1).val = (512 * (t.val % 16) + (y 1).val) % 8192; rw [q 1]; show (t.val % 16) * 512 + 1 * (y 1).val = _; omega
  | ⟨2, _⟩ => show cc0_transform_4 (grid0.coords t) 2 * 128 + 1 * (y 2).val = _; rw [q 2]; show (60 + t.val / 16 % 8) * 128 + 1 * (y 2).val = (128 * (60 + t.val / 16 % 8) + (y 2).val) % 12288; omega

/-- Window 5 holds rows of a rotation table. -/
theorem blk5 (c : Dev nD) (t : Fin cfg0.N) : iblk m c 5 t = tB (V m c main_v26) (t.val % 16) := by
  have ht : t.val < 512 := t.isLt
  unfold iblk tB
  funext y
  refine congrArg (V m c main_v26) (funext fun a => Fin.ext ?_)
  have y1 : (y 1).val < 128 := (y 1).isLt
  have y0 : (y 0).val < 512 := (y 0).isLt
  have q : ∀ a : Fin 2, cc0_transform_5 (grid0.coords t) a = (![t.val % 16, 0] : Fin 2 → ℕ) a := fun a => congrFun (tr5 t) a
  match a with
  | ⟨0, _⟩ => show cc0_transform_5 (grid0.coords t) 0 * 512 + 1 * (y 0).val = (512 * (t.val % 16) + (y 0).val) % 8192; rw [q 0]; show (t.val % 16) * 512 + 1 * (y 0).val = _; omega
  | ⟨1, _⟩ => show cc0_transform_5 (grid0.coords t) 1 * 128 + 1 * (y 1).val = (y 1).val; rw [q 1]; show 0 * 128 + 1 * (y 1).val = _; omega

/-- Window 6 holds rows of a rotation table. -/
theorem blk6 (c : Dev nD) (t : Fin cfg0.N) : iblk m c 6 t = tB (V m c main_v29) (t.val % 16) := by
  have ht : t.val < 512 := t.isLt
  unfold iblk tB
  funext y
  refine congrArg (V m c main_v29) (funext fun a => Fin.ext ?_)
  have y1 : (y 1).val < 128 := (y 1).isLt
  have y0 : (y 0).val < 512 := (y 0).isLt
  have q : ∀ a : Fin 2, cc0_transform_6 (grid0.coords t) a = (![t.val % 16, 0] : Fin 2 → ℕ) a := fun a => congrFun (tr6 t) a
  match a with
  | ⟨0, _⟩ => show cc0_transform_6 (grid0.coords t) 0 * 512 + 1 * (y 0).val = (512 * (t.val % 16) + (y 0).val) % 8192; rw [q 0]; show (t.val % 16) * 512 + 1 * (y 0).val = _; omega
  | ⟨1, _⟩ => show cc0_transform_6 (grid0.coords t) 1 * 128 + 1 * (y 1).val = (y 1).val; rw [q 1]; show 0 * 128 + 1 * (y 1).val = _; omega

/-- Window 7 holds rows of a rotation table. -/
theorem blk7 (c : Dev nD) (t : Fin cfg0.N) : iblk m c 7 t = tB (V m c main_v32) (t.val % 16) := by
  have ht : t.val < 512 := t.isLt
  unfold iblk tB
  funext y
  refine congrArg (V m c main_v32) (funext fun a => Fin.ext ?_)
  have y1 : (y 1).val < 128 := (y 1).isLt
  have y0 : (y 0).val < 512 := (y 0).isLt
  have q : ∀ a : Fin 2, cc0_transform_7 (grid0.coords t) a = (![t.val % 16, 0] : Fin 2 → ℕ) a := fun a => congrFun (tr7 t) a
  match a with
  | ⟨0, _⟩ => show cc0_transform_7 (grid0.coords t) 0 * 512 + 1 * (y 0).val = (512 * (t.val % 16) + (y 0).val) % 8192; rw [q 0]; show (t.val % 16) * 512 + 1 * (y 0).val = _; omega
  | ⟨1, _⟩ => show cc0_transform_7 (grid0.coords t) 1 * 128 + 1 * (y 1).val = (y 1).val; rw [q 1]; show 0 * 128 + 1 * (y 1).val = _; omega

/-- Window 8 holds rows of a rotation table. -/
theorem blk8 (c : Dev nD) (t : Fin cfg0.N) : iblk m c 8 t = tB (V m c main_v26) (min (t.val % 16 + 1) 15) := by
  have ht : t.val < 512 := t.isLt
  unfold iblk tB
  funext y
  refine congrArg (V m c main_v26) (funext fun a => Fin.ext ?_)
  have y1 : (y 1).val < 128 := (y 1).isLt
  have y0 : (y 0).val < 512 := (y 0).isLt
  have q : ∀ a : Fin 2, cc0_transform_8 (grid0.coords t) a = (![min (t.val % 16 + 1) 15, 0] : Fin 2 → ℕ) a := fun a => congrFun (tr8 t) a
  match a with
  | ⟨0, _⟩ => show cc0_transform_8 (grid0.coords t) 0 * 512 + 1 * (y 0).val = (512 * (min (t.val % 16 + 1) 15) + (y 0).val) % 8192; rw [q 0]; show (min (t.val % 16 + 1) 15) * 512 + 1 * (y 0).val = _; omega
  | ⟨1, _⟩ => show cc0_transform_8 (grid0.coords t) 1 * 128 + 1 * (y 1).val = (y 1).val; rw [q 1]; show 0 * 128 + 1 * (y 1).val = _; omega

/-- Window 9 holds rows of a rotation table. -/
theorem blk9 (c : Dev nD) (t : Fin cfg0.N) : iblk m c 9 t = tB (V m c main_v29) (min (t.val % 16 + 1) 15) := by
  have ht : t.val < 512 := t.isLt
  unfold iblk tB
  funext y
  refine congrArg (V m c main_v29) (funext fun a => Fin.ext ?_)
  have y1 : (y 1).val < 128 := (y 1).isLt
  have y0 : (y 0).val < 512 := (y 0).isLt
  have q : ∀ a : Fin 2, cc0_transform_9 (grid0.coords t) a = (![min (t.val % 16 + 1) 15, 0] : Fin 2 → ℕ) a := fun a => congrFun (tr9 t) a
  match a with
  | ⟨0, _⟩ => show cc0_transform_9 (grid0.coords t) 0 * 512 + 1 * (y 0).val = (512 * (min (t.val % 16 + 1) 15) + (y 0).val) % 8192; rw [q 0]; show (min (t.val % 16 + 1) 15) * 512 + 1 * (y 0).val = _; omega
  | ⟨1, _⟩ => show cc0_transform_9 (grid0.coords t) 1 * 128 + 1 * (y 1).val = (y 1).val; rw [q 1]; show 0 * 128 + 1 * (y 1).val = _; omega

/-- Window 10 holds rows of a rotation table. -/
theorem blk10 (c : Dev nD) (t : Fin cfg0.N) : iblk m c 10 t = tB (V m c main_v32) (min (t.val % 16 + 1) 15) := by
  have ht : t.val < 512 := t.isLt
  unfold iblk tB
  funext y
  refine congrArg (V m c main_v32) (funext fun a => Fin.ext ?_)
  have y1 : (y 1).val < 128 := (y 1).isLt
  have y0 : (y 0).val < 512 := (y 0).isLt
  have q : ∀ a : Fin 2, cc0_transform_10 (grid0.coords t) a = (![min (t.val % 16 + 1) 15, 0] : Fin 2 → ℕ) a := fun a => congrFun (tr10 t) a
  match a with
  | ⟨0, _⟩ => show cc0_transform_10 (grid0.coords t) 0 * 512 + 1 * (y 0).val = (512 * (min (t.val % 16 + 1) 15) + (y 0).val) % 8192; rw [q 0]; show (min (t.val % 16 + 1) 15) * 512 + 1 * (y 0).val = _; omega
  | ⟨1, _⟩ => show cc0_transform_10 (grid0.coords t) 1 * 128 + 1 * (y 1).val = (y 1).val; rw [q 1]; show 0 * 128 + 1 * (y 1).val = _; omega

/-- Window 11 holds all of its array. -/
theorem blk11 (c : Dev nD) (t : Fin cfg0.N) : iblk m c 11 t = V m c main_arg1 := by
  unfold iblk
  funext y
  refine congrArg (V m c main_arg1) (funext fun a => Fin.ext ?_)
  match a with
  | ⟨0, _⟩ => show 0 * 1 + 1 * (y 0).val = (y 0).val; omega
  | ⟨1, _⟩ => show 0 * _ + 1 * (y 1).val = (y 1).val; omega

/-- Window 12 holds all of its array. -/
theorem blk12 (c : Dev nD) (t : Fin cfg0.N) : iblk m c 12 t = V m c main_arg2 := by
  unfold iblk
  funext y
  refine congrArg (V m c main_arg2) (funext fun a => Fin.ext ?_)
  match a with
  | ⟨0, _⟩ => show 0 * 1 + 1 * (y 0).val = (y 0).val; omega
  | ⟨1, _⟩ => show 0 * _ + 1 * (y 1).val = (y 1).val; omega

/-- Window 13 holds all of its array. -/
theorem blk13 (c : Dev nD) (t : Fin cfg0.N) : iblk m c 13 t = V m c main_arg3 := by
  unfold iblk
  funext y
  refine congrArg (V m c main_arg3) (funext fun a => Fin.ext ?_)
  match a with
  | ⟨0, _⟩ => show 0 * 1 + 1 * (y 0).val = (y 0).val; omega
  | ⟨1, _⟩ => show 0 * _ + 1 * (y 1).val = (y 1).val; omega

/-- Window 14 holds all of its array. -/
theorem blk14 (c : Dev nD) (t : Fin cfg0.N) : iblk m c 14 t = V m c main_arg4 := by
  unfold iblk
  funext y
  refine congrArg (V m c main_arg4) (funext fun a => Fin.ext ?_)
  match a with
  | ⟨0, _⟩ => show 0 * 1 + 1 * (y 0).val = (y 0).val; omega
  | ⟨1, _⟩ => show 0 * _ + 1 * (y 1).val = (y 1).val; omega

/-- Window 15 holds all of its array. -/
theorem blk15 (c : Dev nD) (t : Fin cfg0.N) : iblk m c 15 t = V m c main_arg5 := by
  unfold iblk
  funext y
  refine congrArg (V m c main_arg5) (funext fun a => Fin.ext ?_)
  match a with
  | ⟨0, _⟩ => show 0 * 1 + 1 * (y 0).val = (y 0).val; omega
  | ⟨1, _⟩ => show 0 * _ + 1 * (y 1).val = (y 1).val; omega

end Cert.KernelIdeal.Diff

end
-- ==== Proof.Track.lean ====
/- What the scratches hold from point to point of a row, and what each point writes. -/
module

public import proofs.«01_k».proof.Proof.Blocks

@[expose] public section

set_option maxRecDepth 16384
set_option maxHeartbeats 4000000

noncomputable section

namespace Cert.KernelIdeal.Diff

open Idealize.ShloMosaic Idealize.ShloMosaic.TcCoe
open Cert.KernelIdeal Cert.KernelIdeal.Gen

variable {F : FTy → Type} [FloatOps F] [Named F]

/-- The arrays the kernel reads: activations, rotation tables, the four lambda vectors, the norm's weights. -/
structure Arrs (F : FTy → Type) [FloatOps F] where
  p : Vec F S4x8192x12288 .bf16
  c : Vec F S8192x128 .f32
  s1 : Vec F S8192x128 .f32
  s2 : Vec F S8192x128 .f32
  l1 : Vec F S1x64 .f32
  l2 : Vec F S1x64 .f32
  l3 : Vec F S1x64 .f32
  l4 : Vec F S1x64 .f32
  g : Vec F S1x128 .f32

variable (X : Arrs F)

/-- The split query block of batch `b`, head `h`, block `n`. -/
def qAt (b h n : ℕ) : Vec F S1024x128 .bf16 := qsT (pB X.p b (36 + h) n) (tB X.c n) (tB X.s1 n) (tB X.s2 n)
/-- Key tile `j` of batch `b`, head `h`, rotated. -/
def kAt (b h j : ℕ) : Vec F S512x128 .bf16 := kT (pB X.p b (44 + h) j) (tB X.c j) (tB X.s1 j) (tB X.s2 j)
/-- The scores of query block `n` against key tile `j`, the diagonal tile masked. -/
def sAt (b h n j : ℕ) : Vec F S1024x512 .f32 :=
  if j = n then maskT (scoreT (qAt X b h n) (kAt X b h j)) else scoreT (qAt X b h n) (kAt X b h j)
/-- The block written at batch `b`, head `h`, query block `n`. -/
def oAt (b h n : ℕ) : Vec F S1x512x128 .bf16 :=
  outT (st (sAt X b h n) (vT (vB X.p b (52 + h))) n).2 X.l1 X.l2 X.l3 X.l4 X.g (pB X.p b (60 + h) n)

/-- What the scratches hold before point `k`: within a row, the point's queries, the earlier keys and its first scores. -/
def Track (k : ℕ) (Q : Vec F S1024x128 .bf16) (kr : Vec F S8192x128 .bf16) (sc : Vec F S1024x512 .f32) : Prop :=
  k % 16 ≠ 0 → Q = qAt X (k / 128) (k / 16 % 8) (k % 16) ∧ (∀ j < k % 16, krT kr j = kAt X (k / 128) (k / 16 % 8) j) ∧ sc = scoreT Q (krT kr 0)

/-- A point that starts from the tracked scratches writes its block and leaves the scratches tracked. -/
theorem track_step (k : ℕ) {Q Q' : Vec F S1024x128 .bf16} {kr kr' : Vec F S8192x128 .bf16} {sc' : Vec F S1024x512 .f32} {out : Vec F S1x512x128 .bf16}
    (hQ : Q = qAt X (k / 128) (k / 16 % 8) (k % 16))
    (hk : ∀ j < k % 16, krT kr j = kAt X (k / 128) (k / 16 % 8) j)
    (h : PointOut (k % 16) Q kr kr' (pB X.p (k / 128) (36 + k / 16 % 8) (min (k % 16 + 1) 15)) (pB X.p (k / 128) (44 + k / 16 % 8) (k % 16))
      (vB X.p (k / 128) (52 + k / 16 % 8)) (pB X.p (k / 128) (60 + k / 16 % 8) (k % 16)) (tB X.c (k % 16)) (tB X.s1 (k % 16)) (tB X.s2 (k % 16))
      (tB X.c (min (k % 16 + 1) 15)) (tB X.s1 (min (k % 16 + 1) 15)) (tB X.s2 (min (k % 16 + 1) 15)) X.l1 X.l2 X.l3 X.l4 X.g out Q' sc') :
    out = oAt X (k / 128) (k / 16 % 8) (k % 16) ∧ Track X (k + 1) Q' kr' sc' := by
  obtain ⟨hkr, hQ', hsc, ho⟩ := h
  have hn : k % 16 < 16 := Nat.mod_lt _ (by decide)
  have hj : ∀ j ≤ k % 16, krT kr' j = kAt X (k / 128) (k / 16 % 8) j := fun j hj => by
    rw [hkr j (by omega)]
    by_cases e : j = k % 16
    · rw [if_pos e, e]; rfl
    · rw [if_neg e]; exact hk j (by omega)
  refine ⟨?_, fun hne => ?_⟩
  · rw [ho]; unfold oAt
    rw [st_congr (s' := sAt X (k / 128) (k / 16 % 8) (k % 16)) _ _ fun j hle => ?_]
    unfold mscores sAt scores
    rw [hj j hle, hQ]
  · have e1 : (k + 1) / 128 = k / 128 := by omega
    have e2 : (k + 1) / 16 % 8 = k / 16 % 8 := by omega
    have e3 : (k + 1) % 16 = k % 16 + 1 := by omega
    have e4 : min (k % 16 + 1) 15 = k % 16 + 1 := by omega
    rw [e1, e2, e3]
    rw [e4] at hQ'
    exact ⟨hQ', fun j hlt => hj j (by omega), hsc⟩

end Cert.KernelIdeal.Diff

end
-- ==== Proof.First.lean ====
/- The first point of a row: nothing is carried into it. -/
module

public import proofs.«01_k».proof.Proof.Post
public import Idealize.ShloMosaic.Lib.Exec
public import Idealize.ShloMosaic.Lib.Tactic
public import Idealize.ShloMosaic.Lib.Pipeline.Kit

@[expose] public section

set_option maxRecDepth 16384

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The first point of a row, from any scratch contents. -/
theorem body_first (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (hi : (i 2).val = 0)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 0 (qsT (arg3.view.read (Elt F) f3) (arg8.view.read (Elt F) f8) (arg9.view.read (Elt F) f9) (arg10.view.read (Elt F) f10))) := by
  have c1 : k0_cond1 i = 1#1 := (cond1_iff i).2 hi
  have c2 : ¬ k0_cond2 i = 1#1 := fun h => by have := (cond2_iff i).1 h; omega
  simp only [cc0_diff_attn_eq_skeleton, k0_part1_eq_skeleton, k0_part2_eq_skeleton, k0_part3_eq_skeleton, k0_part25_eq_skeleton]
  unfold cc0_diff_attn_skel
  simp only [k0_part25_eq_skeleton]
  unfold k0_part25_skel
  simp only [k0_part1_eq_skeleton, k0_part2_eq_skeleton, k0_part3_eq_skeleton]
  unfold k0_part1_skel k0_part2_skel k0_part3_skel bodyPost
  iintro ⟨H3, H4, H5, H6, H7, H8, H9, H10, H11, H12, H13, H14, H15, H16, H17, H18, H19, H20, H21, H22, H23, H24, H25, H26, H27⟩
  sl_exec
  sl_step
  iexists _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  repeat delta body_first.sl.H20_2 body_first.sl.H21_2 body_first.sl.H22_1 body_first.sl.H25_1 body_first.sl.H27_1 body_first.sl.v113 body_first.sl.v154 body_first.sl.v185 body_first.sl.v6
  have z22 := fun f inb => readAt_krT (F := F) arg22 f (off := ![0, 0]) inb 0 rfl
  have z6 := fun inb => readAt_vT arg6 f6 (off := ![0, 0, 0]) inb 0 rfl
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, read_halves _ _ _ _ rfl rfl, cov_halves _ _ _ _ rfl rfl, z22, z6, e2, e7, e8, e9, e13, e14, e111, e112, e113]
  exact ⟨fun j hj => krT_store arg22 f22 _ 0 (by omega) ((off1_eq i).trans (by rw [hi])) _ j hj, rfl, rfl, rfl⟩

end Cert.KernelIdeal.Diff

end
-- ==== Proof.One.lean ====
/- A point of a row with one tile left after the loop. -/
module

public import proofs.«01_k».proof.Proof.Post
public import Idealize.ShloMosaic.Lib.Exec
public import Idealize.ShloMosaic.Lib.LoopRemainder
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A later point of a row, one tile left after the loop: the split queries and the first tile's scores are carried into it. -/
theorem body_one (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (hi : 0 < (i 2).val)
    (hr : (i 2).val = 4 * (((i 2).val - 1) / 4) + 1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hsc : (arg25.view.read (Elt F) f25) = scoreT (arg21.view.read (Elt F) f21) (krT (arg22.view.read (Elt F) f22) 0)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 (i 2).val (arg21.view.read (Elt F) f21)) := by
  have c1 : ¬ k0_cond1 i = 1#1 := fun h => by have := (cond1_iff i).1 h; omega
  have c2 : k0_cond2 i = 1#1 := (cond2_iff i).2 hi
  have c3 : k0_cond3 i = 1#1 := (cond3_iff i hi).2 hr
  have c4 : ¬ k0_cond4 i = 1#1 := fun h => by have := (cond4_iff i hi).1 h; omega
  have c5 : ¬ k0_cond5 i = 1#1 := fun h => by have := (cond5_iff i hi).1 h; omega
  have c6 : ¬ k0_cond6 i = 1#1 := fun h => by have := (cond6_iff i hi).1 h; omega
  have htr := trips2 i
  simp only [cc0_diff_attn_eq_skeleton]
  unfold cc0_diff_attn_skel
  simp only [k0_part25_eq_skeleton]
  unfold k0_part25_skel
  simp only [k0_part22_eq_skeleton, k0_part23_eq_skeleton, k0_part24_eq_skeleton, k0_part12_eq_skeleton]
  unfold k0_part22_skel k0_part23_skel k0_part24_skel k0_part12_skel bodyPost
  iintro ⟨H3, H4, H5, H6, H7, H8, H9, H10, H11, H12, H13, H14, H15, H16, H17, H18, H19, H20, H21, H22, H23, H24, H25, H26, H27⟩
  sl_exec
  generalize hg20 : arg20.view.writes (Elt F) f20 (body_one.sl.H20_1 arg21 f21) = g20
  generalize hg22 : arg22.view.writes (Elt F) f22 (body_one.sl.H22_1 i arg5 arg8 arg9 arg10 f5 f8 f9 f10 c2) = g22
  have hn : (i 2).val < 16 := (i 2).isLt
  have hq20 : arg20.view.read (Elt F) g20 = arg21.view.read (Elt F) f21 := by
    rw [← hg20]; delta body_one.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hv82 : body_one.sl.v82 arg20 arg21 f21 = arg20.view.read (Elt F) g20 := by
    rw [hq20]; delta body_one.sl.v82 body_one.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hq22 : ∀ j < 16, krT (arg22.view.read (Elt F) g22) j = if j = (i 2).val then kT (arg5.view.read (Elt F) f5) (arg8.view.read (Elt F) f8) (arg9.view.read (Elt F) f9) (arg10.view.read (Elt F) f10) else krT (arg22.view.read (Elt F) f22) j := by
    intro j hj
    rw [← hg22]; delta body_one.sl.H22_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32]
    exact krT_store arg22 f22 _ (i 2).val hn (off2_eq i) _ j hj
  have hk0 : krT (arg22.view.read (Elt F) f22) 0 = krT (arg22.view.read (Elt F) g22) 0 := by
    rw [hq22 0 (by omega), if_neg (by omega)]
  rw [← hq20, hk0] at hsc
  clear hg20 hg22
  simp only [bind_assoc]
  sl_for (tripSt c arg6 arg20 arg22 arg23 arg24 arg26 arg27 f6 g20 g22) $$ [H6 H20 H22 H23 H24 H26 H27]
  case region =>
    intro k u
    exact trip 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c2 f6 g20 g22 k u
  · unfold tripSt
    iexists _, _, _, _
    isplitl [H6]; · iexact H6
    isplitl [H20]; · iexact H20
    isplitl [H22]; · iexact H22
    isplitl [H23]; · iexact H23
    isplitl [H24]; · iexact H24
    isplitl [H26]; · iexact H26
    isplitl [H27]; · iexact H27
    ipureintro
    have z22 := fun inb => readAt_krT arg22 g22 (off := ![512, 0]) inb 1 rfl
    have z6 := fun inb => readAt_vT arg6 f6 (off := ![0, 0, 0]) inb 0 rfl
    simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, z22, z6, hv82, hsc, e103]
    refine ⟨True.intro, ?_, ?_⟩ <;> simp only [Nat.mul_zero, st]
  have htp : Scf.trips (k0_t1_loop i).lb (k0_t1_loop i).ub (k0_t1_loop i).st = ((i 2).val - 1) / 4 := trips1 i
  rw [htp]
  unfold tripSt
  iintro %_ ⟨%t23, %t24, %t26, %t27, H6, H20, H22, H23, H24, H26, H27, %ht⟩
  obtain ⟨h23, h26, h27⟩ := ht
  sl_exec
  sl_step

  iexists _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  have z22 := fun inb => readAt_krT arg22 g22 (off := ![0, 0]) inb 0 rfl
  have o7 := fun inb => readAt_vT arg6 f6 (off := k0_off7 i) inb (4 * (((i 2).val - 1) / 4) + 1) (off7_eq i hi)
  repeat delta body_one.sl.H27_1 body_one.sl.v6 body_one.sl.x
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, read_halves _ _ _ _ rfl rfl, cov_halves _ _ _ _ rfl rfl, z22, h23, h26, h27, o7, e50, e120, e121]
  refine ⟨hq22, rfl, rfl, ?_⟩
  generalize ((i 2).val - 1) / 4 = q at hr ⊢
  rw [← hq20, hr, st_mscores]
  rfl

end Cert.KernelIdeal.Diff

end
-- ==== Proof.Two.lean ====
/- A point of a row with two tiles left after the loop. -/
module

public import proofs.«01_k».proof.Proof.Post
public import Idealize.ShloMosaic.Lib.Exec
public import Idealize.ShloMosaic.Lib.LoopRemainder
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A later point of a row, two tiles left after the loop: the split queries and the first tile's scores are carried into it. -/
theorem body_two (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (hi : 0 < (i 2).val)
    (hr : (i 2).val = 4 * (((i 2).val - 1) / 4) + 2) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hsc : (arg25.view.read (Elt F) f25) = scoreT (arg21.view.read (Elt F) f21) (krT (arg22.view.read (Elt F) f22) 0)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 (i 2).val (arg21.view.read (Elt F) f21)) := by
  have c1 : ¬ k0_cond1 i = 1#1 := fun h => by have := (cond1_iff i).1 h; omega
  have c2 : k0_cond2 i = 1#1 := (cond2_iff i).2 hi
  have c3 : ¬ k0_cond3 i = 1#1 := fun h => by have := (cond3_iff i hi).1 h; omega
  have c4 : k0_cond4 i = 1#1 := (cond4_iff i hi).2 hr
  have c5 : ¬ k0_cond5 i = 1#1 := fun h => by have := (cond5_iff i hi).1 h; omega
  have c6 : ¬ k0_cond6 i = 1#1 := fun h => by have := (cond6_iff i hi).1 h; omega
  have htr := trips2 i
  simp only [cc0_diff_attn_eq_skeleton]
  unfold cc0_diff_attn_skel
  simp only [k0_part25_eq_skeleton]
  unfold k0_part25_skel
  simp only [k0_part22_eq_skeleton, k0_part23_eq_skeleton, k0_part24_eq_skeleton, k0_part13_eq_skeleton, k0_part14_eq_skeleton]
  unfold k0_part22_skel k0_part23_skel k0_part24_skel k0_part13_skel k0_part14_skel bodyPost
  iintro ⟨H3, H4, H5, H6, H7, H8, H9, H10, H11, H12, H13, H14, H15, H16, H17, H18, H19, H20, H21, H22, H23, H24, H25, H26, H27⟩
  sl_exec
  generalize hg20 : arg20.view.writes (Elt F) f20 (body_two.sl.H20_1 arg21 f21) = g20
  generalize hg22 : arg22.view.writes (Elt F) f22 (body_two.sl.H22_1 i arg5 arg8 arg9 arg10 f5 f8 f9 f10 c2) = g22
  have hn : (i 2).val < 16 := (i 2).isLt
  have hq20 : arg20.view.read (Elt F) g20 = arg21.view.read (Elt F) f21 := by
    rw [← hg20]; delta body_two.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hv82 : body_two.sl.v82 arg20 arg21 f21 = arg20.view.read (Elt F) g20 := by
    rw [hq20]; delta body_two.sl.v82 body_two.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hq22 : ∀ j < 16, krT (arg22.view.read (Elt F) g22) j = if j = (i 2).val then kT (arg5.view.read (Elt F) f5) (arg8.view.read (Elt F) f8) (arg9.view.read (Elt F) f9) (arg10.view.read (Elt F) f10) else krT (arg22.view.read (Elt F) f22) j := by
    intro j hj
    rw [← hg22]; delta body_two.sl.H22_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32]
    exact krT_store arg22 f22 _ (i 2).val hn (off2_eq i) _ j hj
  have hk0 : krT (arg22.view.read (Elt F) f22) 0 = krT (arg22.view.read (Elt F) g22) 0 := by
    rw [hq22 0 (by omega), if_neg (by omega)]
  rw [← hq20, hk0] at hsc
  clear hg20 hg22
  simp only [bind_assoc]
  sl_for (tripSt c arg6 arg20 arg22 arg23 arg24 arg26 arg27 f6 g20 g22) $$ [H6 H20 H22 H23 H24 H26 H27]
  case region =>
    intro k u
    exact trip 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c2 f6 g20 g22 k u
  · unfold tripSt
    iexists _, _, _, _
    isplitl [H6]; · iexact H6
    isplitl [H20]; · iexact H20
    isplitl [H22]; · iexact H22
    isplitl [H23]; · iexact H23
    isplitl [H24]; · iexact H24
    isplitl [H26]; · iexact H26
    isplitl [H27]; · iexact H27
    ipureintro
    have z22 := fun inb => readAt_krT arg22 g22 (off := ![512, 0]) inb 1 rfl
    have z6 := fun inb => readAt_vT arg6 f6 (off := ![0, 0, 0]) inb 0 rfl
    simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, z22, z6, hv82, hsc, e103]
    refine ⟨True.intro, ?_, ?_⟩ <;> simp only [Nat.mul_zero, st]
  have htp : Scf.trips (k0_t1_loop i).lb (k0_t1_loop i).ub (k0_t1_loop i).st = ((i 2).val - 1) / 4 := trips1 i
  rw [htp]
  unfold tripSt
  iintro %_ ⟨%t23, %t24, %t26, %t27, H6, H20, H22, H23, H24, H26, H27, %ht⟩
  obtain ⟨h23, h26, h27⟩ := ht
  sl_exec
  sl_step

  iexists _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  have z22 := fun inb => readAt_krT arg22 g22 (off := ![0, 0]) inb 0 rfl
  have o8 := fun inb => readAt_krT arg22 g22 (off := k0_off8 i) inb (4 * (((i 2).val - 1) / 4) + 2) (off8_eq i hi)
  have o90 := fun inb => readAt_vT arg6 f6 (off := k0_off9 i 0#32) inb (4 * (((i 2).val - 1) / 4) + 1) (off9_eq i hi 0)
  have o91 := fun inb => readAt_vT arg6 f6 (off := k0_off9 i 1#32) inb (4 * (((i 2).val - 1) / 4) + 2) (off9_eq i hi 1)
  repeat delta body_two.sl.H24_1 body_two.sl.H26_1 body_two.sl.H27_1 body_two.sl.H27_2 body_two.sl.v271 body_two.sl.v6 body_two.sl.x body_two.sl.x_1 body_two.sl.x_2 body_two.sl.x_3 body_two.sl.x_4
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, read_halves _ _ _ _ rfl rfl, cov_halves _ _ _ _ rfl rfl, z22, h23, h26, h27, o8, o90, o91, e55, e58, e59, e60, e122, e123]
  refine ⟨hq22, rfl, rfl, ?_⟩
  generalize ((i 2).val - 1) / 4 = q at hr ⊢
  rw [← hq20, hr, st_mscores]
  rfl

end Cert.KernelIdeal.Diff

end
-- ==== Proof.Three.lean ====
/- A point of a row with three tiles left after the loop. -/
module

public import proofs.«01_k».proof.Proof.Post
public import Idealize.ShloMosaic.Lib.Exec
public import Idealize.ShloMosaic.Lib.LoopRemainder
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A later point of a row, three tiles left after the loop: the split queries and the first tile's scores are carried into it. -/
theorem body_three (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (hi : 0 < (i 2).val)
    (hr : (i 2).val = 4 * (((i 2).val - 1) / 4) + 3) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hsc : (arg25.view.read (Elt F) f25) = scoreT (arg21.view.read (Elt F) f21) (krT (arg22.view.read (Elt F) f22) 0)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 (i 2).val (arg21.view.read (Elt F) f21)) := by
  have c1 : ¬ k0_cond1 i = 1#1 := fun h => by have := (cond1_iff i).1 h; omega
  have c2 : k0_cond2 i = 1#1 := (cond2_iff i).2 hi
  have c3 : ¬ k0_cond3 i = 1#1 := fun h => by have := (cond3_iff i hi).1 h; omega
  have c4 : ¬ k0_cond4 i = 1#1 := fun h => by have := (cond4_iff i hi).1 h; omega
  have c5 : k0_cond5 i = 1#1 := (cond5_iff i hi).2 hr
  have c6 : ¬ k0_cond6 i = 1#1 := fun h => by have := (cond6_iff i hi).1 h; omega
  have htr := trips2 i
  simp only [cc0_diff_attn_eq_skeleton]
  unfold cc0_diff_attn_skel
  simp only [k0_part25_eq_skeleton]
  unfold k0_part25_skel
  simp only [k0_part22_eq_skeleton, k0_part23_eq_skeleton, k0_part24_eq_skeleton, k0_part15_eq_skeleton, k0_part16_eq_skeleton, k0_part17_eq_skeleton]
  unfold k0_part22_skel k0_part23_skel k0_part24_skel k0_part15_skel k0_part16_skel k0_part17_skel bodyPost
  iintro ⟨H3, H4, H5, H6, H7, H8, H9, H10, H11, H12, H13, H14, H15, H16, H17, H18, H19, H20, H21, H22, H23, H24, H25, H26, H27⟩
  sl_exec
  generalize hg20 : arg20.view.writes (Elt F) f20 (body_three.sl.H20_1 arg21 f21) = g20
  generalize hg22 : arg22.view.writes (Elt F) f22 (body_three.sl.H22_1 i arg5 arg8 arg9 arg10 f5 f8 f9 f10 c2) = g22
  have hn : (i 2).val < 16 := (i 2).isLt
  have hq20 : arg20.view.read (Elt F) g20 = arg21.view.read (Elt F) f21 := by
    rw [← hg20]; delta body_three.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hv82 : body_three.sl.v82 arg20 arg21 f21 = arg20.view.read (Elt F) g20 := by
    rw [hq20]; delta body_three.sl.v82 body_three.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hq22 : ∀ j < 16, krT (arg22.view.read (Elt F) g22) j = if j = (i 2).val then kT (arg5.view.read (Elt F) f5) (arg8.view.read (Elt F) f8) (arg9.view.read (Elt F) f9) (arg10.view.read (Elt F) f10) else krT (arg22.view.read (Elt F) f22) j := by
    intro j hj
    rw [← hg22]; delta body_three.sl.H22_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32]
    exact krT_store arg22 f22 _ (i 2).val hn (off2_eq i) _ j hj
  have hk0 : krT (arg22.view.read (Elt F) f22) 0 = krT (arg22.view.read (Elt F) g22) 0 := by
    rw [hq22 0 (by omega), if_neg (by omega)]
  rw [← hq20, hk0] at hsc
  clear hg20 hg22
  simp only [bind_assoc]
  sl_for (tripSt c arg6 arg20 arg22 arg23 arg24 arg26 arg27 f6 g20 g22) $$ [H6 H20 H22 H23 H24 H26 H27]
  case region =>
    intro k u
    exact trip 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c2 f6 g20 g22 k u
  · unfold tripSt
    iexists _, _, _, _
    isplitl [H6]; · iexact H6
    isplitl [H20]; · iexact H20
    isplitl [H22]; · iexact H22
    isplitl [H23]; · iexact H23
    isplitl [H24]; · iexact H24
    isplitl [H26]; · iexact H26
    isplitl [H27]; · iexact H27
    ipureintro
    have z22 := fun inb => readAt_krT arg22 g22 (off := ![512, 0]) inb 1 rfl
    have z6 := fun inb => readAt_vT arg6 f6 (off := ![0, 0, 0]) inb 0 rfl
    simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, z22, z6, hv82, hsc, e103]
    refine ⟨True.intro, ?_, ?_⟩ <;> simp only [Nat.mul_zero, st]
  have htp : Scf.trips (k0_t1_loop i).lb (k0_t1_loop i).ub (k0_t1_loop i).st = ((i 2).val - 1) / 4 := trips1 i
  rw [htp]
  unfold tripSt
  iintro %_ ⟨%t23, %t24, %t26, %t27, H6, H20, H22, H23, H24, H26, H27, %ht⟩
  obtain ⟨h23, h26, h27⟩ := ht
  sl_exec
  sl_step

  iexists _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  have z22 := fun inb => readAt_krT arg22 g22 (off := ![0, 0]) inb 0 rfl
  have o100 := fun inb => readAt_krT arg22 g22 (off := k0_off10 i 0#32) inb (4 * (((i 2).val - 1) / 4) + 2) (off10_eq i hi 0)
  have o101 := fun inb => readAt_krT arg22 g22 (off := k0_off10 i 1#32) inb (4 * (((i 2).val - 1) / 4) + 3) (off10_eq i hi 1)
  have o110 := fun inb => readAt_vT arg6 f6 (off := k0_off11 i 0#32) inb (4 * (((i 2).val - 1) / 4) + 1) (off11_eq i hi 0)
  have o111 := fun inb => readAt_vT arg6 f6 (off := k0_off11 i 1#32) inb (4 * (((i 2).val - 1) / 4) + 2) (off11_eq i hi 1)
  have o112 := fun inb => readAt_vT arg6 f6 (off := k0_off11 i 2#32) inb (4 * (((i 2).val - 1) / 4) + 3) (off11_eq i hi 2)
  repeat delta body_three.sl.H23_1 body_three.sl.H24_1 body_three.sl.H26_1 body_three.sl.H26_2 body_three.sl.H27_1 body_three.sl.H27_2 body_three.sl.H27_3 body_three.sl.v300 body_three.sl.v313 body_three.sl.v6 body_three.sl.x body_three.sl.x_1 body_three.sl.x_2 body_three.sl.x_3 body_three.sl.x_4 body_three.sl.x_5 body_three.sl.x_6 body_three.sl.x_7
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, read_halves _ _ _ _ rfl rfl, cov_halves _ _ _ _ rfl rfl, z22, h23, h26, h27, o100, o101, o110, o111, o112, e65, e68, e69, e70, e75, e76, e77, e125, e126]
  refine ⟨hq22, rfl, rfl, ?_⟩
  generalize ((i 2).val - 1) / 4 = q at hr ⊢
  rw [← hq20, hr, st_mscores]
  rfl

end Cert.KernelIdeal.Diff

end
-- ==== Proof.Four.lean ====
/- A point of a row with four tiles left after the loop. -/
module

public import proofs.«01_k».proof.Proof.Post
public import Idealize.ShloMosaic.Lib.Exec
public import Idealize.ShloMosaic.Lib.LoopRemainder
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- A later point of a row, four tiles left after the loop: the split queries and the first tile's scores are carried into it. -/
theorem body_four (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole) (hi : 0 < (i 2).val)
    (hr : (i 2).val = 4 * (((i 2).val - 1) / 4) + 4) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty)
    (hsc : (arg25.view.read (Elt F) f25) = scoreT (arg21.view.read (Elt F) f21) (krT (arg22.view.read (Elt F) f22) 0)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 (i 2).val (arg21.view.read (Elt F) f21)) := by
  have c1 : ¬ k0_cond1 i = 1#1 := fun h => by have := (cond1_iff i).1 h; omega
  have c2 : k0_cond2 i = 1#1 := (cond2_iff i).2 hi
  have c3 : ¬ k0_cond3 i = 1#1 := fun h => by have := (cond3_iff i hi).1 h; omega
  have c4 : ¬ k0_cond4 i = 1#1 := fun h => by have := (cond4_iff i hi).1 h; omega
  have c5 : ¬ k0_cond5 i = 1#1 := fun h => by have := (cond5_iff i hi).1 h; omega
  have c6 : k0_cond6 i = 1#1 := (cond6_iff i hi).2 hr
  have htr := trips2 i
  simp only [cc0_diff_attn_eq_skeleton]
  unfold cc0_diff_attn_skel
  simp only [k0_part25_eq_skeleton]
  unfold k0_part25_skel
  simp only [k0_part22_eq_skeleton, k0_part23_eq_skeleton, k0_part24_eq_skeleton, k0_part18_eq_skeleton, k0_part19_eq_skeleton, k0_part20_eq_skeleton, k0_part21_eq_skeleton]
  unfold k0_part22_skel k0_part23_skel k0_part24_skel k0_part18_skel k0_part19_skel k0_part20_skel k0_part21_skel bodyPost
  iintro ⟨H3, H4, H5, H6, H7, H8, H9, H10, H11, H12, H13, H14, H15, H16, H17, H18, H19, H20, H21, H22, H23, H24, H25, H26, H27⟩
  sl_exec
  generalize hg20 : arg20.view.writes (Elt F) f20 (body_four.sl.H20_1 arg21 f21) = g20
  generalize hg22 : arg22.view.writes (Elt F) f22 (body_four.sl.H22_1 i arg5 arg8 arg9 arg10 f5 f8 f9 f10 c2) = g22
  have hn : (i 2).val < 16 := (i 2).isLt
  have hq20 : arg20.view.read (Elt F) g20 = arg21.view.read (Elt F) f21 := by
    rw [← hg20]; delta body_four.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hv82 : body_four.sl.v82 arg20 arg21 f21 = arg20.view.read (Elt F) g20 := by
    rw [hq20]; delta body_four.sl.v82 body_four.sl.H20_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, e100]
  have hq22 : ∀ j < 16, krT (arg22.view.read (Elt F) g22) j = if j = (i 2).val then kT (arg5.view.read (Elt F) f5) (arg8.view.read (Elt F) f8) (arg9.view.read (Elt F) f9) (arg10.view.read (Elt F) f10) else krT (arg22.view.read (Elt F) f22) j := by
    intro j hj
    rw [← hg22]; delta body_four.sl.H22_1; simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32]
    exact krT_store arg22 f22 _ (i 2).val hn (off2_eq i) _ j hj
  have hk0 : krT (arg22.view.read (Elt F) f22) 0 = krT (arg22.view.read (Elt F) g22) 0 := by
    rw [hq22 0 (by omega), if_neg (by omega)]
  rw [← hq20, hk0] at hsc
  clear hg20 hg22
  simp only [bind_assoc]
  sl_for (tripSt c arg6 arg20 arg22 arg23 arg24 arg26 arg27 f6 g20 g22) $$ [H6 H20 H22 H23 H24 H26 H27]
  case region =>
    intro k u
    exact trip 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 c2 f6 g20 g22 k u
  · unfold tripSt
    iexists _, _, _, _
    isplitl [H6]; · iexact H6
    isplitl [H20]; · iexact H20
    isplitl [H22]; · iexact H22
    isplitl [H23]; · iexact H23
    isplitl [H24]; · iexact H24
    isplitl [H26]; · iexact H26
    isplitl [H27]; · iexact H27
    ipureintro
    have z22 := fun inb => readAt_krT arg22 g22 (off := ![512, 0]) inb 1 rfl
    have z6 := fun inb => readAt_vT arg6 f6 (off := ![0, 0, 0]) inb 0 rfl
    simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, z22, z6, hv82, hsc, e103]
    refine ⟨True.intro, ?_, ?_⟩ <;> simp only [Nat.mul_zero, st]
  have htp : Scf.trips (k0_t1_loop i).lb (k0_t1_loop i).ub (k0_t1_loop i).st = ((i 2).val - 1) / 4 := trips1 i
  rw [htp]
  unfold tripSt
  iintro %_ ⟨%t23, %t24, %t26, %t27, H6, H20, H22, H23, H24, H26, H27, %ht⟩
  obtain ⟨h23, h26, h27⟩ := ht
  sl_exec
  sl_step

  iexists _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  ipureintro
  have z22 := fun inb => readAt_krT arg22 g22 (off := ![0, 0]) inb 0 rfl
  have o120 := fun inb => readAt_krT arg22 g22 (off := k0_off12 i 0#32) inb (4 * (((i 2).val - 1) / 4) + 2) (off12_eq i hi 0)
  have o121 := fun inb => readAt_krT arg22 g22 (off := k0_off12 i 1#32) inb (4 * (((i 2).val - 1) / 4) + 3) (off12_eq i hi 1)
  have o122 := fun inb => readAt_krT arg22 g22 (off := k0_off12 i 2#32) inb (4 * (((i 2).val - 1) / 4) + 4) (off12_eq i hi 2)
  have o130 := fun inb => readAt_vT arg6 f6 (off := k0_off13 i 0#32) inb (4 * (((i 2).val - 1) / 4) + 1) (off13_eq i hi 0)
  have o131 := fun inb => readAt_vT arg6 f6 (off := k0_off13 i 1#32) inb (4 * (((i 2).val - 1) / 4) + 2) (off13_eq i hi 1)
  have o132 := fun inb => readAt_vT arg6 f6 (off := k0_off13 i 2#32) inb (4 * (((i 2).val - 1) / 4) + 3) (off13_eq i hi 2)
  have o133 := fun inb => readAt_vT arg6 f6 (off := k0_off13 i 3#32) inb (4 * (((i 2).val - 1) / 4) + 4) (off13_eq i hi 3)
  repeat delta body_four.sl.H23_1 body_four.sl.H24_1 body_four.sl.H24_2 body_four.sl.H26_1 body_four.sl.H26_2 body_four.sl.H26_3 body_four.sl.H27_1 body_four.sl.H27_2 body_four.sl.H27_3 body_four.sl.H27_4 body_four.sl.v338 body_four.sl.v342 body_four.sl.v355 body_four.sl.v6 body_four.sl.x body_four.sl.x_1 body_four.sl.x_10 body_four.sl.x_2 body_four.sl.x_3 body_four.sl.x_4 body_four.sl.x_5 body_four.sl.x_6 body_four.sl.x_7 body_four.sl.x_8 body_four.sl.x_9
  simp only [rd_S1024x512_f32, rw_S1024x512_f32, rc_S1024x512_f32, rd_S1024x128_f32, rw_S1024x128_f32, rc_S1024x128_f32, rd_S1024x128_bf16, rw_S1024x128_bf16, rc_S1024x128_bf16, rd_S1024x256_f32, rw_S1024x256_f32, rc_S1024x256_f32, rd_S1x512x128_bf16, rw_S1x512x128_bf16, rc_S1x512x128_bf16, rd_S512x128_f32, rw_S512x128_f32, rc_S512x128_f32, rd_S1x64_f32, rw_S1x64_f32, rc_S1x64_f32, rd_S1x128_f32, rw_S1x128_f32, rc_S1x128_f32, read_halves _ _ _ _ rfl rfl, cov_halves _ _ _ _ rfl rfl, z22, h23, h26, h27, o120, o121, o122, o130, o131, o132, o133, e79, e82, e83, e84, e89, e90, e91, e95, e96, e97, e129, e130]
  refine ⟨hq22, rfl, rfl, ?_⟩
  generalize ((i 2).val - 1) / 4 = q at hr ⊢
  rw [← hq20, hr, st_mscores]
  rfl

end Cert.KernelIdeal.Diff

end
-- ==== Proof.Run.lean ====
/- The run of the whole grid: every point by its case, the scratches tracked from point to point. -/
module

public import proofs.«01_k».proof.Proof.Track
public import proofs.«01_k».proof.Proof.First
public import proofs.«01_k».proof.Proof.One
public import proofs.«01_k».proof.Proof.Two
public import proofs.«01_k».proof.Proof.Three
public import proofs.«01_k».proof.Proof.Four
public import Idealize.ShloMosaic.Lib.Exec
public import Idealize.ShloMosaic.Lib.Pipeline.Frame
public import Idealize.ShloMosaic.Lib.Pipeline.FrameBody
public import Idealize.ShloMosaic.Lib.Tactic
public import Idealize.ShloMosaic.Lib.Pipeline.Kit

@[expose] public section

set_option maxRecDepth 16384
set_option maxHeartbeats 4000000

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds
open Cert.KernelIdeal Cert.KernelIdeal.Gen

variable {F : FTy → Type} [FloatOps F] [Named F]

local notation "𝕄" => MT nD τ sig Unit (Elt F) ℕ (UR sig nD τ) ℕ

/-- Any point, from the queries and first scores its place in the row needs. -/
theorem body_any (𝒱 : Variants) (c : Dev nD) (bd : Option 𝒱.V) (E : Set ℕ) (i : grid0.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x8192x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x128 .f32) (harg18 : arg18.IsWhole) (arg19 : Memref sig .tc .vmem S1x512x128 .bf16) (harg19 : arg19.IsWhole) (arg20 : Memref sig .tc .vmem S1024x128 .bf16) (harg20 : arg20.IsWhole) (arg21 : Memref sig .tc .vmem S1024x128 .bf16) (harg21 : arg21.IsWhole) (arg22 : Memref sig .tc .vmem S8192x128 .bf16) (harg22 : arg22.IsWhole) (arg23 : Memref sig .tc .vmem S1024x512 .f32) (harg23 : arg23.IsWhole) (arg24 : Memref sig .tc .vmem S1024x512 .f32) (harg24 : arg24.IsWhole) (arg25 : Memref sig .tc .vmem S1024x512 .f32) (harg25 : arg25.IsWhole) (arg26 : Memref sig .tc .vmem S1024x128 .f32) (harg26 : arg26.IsWhole) (arg27 : Memref sig .tc .vmem S1024x256 .f32) (harg27 : arg27.IsWhole)
    (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (Q : Vec F S1024x128 .bf16)
    (h0 : (i 2).val = 0 → Q = qsT (arg3.view.read (Elt F) f3) (arg8.view.read (Elt F) f8) (arg9.view.read (Elt F) f9) (arg10.view.read (Elt F) f10))
    (h1 : 0 < (i 2).val → Q = (arg21.view.read (Elt F) f21) ∧ (arg25.view.read (Elt F) f25) = scoreT (arg21.view.read (Elt F) f21) (krT (arg22.view.read (Elt F) f22) 0)) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27))
      ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => bodyPost c arg3 arg4 arg5 arg6 arg7 arg8 arg9 arg10 arg11 arg12 arg13 arg14 arg15 arg16 arg17 arg18 arg19 arg20 arg21 arg22 arg23 arg24 arg25 arg26 arg27 f3 f4 f5 f6 f7 f8 f9 f10 f11 f12 f13 f14 f15 f16 f17 f18 f22 (i 2).val Q) := by
  by_cases hi : (i 2).val = 0
  · have e := h0 hi
    rw [hi, e]
    exact body_first 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hi f3 f4 f5 f6 f7 f8 f9 f10 f11 f12 f13 f14 f15 f16 f17 f18 f19 f20 f21 f22 f23 f24 f25 f26 f27
  · have hp : 0 < (i 2).val := Nat.pos_of_ne_zero hi
    obtain ⟨e, hsc⟩ := h1 hp
    rw [e]
    have hr : (i 2).val = 4 * (((i 2).val - 1) / 4) + 1 ∨ (i 2).val = 4 * (((i 2).val - 1) / 4) + 2 ∨ (i 2).val = 4 * (((i 2).val - 1) / 4) + 3
      ∨ (i 2).val = 4 * (((i 2).val - 1) / 4) + 4 := by omega
    rcases hr with hr | hr | hr | hr
    · exact body_one 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hp hr f3 f4 f5 f6 f7 f8 f9 f10 f11 f12 f13 f14 f15 f16 f17 f18 f19 f20 f21 f22 f23 f24 f25 f26 f27 hsc
    · exact body_two 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hp hr f3 f4 f5 f6 f7 f8 f9 f10 f11 f12 f13 f14 f15 f16 f17 f18 f19 f20 f21 f22 f23 f24 f25 f26 f27 hsc
    · exact body_three 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hp hr f3 f4 f5 f6 f7 f8 f9 f10 f11 f12 f13 f14 f15 f16 f17 f18 f19 f20 f21 f22 f23 f24 f25 f26 f27 hsc
    · exact body_four 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hp hr f3 f4 f5 f6 f7 f8 f9 f10 f11 f12 f13 f14 f15 f16 f17 f18 f19 f20 f21 f22 f23 f24 f25 f26 f27 hsc

variable (m : (ℓ : Loc nD τ sig) → Buf (Elt F) ℓ) (ρ : Dev nD → PrngReg)

/-- The arrays as the region finds them. -/
def arrs (c : Dev nD) : Arrs F :=
  ⟨V m c main_arg0, V m c main_v26, V m c main_v29, V m c main_v32, V m c main_arg1, V m c main_arg2, V m c main_arg3, V m c main_arg4, V m c main_arg5⟩

/-- What the core holds between points: the scratches, tracked, and its generator register. -/
def PhiS (c : Dev nD) (k : ℕ) : sProp 𝕄 :=
  iprop((∃ r, prngReg c r) ∗ ∃ (g20 : BufTy.Contents (Elt F) (Memref.whole cc0_scratch0).view.ty) (g21 : BufTy.Contents (Elt F) (Memref.whole cc0_scratch1).view.ty) (g22 : BufTy.Contents (Elt F) (Memref.whole cc0_scratch2).view.ty) (g23 : BufTy.Contents (Elt F) (Memref.whole cc0_scratch3).view.ty) (g24 : BufTy.Contents (Elt F) (Memref.whole cc0_scratch4).view.ty) (g25 : BufTy.Contents (Elt F) (Memref.whole cc0_scratch5).view.ty) (g26 : BufTy.Contents (Elt F) (Memref.whole cc0_scratch6).view.ty) (g27 : BufTy.Contents (Elt F) (Memref.whole cc0_scratch7).view.ty),
    ((Memref.whole cc0_scratch0).view.loc (c : Thread nD τ) ↦[(Memref.whole cc0_scratch0).view.set]{fullShare} g20) ∗ ((Memref.whole cc0_scratch1).view.loc (c : Thread nD τ) ↦[(Memref.whole cc0_scratch1).view.set]{fullShare} g21) ∗ ((Memref.whole cc0_scratch2).view.loc (c : Thread nD τ) ↦[(Memref.whole cc0_scratch2).view.set]{fullShare} g22) ∗ ((Memref.whole cc0_scratch3).view.loc (c : Thread nD τ) ↦[(Memref.whole cc0_scratch3).view.set]{fullShare} g23) ∗ ((Memref.whole cc0_scratch4).view.loc (c : Thread nD τ) ↦[(Memref.whole cc0_scratch4).view.set]{fullShare} g24) ∗ ((Memref.whole cc0_scratch5).view.loc (c : Thread nD τ) ↦[(Memref.whole cc0_scratch5).view.set]{fullShare} g25) ∗ ((Memref.whole cc0_scratch6).view.loc (c : Thread nD τ) ↦[(Memref.whole cc0_scratch6).view.set]{fullShare} g26) ∗ ((Memref.whole cc0_scratch7).view.loc (c : Thread nD τ) ↦[(Memref.whole cc0_scratch7).view.set]{fullShare} g27)
    ∗ ⌜Track (arrs m c) k ((Memref.whole cc0_scratch1).view.read (Elt F) g21) ((Memref.whole cc0_scratch2).view.read (Elt F) g22) ((Memref.whole cc0_scratch5).view.read (Elt F) g25)⌝)

/-- The proof data: every input's buffer at its block, the output's at the block of its batch, head and query block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => oAt (arrs m c) (t.val / 128) (t.val / 16 % 8) (t.val % 16)
    | ⟨n + 17, h⟩ => absurd h (by show ¬ n + 17 < 17; omega)
  Φ t := PhiS m c t.val
  q := Pipeline.shareOf spec0
  owed _ := 0

/-- A window's array at the launch is what the host left there. -/
theorem A_eq (c : Dev nD) (w : Fin cfg0.W) : (dats m 0 c).A w = V m c (Pipeline.arrRef spec0 w) := by dsimp only [dats]
/-- Window 0 is left as it was read. -/
theorem after0 (c : Dev nD) (t : Fin cfg0.N) : (dats m 0 c).after 0 t = iblk m c 0 t := by dsimp only [dats]
/-- Window 1 is left as it was read. -/
theorem after1 (c : Dev nD) (t : Fin cfg0.N) : (dats m 0 c).after 1 t = iblk m c 1 t := by dsimp only [dats]
/-- Window 2 is left as it was read. -/
theorem after2 (c : Dev nD) (t : Fin cfg0.N) : (dats m 0 c).after 2 t = iblk m c 2 t := by dsimp only [dats]
/-- Window 3 is left as it was read. -/
theorem after3 (c : Dev nD) (t : Fin cfg0.N) : (dats m 0 c).after 3 t = iblk m c 3 t := by dsimp only [dats]
/-- Window 4 is left as it was read. -/
theorem after4 (c : Dev nD) (t : Fin cfg0.N) : (dats m 0 c).after 4 t = iblk m c 4 t := by dsimp only [dats]
/-- Window 5 is left as it was read. -/
theorem after5 (c : Dev nD) (t : Fin cfg0.N) : (dats m 0 c).after 5 t = iblk m c 5 t := by dsimp only [dats]
/-- Window 6 is left as it was read. -/
theorem after6 (c : Dev nD) (t : Fin cfg0.N) : (dats m 0 c).after 6 t = iblk m c 6 t := by dsimp only [dats]
/-- Window 7 is left as it was read. -/
theorem after7 (c : Dev nD) (t : Fin cfg0.N) : (dats m 0 c).after 7 t = iblk m c 7 t := by dsimp only [dats]
/-- Window 8 is left as it was read. -/
theorem after8 (c : Dev nD) (t : Fin cfg0.N) : (dats m 0 c).after 8 t = iblk m c 8 t := by dsimp only [dats]
/-- Window 9 is left as it was read. -/
theorem after9 (c : Dev nD) (t : Fin cfg0.N) : (dats m 0 c).after 9 t = iblk m c 9 t := by dsimp only [dats]
/-- Window 10 is left as it was read. -/
theorem after10 (c : Dev nD) (t : Fin cfg0.N) : (dats m 0 c).after 10 t = iblk m c 10 t := by dsimp only [dats]
/-- Window 11 is left as it was read. -/
theorem after11 (c : Dev nD) (t : Fin cfg0.N) : (dats m 0 c).after 11 t = iblk m c 11 t := by dsimp only [dats]
/-- Window 12 is left as it was read. -/
theorem after12 (c : Dev nD) (t : Fin cfg0.N) : (dats m 0 c).after 12 t = iblk m c 12 t := by dsimp only [dats]
/-- Window 13 is left as it was read. -/
theorem after13 (c : Dev nD) (t : Fin cfg0.N) : (dats m 0 c).after 13 t = iblk m c 13 t := by dsimp only [dats]
/-- Window 14 is left as it was read. -/
theorem after14 (c : Dev nD) (t : Fin cfg0.N) : (dats m 0 c).after 14 t = iblk m c 14 t := by dsimp only [dats]
/-- Window 15 is left as it was read. -/
theorem after15 (c : Dev nD) (t : Fin cfg0.N) : (dats m 0 c).after 15 t = iblk m c 15 t := by dsimp only [dats]
/-- The output window holds the point's block of the result after the body. -/
theorem after16 (c : Dev nD) (t : Fin cfg0.N) : (dats m 0 c).after 16 t = oAt (arrs m c) (t.val / 128) (t.val / 16 % 8) (t.val % 16) := by dsimp only [dats]
/-- Window 0 holds its block of the argument before the body. -/
theorem bef0 (c : Dev nD) (t : Fin cfg0.N) (d) : (dats m 0 c).before 0 t d = iblk m c 0 t := before0_0_of m (dats m 0 c) (A_eq m c 0) (after0 m c) t d
/-- Window 1 holds its block of the argument before the body. -/
theorem bef1 (c : Dev nD) (t : Fin cfg0.N) (d) : (dats m 0 c).before 1 t d = iblk m c 1 t := before0_1_of m (dats m 0 c) (A_eq m c 1) (after1 m c) t d
/-- Window 2 holds its block of the argument before the body. -/
theorem bef2 (c : Dev nD) (t : Fin cfg0.N) (d) : (dats m 0 c).before 2 t d = iblk m c 2 t := before0_2_of m (dats m 0 c) (A_eq m c 2) (after2 m c) t d
/-- Window 3 holds its block of the argument before the body. -/
theorem bef3 (c : Dev nD) (t : Fin cfg0.N) (d) : (dats m 0 c).before 3 t d = iblk m c 3 t := before0_3_of m (dats m 0 c) (A_eq m c 3) (after3 m c) t d
/-- Window 4 holds its block of the argument before the body. -/
theorem bef4 (c : Dev nD) (t : Fin cfg0.N) (d) : (dats m 0 c).before 4 t d = iblk m c 4 t := before0_4_of m (dats m 0 c) (A_eq m c 4) (after4 m c) t d
/-- Window 5 holds its block of the argument before the body. -/
theorem bef5 (c : Dev nD) (t : Fin cfg0.N) (d) : (dats m 0 c).before 5 t d = iblk m c 5 t := before0_5_of m (dats m 0 c) (A_eq m c 5) (after5 m c) t d
/-- Window 6 holds its block of the argument before the body. -/
theorem bef6 (c : Dev nD) (t : Fin cfg0.N) (d) : (dats m 0 c).before 6 t d = iblk m c 6 t := before0_6_of m (dats m 0 c) (A_eq m c 6) (after6 m c) t d
/-- Window 7 holds its block of the argument before the body. -/
theorem bef7 (c : Dev nD) (t : Fin cfg0.N) (d) : (dats m 0 c).before 7 t d = iblk m c 7 t := before0_7_of m (dats m 0 c) (A_eq m c 7) (after7 m c) t d
/-- Window 8 holds its block of the argument before the body. -/
theorem bef8 (c : Dev nD) (t : Fin cfg0.N) (d) : (dats m 0 c).before 8 t d = iblk m c 8 t := before0_8_of m (dats m 0 c) (A_eq m c 8) (after8 m c) t d
/-- Window 9 holds its block of the argument before the body. -/
theorem bef9 (c : Dev nD) (t : Fin cfg0.N) (d) : (dats m 0 c).before 9 t d = iblk m c 9 t := before0_9_of m (dats m 0 c) (A_eq m c 9) (after9 m c) t d
/-- Window 10 holds its block of the argument before the body. -/
theorem bef10 (c : Dev nD) (t : Fin cfg0.N) (d) : (dats m 0 c).before 10 t d = iblk m c 10 t := before0_10_of m (dats m 0 c) (A_eq m c 10) (after10 m c) t d
/-- Window 11 holds its block of the argument before the body. -/
theorem bef11 (c : Dev nD) (t : Fin cfg0.N) (d) : (dats m 0 c).before 11 t d = iblk m c 11 t := before0_11_of m (dats m 0 c) (A_eq m c 11) (after11 m c) t d
/-- Window 12 holds its block of the argument before the body. -/
theorem bef12 (c : Dev nD) (t : Fin cfg0.N) (d) : (dats m 0 c).before 12 t d = iblk m c 12 t := before0_12_of m (dats m 0 c) (A_eq m c 12) (after12 m c) t d
/-- Window 13 holds its block of the argument before the body. -/
theorem bef13 (c : Dev nD) (t : Fin cfg0.N) (d) : (dats m 0 c).before 13 t d = iblk m c 13 t := before0_13_of m (dats m 0 c) (A_eq m c 13) (after13 m c) t d
/-- Window 14 holds its block of the argument before the body. -/
theorem bef14 (c : Dev nD) (t : Fin cfg0.N) (d) : (dats m 0 c).before 14 t d = iblk m c 14 t := before0_14_of m (dats m 0 c) (A_eq m c 14) (after14 m c) t d
/-- Window 15 holds its block of the argument before the body. -/
theorem bef15 (c : Dev nD) (t : Fin cfg0.N) (d) : (dats m 0 c).before 15 t d = iblk m c 15 t := before0_15_of m (dats m 0 c) (A_eq m c 15) (after15 m c) t d

/-- What is held before a point. -/
theorem Phi_cast (c : Dev nD) (t : Fin cfg0.N) : (dats m 0 c).Φ t.castSucc = PhiS m c t.val := by
  dsimp only [dats]; exact Pipeline.Dat.Φ_castSucc (fun n _ => PhiS m c n) t
/-- What is held after a point. -/
theorem Phi_succ (c : Dev nD) (t : Fin cfg0.N) : (dats m 0 c).Φ t.succ = PhiS m c (t.val + 1) := by
  dsimp only [dats]; rw [Fin.val_succ]

/-- What a point starts from: its windows' buffers and the scratches. -/
def preAt (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)))
/-- What a point ends with. -/
def postAt (c : Dev nD) (t : Fin cfg0.N) : sProp 𝕄 :=
  iprop((dats m 0 c).Φ t.succ ∗ (dats m 0 c).owesAt () t.succ ∗ (owns (c : Thread nD τ) (st0_0 t) fullShare ((dats m 0 c).after 0 t)) ∗ (owns (c : Thread nD τ) (st0_1 t) fullShare ((dats m 0 c).after 1 t)) ∗ (owns (c : Thread nD τ) (st0_2 t) fullShare ((dats m 0 c).after 2 t)) ∗ (owns (c : Thread nD τ) (st0_3 t) fullShare ((dats m 0 c).after 3 t)) ∗ (owns (c : Thread nD τ) (st0_4 t) fullShare ((dats m 0 c).after 4 t)) ∗ (owns (c : Thread nD τ) (st0_5 t) fullShare ((dats m 0 c).after 5 t)) ∗ (owns (c : Thread nD τ) (st0_6 t) fullShare ((dats m 0 c).after 6 t)) ∗ (owns (c : Thread nD τ) (st0_7 t) fullShare ((dats m 0 c).after 7 t)) ∗ (owns (c : Thread nD τ) (st0_8 t) fullShare ((dats m 0 c).after 8 t)) ∗ (owns (c : Thread nD τ) (st0_9 t) fullShare ((dats m 0 c).after 9 t)) ∗ (owns (c : Thread nD τ) (st0_10 t) fullShare ((dats m 0 c).after 10 t)) ∗ (owns (c : Thread nD τ) (st0_11 t) fullShare ((dats m 0 c).after 11 t)) ∗ (owns (c : Thread nD τ) (st0_12 t) fullShare ((dats m 0 c).after 12 t)) ∗ (owns (c : Thread nD τ) (st0_13 t) fullShare ((dats m 0 c).after 13 t)) ∗ (owns (c : Thread nD τ) (st0_14 t) fullShare ((dats m 0 c).after 14 t)) ∗ (owns (c : Thread nD τ) (st0_15 t) fullShare ((dats m 0 c).after 15 t)) ∗ (owns (c : Thread nD τ) (st0_16 t) fullShare ((dats m 0 c).after 16 t)))

set_option backward.isDefEq.respectTransparency.types false in
/-- The body at a point: from the inputs' blocks and the tracked scratches to the point's result. -/
theorem sound_body (c : Dev nD) (t : Fin cfg0.N) :
    preAt m c t ⊢ wp frame (wpE (defs₀ (F := F)) Variants.none (c : Thread nD τ) none) Set.univ (bodyAt0 t) (fun _ => postAt m c t) := by
  unfold preAt postAt bodyAt0
  simp only [bef0, bef1, bef2, bef3, bef4, bef5, bef6, bef7, bef8, bef9, bef10, bef11, bef12, bef13, bef14, bef15, after0, after1, after2, after3, after4, after5, after6, after7, after8, after9, after10, after11, after12, after13, after14, after15, after16, Phi_cast, Phi_succ]
  rw [show (dats m 0 c).owesAt () t.succ = (dats m 0 c).owesAt () t.castSucc from rfl]
  unfold owns PhiS
  iintro ⟨⟨Hr, %g20, %g21, %g22, %g23, %g24, %g25, %g26, %g27, H20, H21, H22, H23, H24, H25, H26, H27, %htr⟩, Hw, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  have hc := coord2 t
  iapply (wp_wand frame (wpE (defs₀ (F := F)) Variants.none (c : Thread nD τ) none) Set.univ) $$ [H3 H4 H5 H6 H7 H8 H9 H10 H11 H12 H13 H14 H15 H16 H17 H18 H19 H20 H21 H22 H23 H24 H25 H26 H27]
  · iapply (body_any Variants.none c none Set.univ (grid0.coords t) _ _ _ _ _ _ _ _ _ _ _ _ _ _ _ _ _ _ _ _ _ _ _ _ _ _ _ _ _ _ _ _ _ _ _ _ _ _ _ _ _ _ _ _ _ _ _ _ _ _ f3 f4 f5 f6 f7 f8 f9 f10 f11 f12 f13 f14 f15 f16 f17 f18 f19 g20 g21 g22 g23 g24 g25 g26 g27
      (qAt (arrs m c) (t.val / 128) (t.val / 16 % 8) (t.val % 16)) ?_ ?_)
    rotate_left 2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
    · intro h0
      rw [e3, e8, e9, e10, blk0, blk5, blk6, blk7]; rfl
    · intro h1
      obtain ⟨q1, -, q3⟩ := htr (by omega)
      exact ⟨q1.symm, q3⟩
  iintro %_ HP
  unfold bodyPost
  icases HP with ⟨%j19, %j20, %j21, %j22, %j23, %j24, %j25, %j26, %j27, K3, K4, K5, K6, K7, K8, K9, K10, K11, K12, K13, K14, K15, K16, K17, K18, K19, K20, K21, K22, K23, K24, K25, K26, K27, %hpo⟩
  rw [e4, e5, e6, e7, e8, e9, e10, e11, e12, e13, e14, e15, e16, e17, e18, blk1, blk2, blk3, blk4, blk5, blk6, blk7, blk8, blk9, blk10, blk11, blk12, blk13, blk14, blk15, hc] at hpo
  obtain ⟨ho, ht⟩ := track_step (arrs m c) t.val rfl (fun j hj => (htr (by omega)).2.1 j hj) hpo
  isplitl [Hr K20 K21 K22 K23 K24 K25 K26 K27]
  · isplitl [Hr]; · iexact Hr
    iexists _, _, _, _, _, _, _, _
    isplitl [K20]; · iexact K20
    isplitl [K21]; · iexact K21
    isplitl [K22]; · iexact K22
    isplitl [K23]; · iexact K23
    isplitl [K24]; · iexact K24
    isplitl [K25]; · iexact K25
    isplitl [K26]; · iexact K26
    isplitl [K27]; · iexact K27
    ipureintro
    exact ht
  isplitl [Hw]; · iexact Hw
  isplitl [K3]
  · iexists f3; isplitr; · ipureintro; exact e3
    iexact K3
  isplitl [K4]
  · iexists f4; isplitr; · ipureintro; exact e4
    iexact K4
  isplitl [K5]
  · iexists f5; isplitr; · ipureintro; exact e5
    iexact K5
  isplitl [K6]
  · iexists f6; isplitr; · ipureintro; exact e6
    iexact K6
  isplitl [K7]
  · iexists f7; isplitr; · ipureintro; exact e7
    iexact K7
  isplitl [K8]
  · iexists f8; isplitr; · ipureintro; exact e8
    iexact K8
  isplitl [K9]
  · iexists f9; isplitr; · ipureintro; exact e9
    iexact K9
  isplitl [K10]
  · iexists f10; isplitr; · ipureintro; exact e10
    iexact K10
  isplitl [K11]
  · iexists f11; isplitr; · ipureintro; exact e11
    iexact K11
  isplitl [K12]
  · iexists f12; isplitr; · ipureintro; exact e12
    iexact K12
  isplitl [K13]
  · iexists f13; isplitr; · ipureintro; exact e13
    iexact K13
  isplitl [K14]
  · iexists f14; isplitr; · ipureintro; exact e14
    iexact K14
  isplitl [K15]
  · iexists f15; isplitr; · ipureintro; exact e15
    iexact K15
  isplitl [K16]
  · iexists f16; isplitr; · ipureintro; exact e16
    iexact K16
  isplitl [K17]
  · iexists f17; isplitr; · ipureintro; exact e17
    iexact K17
  isplitl [K18]
  · iexists f18; isplitr; · ipureintro; exact e18
    iexact K18
  iexists j19; isplitr; · ipureintro; exact ho
  iexact K19

/-- The body that a point runs. -/
theorem defs₀_row (t : Fin cfg0.N) : defs₀ (F := F) .tc cfg0.body (cfg0.bodyArgs t (cfg0.slots t)) = bodyAt0 t := by
  unfold defs₀; rw [Defs.onTc_tc]

/-- Every point of the grid does its part. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Any scratch contents are tracked before the first point. -/
theorem phi_in (c : Dev nD) : (Pipeline.ΦA (Val := Elt F) (U := UR sig nD τ) spec0 c : sProp 𝕄) ⊢ PhiS m c 0 := by
  unfold Pipeline.ΦA PhiS
  rw [scopedRest0_eq]
  simp only [Memref.view_whole, View.read_whole, View.set_whole]
  iintro ⟨⟨⟨%g0, H0⟩, ⟨%g1, H1⟩, ⟨%g2, H2⟩, ⟨%g3, H3⟩, ⟨%g4, H4⟩, ⟨%g5, H5⟩, ⟨%g6, H6⟩, ⟨%g7, H7⟩⟩, Hr⟩
  isplitl [Hr]; · iexact Hr
  iexists g0, g1, g2, g3, g4, g5, g6, g7
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  ipureintro
  intro h; exact absurd rfl h

/-- The scratches forgotten after any point. -/
theorem phi_out (c : Dev nD) (k : ℕ) : PhiS m c k ⊢ (Pipeline.ΦA (Val := Elt F) (U := UR sig nD τ) spec0 c : sProp 𝕄) := by
  unfold Pipeline.ΦA PhiS
  rw [scopedRest0_eq]
  simp only [Memref.view_whole, View.read_whole, View.set_whole]
  iintro ⟨Hr, %g0, %g1, %g2, %g3, %g4, %g5, %g6, %g7, H0, H1, H2, H3, H4, H5, H6, H7, -⟩
  isplitr [Hr]
  · isplitl [H0]; · iexists g0; iexact H0
    isplitl [H1]; · iexists g1; iexact H1
    isplitl [H2]; · iexists g2; iexact H2
    isplitl [H3]; · iexists g3; iexact H3
    isplitl [H4]; · iexists g4; iexact H4
    isplitl [H5]; · iexists g5; iexact H5
    isplitl [H6]; · iexists g6; iexact H6
    iexists g7; iexact H7
  iexact Hr

set_option backward.isDefEq.respectTransparency.types false in
/-- The whole program runs, leaves the arrays as the proof data say, and its counters at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c) (hout := fun c => phi_out m c _)

end Cert.KernelIdeal.Diff

end
-- ==== Proof.Frames.lean ====
/- The idealized kernel's run as its claims read it: the result array as the blocks written, the arguments kept. -/
module

public import proofs.«01_k».proof.Proof.Run

@[expose] public section

set_option maxRecDepth 16384
set_option maxHeartbeats 4000000

noncomputable section

namespace Cert.KernelIdeal.Diff

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (ρ : Dev nD → PrngReg)

/-- The program runs; its result array is the blocks written, its arguments are kept and its counters end at zero. -/
theorem run_kept : θ_run (defs (F := F)) (onTc (τ := τ) (main (F := F))) ⟨m, fun _ => 0, ρ⟩ (fun r =>
    (∀ c : Dev nD, r.2.mem ((c.tc : Thread nD τ).loc main_v33) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run (defs (F := F)) _ _).mono (fun r hr => ⟨fun c =>
    ⟨(hr.1 c).1 16,
      ((hr.1 c).1 4).trans (((dats m 0 c).arrAt_in 4 rfl _).trans ((A_eq m c 4).trans (V_main_arg0 m c))),
      ((hr.1 c).1 11).trans (((dats m 0 c).arrAt_in 11 rfl _).trans ((A_eq m c 11).trans (V_main_arg1 m c))),
      ((hr.1 c).1 12).trans (((dats m 0 c).arrAt_in 12 rfl _).trans ((A_eq m c 12).trans (V_main_arg2 m c))),
      ((hr.1 c).1 13).trans (((dats m 0 c).arrAt_in 13 rfl _).trans ((A_eq m c 13).trans (V_main_arg3 m c))),
      ((hr.1 c).1 14).trans (((dats m 0 c).arrAt_in 14 rfl _).trans ((A_eq m c 14).trans (V_main_arg4 m c))),
      ((hr.1 c).1 15).trans (((dats m 0 c).arrAt_in 15 rfl _).trans ((A_eq m c 15).trans (V_main_arg5 m c)))⟩, hr.2⟩) (run_main m ρ)

end Cert.KernelIdeal.Diff

end
-- ==== Proof.Consts.lean ====
/- The float constants of the programs, as the extended reals they denote, and what the precondition says. -/
module

public import proofs.«01_k».proof.Defs
public import proofs.«01_k».proof.Proof.Gen.Pre_finite
public import Idealize.ShloMosaic.Lib.Pointwise

@[expose] public section

set_option maxRecDepth 16384
set_option maxHeartbeats 4000000

noncomputable section

namespace Cert.Soft

open Idealize.ShloMosaic

/-- The pattern of minus infinity. -/
theorem bits_neg_inf : Ideal.ofBits .f32 0xFF800000#32 = ⊥ := by simp [Ideal.ofBits, Ideal.ieee]
/-- The pattern of plus infinity. -/
theorem bits_inf : Ideal.ofBits .f32 0x7F800000#32 = ⊤ := by simp [Ideal.ofBits, Ideal.ieee]
/-- The pattern of one eighth. -/
theorem bits_eighth : Ideal.ofBits .f32 0x3E000000#32 = ((1 / 8 : ℝ) : EReal) := by
  simp [Ideal.ofBits, Ideal.ieee, -EReal.coe_mul]; norm_num
/-- The pattern of the rotation's base. -/
theorem bits_theta : Ideal.ofBits .f32 0x48F42400#32 = ((500000 : ℝ) : EReal) := by
  simp [Ideal.ofBits, Ideal.ieee, -EReal.coe_mul]; norm_num
/-- The pattern of the weight's offset is a real. -/
theorem bits_lam : ∃ r : ℝ, Ideal.ofBits .f32 0x3E4CCCCD#32 = (r : EReal) := by
  refine ⟨13421773 / 67108864, ?_⟩
  simp [Ideal.ofBits, Ideal.ieee, -EReal.coe_mul]; norm_num

/-- A conjunction over a finite set that is true is true of each. -/
theorem fold_andi {α : Type} (S : Finset α) (f : α → BitVec 1) (h : S.fold IntOp.andi (1#1) f = 1#1) : ∀ i ∈ S, f i = 1#1 := by
  classical
  induction S using Finset.induction_on with
  | empty => simp
  | insert a s ha ih =>
    rw [Finset.fold_insert ha] at h
    obtain ⟨h1, h2⟩ := IntOp.andi_eq_one.1 h
    intro i hi
    rcases Finset.mem_insert.1 hi with rfl | hi
    exacts [h1, ih h2 i hi]

/-- The same over a whole finite type. -/
theorem fold_andi_univ {α : Type} [Fintype α] (f : α → BitVec 1) (h : Finset.univ.fold IntOp.andi (1#1) f = 1#1) (i : α) : f i = 1#1 :=
  fold_andi _ f h i (Finset.mem_univ i)

/-- A value whose magnitude is below infinity is a real. -/
theorem real_of_abs {φ : FTy} (x : Ideal φ) (h : BitVec.ofBool (decide (FloatOps.absf x < (⊤ : EReal))) = 1#1) : ∃ r : ℝ, (x : EReal) = (r : EReal) := by
  have h' : max (x : EReal) (-(x : EReal)) < ⊤ := by
    by_contra hc
    rw [decide_eq_false (show ¬ FloatOps.absf x < (⊤ : EReal) from hc)] at h
    exact absurd h (by decide)
  rw [max_lt_iff] at h'
  refine ⟨(x : EReal).toReal, (EReal.coe_toReal (ne_of_lt h'.1) fun e => ?_).symm⟩
  rw [e] at h'
  exact absurd h'.2 (by simp)

open Cert.Pre_finite Cert.Pre_finite.Gen in
/-- Under the precondition the activations and the four lambda vectors are real. -/
theorem finite_of_pre (p : FVec Ideal S4x8192x12288 .bf16) (l1 l2 l3 l4 : FVec Ideal S1x64 .f32) (g : FVec Ideal S1x128 .f32)
    (h : Cert.Pre_finite.fn (F := Ideal) p l1 l2 l3 l4 g = fun _ => 1#1) :
    (∀ i, ∃ r : ℝ, p i = (r : EReal)) ∧ (∀ i, ∃ r : ℝ, l1 i = (r : EReal)) ∧ (∀ i, ∃ r : ℝ, l2 i = (r : EReal))
      ∧ (∀ i, ∃ r : ℝ, l3 i = (r : EReal)) ∧ (∀ i, ∃ r : ℝ, l4 i = (r : EReal)) := by
  have h0 := congrFun h (fun a => a.elim0)
  pointwise [Cert.Pre_finite.fn, Cert.Pre_finite.fn_part1] at h0
  rw [bits_inf] at h0
  obtain ⟨h0, a4⟩ := IntOp.andi_eq_one.1 h0
  obtain ⟨h0, a3⟩ := IntOp.andi_eq_one.1 h0
  obtain ⟨h0, a2⟩ := IntOp.andi_eq_one.1 h0
  obtain ⟨a0, a1⟩ := IntOp.andi_eq_one.1 h0
  refine ⟨fun i => ?_, fun i => ?_, fun i => ?_, fun i => ?_, fun i => ?_⟩
  · rw [eq_ix3 i]; exact real_of_abs _ (fold_andi_univ _ a0 (i 0, i 1, i 2))
  · rw [eq_ix2 i]; exact real_of_abs _ (fold_andi_univ _ a1 (i 0, i 1))
  · rw [eq_ix2 i]; exact real_of_abs _ (fold_andi_univ _ a2 (i 0, i 1))
  · rw [eq_ix2 i]; exact real_of_abs _ (fold_andi_univ _ a3 (i 0, i 1))
  · rw [eq_ix2 i]; exact real_of_abs _ (fold_andi_univ _ a4 (i 0, i 1))

end Cert.Soft

end
-- ==== Proof.Soft.lean ====
/- Real facts behind the attention: sums and maxima of masked scores as reals, and one step of the running softmax. -/
module

public import Idealize.ShloMosaic.Lib.Pointwise
public import Idealize.ShloMosaic.Lib.IdealHost

@[expose] public section

noncomputable section

namespace Cert.Soft

open Idealize.ShloMosaic

/-- A finite sum of reals, read as an extended real. -/
theorem coe_sum {α : Type} (s : Finset α) (f : α → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The largest of values that are never `⊤` and not all `⊥` is a real. -/
theorem fold_real {α : Type} (S : Finset α) (f : α → EReal) (h1 : ∀ i ∈ S, f i ≠ ⊤) (h2 : ∃ i ∈ S, f i ≠ ⊥) :
    ∃ μ : ℝ, S.fold max ⊥ f = (μ : EReal) := by
  have t : S.fold max ⊥ f < ⊤ := (Finset.fold_max_lt _).2 ⟨bot_lt_top, fun i hi => lt_top_iff_ne_top.2 (h1 i hi)⟩
  obtain ⟨i, hi, hb⟩ := h2
  have b : ⊥ < S.fold max ⊥ f := (Finset.lt_fold_max _).2 (Or.inr ⟨i, hi, bot_lt_iff_ne_bot.2 hb⟩)
  exact ⟨_, (EReal.coe_toReal (ne_of_lt t) (ne_of_gt b)).symm⟩

/-- A score, or `⊥` where it is masked. -/
def msk (c : Prop) [Decidable c] (t : ℝ) : EReal := if c then (t : EReal) else ⊥

/-- A masked score is never `⊤`. -/
theorem msk_ne_top (c : Prop) [Decidable c] (t : ℝ) : msk c t ≠ ⊤ := by
  unfold msk; split <;> simp

/-- The exponential of a shifted masked score: zero where masked. -/
theorem exp_msk (c : Prop) [Decidable c] (t μ : ℝ) : Ideal.exp (msk c t - (μ : EReal)) = ((if c then Real.exp (t - μ) else 0 : ℝ) : EReal) := by
  unfold msk
  split
  · rw [← EReal.coe_sub]; rfl
  · rw [EReal.bot_sub]; rfl

/-- The same to base two. -/
theorem exp2_msk (c : Prop) [Decidable c] (t μ : ℝ) : Ideal.exp2 (msk c t - (μ : EReal)) = ((if c then (2 : ℝ) ^ (t - μ) else 0 : ℝ) : EReal) := by
  unfold msk
  split
  · rw [← EReal.coe_sub]; rfl
  · rw [EReal.bot_sub]; rfl

/-- Two to a difference of reals. -/
theorem exp2_sub (a b : ℝ) : Ideal.exp2 ((a : EReal) - (b : EReal)) = (((2 : ℝ) ^ (a - b) : ℝ) : EReal) := by
  rw [← EReal.coe_sub]; rfl

/-- A quotient of reals by a real that is not zero. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The weighted sum of the unmasked powers over the keys before tile `n + 1`. -/
def tot (i : ℕ) (t w : ℕ → ℝ) (n : ℕ) : ℝ := ∑ j ∈ Finset.range n, if j ≤ i then (2 : ℝ) ^ (t j) * w j else 0

/-- The part of a tile. -/
theorem tile_sum (i : ℕ) (t w : ℕ → ℝ) (k : ℕ) (μ : ℝ) :
    ∑ x : Fin 512, Ideal.exp2 (msk (k + x.val ≤ i) (t (k + x.val)) - (μ : EReal)) * ((w (k + x.val) : ℝ) : EReal)
      = ((2 ^ (-μ) * (tot i t w (k + 512) - tot i t w k) : ℝ) : EReal) := by
  unfold tot
  rw [Finset.sum_range_add, add_sub_cancel_left, Finset.sum_range (fun x => if k + x ≤ i then (2 : ℝ) ^ (t (k + x)) * w (k + x) else 0),
    Finset.mul_sum, coe_sum]
  refine Finset.sum_congr rfl fun x _ => ?_
  rw [exp2_msk, ← EReal.coe_mul]
  congr 1
  split
  · rw [sub_eq_add_neg, Real.rpow_add two_pos]; ring
  · simp

/-- The first tile: its maximum is a real and the sums start. -/
theorem first_step (i : ℕ) (t : ℕ → ℝ) (s : Fin 512 → EReal) (hs : ∀ x, s x = msk (0 + x.val ≤ i) (t (0 + x.val))) :
    ∃ μ : ℝ, Finset.univ.fold max ⊥ s = (μ : EReal) ∧ ∀ w : ℕ → ℝ,
      ∑ x : Fin 512, Ideal.exp2 (s x - (μ : EReal)) * ((w (0 + x.val) : ℝ) : EReal) = ((2 ^ (-μ) * tot i t w 512 : ℝ) : EReal) := by
  obtain ⟨μ, hμ⟩ := fold_real Finset.univ s (fun x _ => by rw [hs]; exact msk_ne_top _ _) ⟨⟨0, by decide⟩, Finset.mem_univ _, by
    rw [hs]; unfold msk; rw [if_pos (by simp)]; exact EReal.coe_ne_bot _⟩
  refine ⟨μ, hμ, fun w => ?_⟩
  have h := tile_sum i t w 0 μ
  have z : tot i t w 0 = 0 := by unfold tot; simp
  rw [z, sub_zero, Nat.zero_add] at h
  rw [← h]
  exact Finset.sum_congr rfl fun x _ => by rw [hs]

/-- One more tile: the maximum stays a real and the sums, rescaled, go on. -/
theorem next_step (i : ℕ) (t : ℕ → ℝ) (k : ℕ) (hk : k ≤ i) (s : Fin 512 → EReal) (hs : ∀ x, s x = msk (k + x.val ≤ i) (t (k + x.val))) (μ : ℝ) :
    ∃ μ' : ℝ, max (μ : EReal) (Finset.univ.fold max ⊥ s) = (μ' : EReal) ∧ ∀ w : ℕ → ℝ,
      Ideal.exp2 ((μ : EReal) - (μ' : EReal)) * ((2 ^ (-μ) * tot i t w k : ℝ) : EReal)
        + ∑ x : Fin 512, Ideal.exp2 (s x - (μ' : EReal)) * ((w (k + x.val) : ℝ) : EReal) = ((2 ^ (-μ') * tot i t w (k + 512) : ℝ) : EReal) := by
  obtain ⟨ν, hν⟩ := fold_real Finset.univ s (fun x _ => by rw [hs]; exact msk_ne_top _ _) ⟨⟨0, by decide⟩, Finset.mem_univ _, by
    rw [hs]; unfold msk; rw [if_pos (by simpa using hk)]; exact EReal.coe_ne_bot _⟩
  refine ⟨max μ ν, by rw [hν]; exact (EReal.coe_strictMono.monotone.map_max).symm, fun w => ?_⟩
  have h := tile_sum i t w k (max μ ν)
  have e : ∑ x : Fin 512, Ideal.exp2 (s x - ((max μ ν : ℝ) : EReal)) * ((w (k + x.val) : ℝ) : EReal)
      = ∑ x : Fin 512, Ideal.exp2 (msk (k + x.val ≤ i) (t (k + x.val)) - ((max μ ν : ℝ) : EReal)) * ((w (k + x.val) : ℝ) : EReal) :=
    Finset.sum_congr rfl fun x _ => by rw [hs]
  rw [e, h, exp2_sub, ← EReal.coe_mul, ← EReal.coe_add]
  congr 1
  have p : (2 : ℝ) ^ (μ - max μ ν) * 2 ^ (-μ) = 2 ^ (-max μ ν) := by
    rw [← Real.rpow_add two_pos]; congr 1; ring
  rw [← mul_assoc, p]; ring

/-- The reference's row of probabilities: the largest score is a real, and the shift by it cancels. -/
theorem soft_row (n : ℕ) (i : ℕ) (hi : i < n) (s : ℕ → ℝ) (μ : ℝ) :
    (∑ j : Fin n, Ideal.exp (msk (j.val ≤ i) (s j.val) - (μ : EReal)) = ((Real.exp (-μ) * ∑ j ∈ Finset.range n, if j ≤ i then Real.exp (s j) else 0 : ℝ) : EReal))
    ∧ 0 < ∑ j ∈ Finset.range n, (if j ≤ i then Real.exp (s j) else 0)
    ∧ ∀ j : ℕ, Ideal.div (Ideal.exp (msk (j ≤ i) (s j) - (μ : EReal))) ((Real.exp (-μ) * ∑ j ∈ Finset.range n, if j ≤ i then Real.exp (s j) else 0 : ℝ) : EReal)
      = (((if j ≤ i then Real.exp (s j) else 0) / ∑ j ∈ Finset.range n, (if j ≤ i then Real.exp (s j) else 0) : ℝ) : EReal) := by
  have pos : 0 < ∑ j ∈ Finset.range n, (if j ≤ i then Real.exp (s j) else 0) :=
    Finset.sum_pos' (fun j _ => by split <;> [exact (Real.exp_pos _).le; exact le_rfl])
      ⟨i, Finset.mem_range.2 hi, by rw [if_pos le_rfl]; exact Real.exp_pos _⟩
  have sh : ∀ j : ℕ, (if j ≤ i then Real.exp (s j - μ) else 0) = Real.exp (-μ) * (if j ≤ i then Real.exp (s j) else 0) := fun j => by
    split
    · rw [sub_eq_add_neg, Real.exp_add, mul_comm]
    · simp
  refine ⟨?_, pos, fun j => ?_⟩
  · rw [Finset.mul_sum, Finset.sum_range (fun j => Real.exp (-μ) * (if j ≤ i then Real.exp (s j) else 0)), coe_sum]
    exact Finset.sum_congr rfl fun j _ => by rw [exp_msk, sh]
  · rw [exp_msk, sh, div_coe _ _ (mul_pos (Real.exp_pos _) pos).ne', mul_div_mul_left _ _ (Real.exp_pos _).ne']

end Cert.Soft

end
-- ==== Proof.Spec.lean ====
/- The differential attention over the reals: rotation, scores, causal weights, and the difference of the two attentions. -/
module

public import proofs.«01_k».proof.Proof.Consts
public import proofs.«01_k».proof.Proof.Soft
public import Idealize.ShloMosaic.Lib.Pointwise

@[expose] public section

set_option maxRecDepth 16384

noncomputable section

namespace Cert.Soft

open Idealize.ShloMosaic

/-- The rotation's angle at position `s`, pair `d`. -/
def ang (s d : ℕ) : ℝ := (s : ℝ) * (1 / Real.rpow 500000 ((d : ℝ) * (1 / 8)))
/-- Its cosine. -/
def cs (s d : ℕ) : ℝ := Real.cos (ang s d)
/-- Its sine. -/
def sn (s d : ℕ) : ℝ := Real.sin (ang s d)
/-- The rotation of the first 16 of 64 lanes, pairs eight apart. -/
def rp (x : ℕ → ℝ) (s d : ℕ) : ℝ :=
  if d < 8 then x d * cs s d - x (d + 8) * sn s d else if d < 16 then x d * cs s (d - 8) + x (d - 8) * sn s (d - 8) else x d

/-- The score of query `i` and key `j`: batch `b`, head `h`, component `e`. -/
def dot (x : ℕ → ℕ → ℕ → ℝ) (b h e i j : ℕ) : ℝ :=
  ∑ d ∈ Finset.range 64, rp (fun d => x b i (128 * (36 + h) + 64 * e + d)) i d * rp (fun d => x b j (128 * (44 + h) + 64 * e + d)) j d
/-- The causal weight. -/
def wt (x : ℕ → ℕ → ℕ → ℝ) (b h e i j : ℕ) : ℝ := if j ≤ i then Real.exp (dot x b h e i j * (1 / 8)) else 0
/-- The attention of component `e` at lane `d`. -/
def att (x : ℕ → ℕ → ℕ → ℝ) (b h e i d : ℕ) : ℝ :=
  (∑ j ∈ Finset.range 8192, wt x b h e i j * x b j (128 * (52 + h) + d)) / ∑ j ∈ Finset.range 8192, wt x b h e i j
/-- The differential attention. -/
def dif (x : ℕ → ℕ → ℕ → ℝ) (lam : ℝ) (b h i d : ℕ) : ℝ := att x b h 0 i d - lam * att x b h 1 i d

/-- A small count read as a signed word and made a float is itself. -/
theorem sitofp_small (n : ℕ) (h : n < 8192) : (FloatOps.sitofp .f32 (BitVec.ofNat 32 n) : Ideal .f32) = (((n : ℝ)) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e]; simp

/-- The angle as the programs compute it. -/
theorem ang_coe (s d : ℕ) (hs : s < 8192) (hd : d < 8) :
    ((FloatOps.sitofp .f32 (BitVec.ofNat 32 s) : Ideal .f32) : EReal) * Ideal.div 1 (Ideal.pow (Ideal.ofBits .f32 1223959552#32)
      ((FloatOps.sitofp .f32 (BitVec.ofNat 32 d) : Ideal .f32) * Ideal.ofBits .f32 1040187392#32)) = ((ang s d : ℝ) : EReal) := by
  rw [sitofp_small s hs, sitofp_small d (by omega), show Ideal.ofBits .f32 1223959552#32 = _ from bits_theta,
    show Ideal.ofBits .f32 1040187392#32 = _ from bits_eighth]
  have e : Ideal.pow ((500000 : ℝ) : EReal) ((((d : ℝ)) : EReal) * ((1 / 8 : ℝ) : EReal)) = ((Real.rpow 500000 ((d : ℝ) * (1 / 8)) : ℝ) : EReal) := by
    rw [← EReal.coe_mul]; rfl
  have p : Real.rpow 500000 ((d : ℝ) * (1 / 8)) ≠ 0 := (Real.rpow_pos_of_pos (by norm_num) _).ne'
  have q := div_coe 1 _ p
  erw [e]
  rw [show (1 : EReal) = ((1 : ℝ) : EReal) from rfl, q, ← EReal.coe_mul]
  rfl

/-- Cosine and sine of a real. -/
theorem cos_ang (s d : ℕ) : Ideal.cos ((ang s d : ℝ) : EReal) = ((cs s d : ℝ) : EReal) := rfl
/-- The sine of an angle. -/
theorem sin_ang (s d : ℕ) : Ideal.sin ((ang s d : ℝ) : EReal) = ((sn s d : ℝ) : EReal) := rfl

end Cert.Soft

end
-- ==== Proof.Fold.lean ====
/- The running maximum and sums of a row of queries, as reals: the maximum is a real, the sums are the weighted
   sums of the unmasked powers over the tiles met, scaled by two to minus the maximum. -/
module

public import proofs.«01_k».proof.Proof.Spec
public import proofs.«01_k».proof.Proof.Vals

@[expose] public section

set_option maxRecDepth 16384
set_option maxHeartbeats 4000000

noncomputable section

namespace Cert.KernelIdeal.Diff

open Idealize.ShloMosaic Cert.Soft
open Cert.KernelIdeal Cert.KernelIdeal.Gen

/-- A base-two exponential at the extended reals. -/
theorem exp2_ideal (x : Ideal .f32) : (FloatOps.exp2 x : Ideal .f32) = Ideal.exp2 x := rfl

/-- The values' column `l` of the first 128, ones for the other 128. -/
def wcol (y : ℕ → ℕ → ℝ) (l : ℕ) : ℕ → ℝ := fun j => if l < 128 then y j l else 1

/-- A row after the first tile. -/
theorem first_row (s : FVec Ideal S1024x512 .f32) (v : FVec Ideal S1x512x128 .bf16) (r : Fin 1024) (i : ℕ) (t : ℕ → ℝ) (y : ℕ → ℕ → ℝ)
    (hs : ∀ x : Fin 512, (s (ix2 r x) : EReal) = msk (0 + x.val ≤ i) (t (0 + x.val)))
    (hv : ∀ (x : Fin 512) (l : Fin 128), (v (ix3 0 x l) : EReal) = ((y (0 + x.val) l.val : ℝ) : EReal)) :
    ∃ μ : ℝ, (∀ l : Fin 128, (firstM (F := Ideal) s (ix2 r l) : EReal) = (μ : EReal))
      ∧ ∀ l : Fin 256, (firstA (F := Ideal) s v (ix2 r l) : EReal) = ((2 ^ (-μ) * tot i t (wcol y l.val) 512 : ℝ) : EReal) := by
  obtain ⟨μ, hμ, hw⟩ := first_step i t (fun x => s (ix2 r x)) hs
  refine ⟨μ, fun l => ?_, fun l => ?_⟩
  · pointwise [firstM, k0_pay109, k0_pay107]
    rw [show Ideal.ofBits .f32 4286578688#32 = ⊥ from bits_neg_inf]
    exact hμ
  · pointwise [firstA, k0_pay108, k0_pay107]
    rw [show Ideal.ofBits .f32 4286578688#32 = ⊥ from bits_neg_inf]
    simp only [hμ, dite_eq_ite, ite_self, exp2_ideal]
    rw [← hw (wcol y l.val)]
    refine Finset.sum_congr rfl fun x _ => ?_
    congr 1
    unfold wcol
    split
    · exact hv x _
    · exact EReal.coe_one.symm

/-- A row after one more tile. -/
theorem next_row (s : FVec Ideal S1024x512 .f32) (v : FVec Ideal S1x512x128 .bf16) (m : FVec Ideal S1024x128 .f32) (a : FVec Ideal S1024x256 .f32)
    (r : Fin 1024) (i k : ℕ) (hk : k ≤ i) (t : ℕ → ℝ) (y : ℕ → ℕ → ℝ) (μ : ℝ)
    (hs : ∀ x : Fin 512, (s (ix2 r x) : EReal) = msk (k + x.val ≤ i) (t (k + x.val)))
    (hv : ∀ (x : Fin 512) (l : Fin 128), (v (ix3 0 x l) : EReal) = ((y (k + x.val) l.val : ℝ) : EReal))
    (hm : ∀ l : Fin 128, (m (ix2 r l) : EReal) = (μ : EReal))
    (ha : ∀ l : Fin 256, (a (ix2 r l) : EReal) = ((2 ^ (-μ) * tot i t (wcol y l.val) k : ℝ) : EReal)) :
    ∃ μ' : ℝ, (∀ l : Fin 128, (updM (F := Ideal) s m (ix2 r l) : EReal) = (μ' : EReal))
      ∧ ∀ l : Fin 256, (updA (F := Ideal) s v m a (ix2 r l) : EReal) = ((2 ^ (-μ') * tot i t (wcol y l.val) (k + 512) : ℝ) : EReal) := by
  obtain ⟨μ', hμ, hw⟩ := next_step i t k hk (fun x => s (ix2 r x)) hs μ
  refine ⟨μ', fun l => ?_, fun l => ?_⟩
  · pointwise [updM, k0_pay116, k0_pay114]
    rw [show Ideal.ofBits .f32 4286578688#32 = ⊥ from bits_neg_inf, hm]
    exact hμ
  · pointwise [updA, k0_pay115, k0_pay114]
    rw [show Ideal.ofBits .f32 4286578688#32 = ⊥ from bits_neg_inf]
    simp only [hm, hμ, dite_eq_ite, ite_self, exp2_ideal]
    rw [← hw (wcol y l.val), ha]
    congr 1
    refine Finset.sum_congr rfl fun x _ => ?_
    congr 1
    unfold wcol
    split
    · exact hv x _
    · exact EReal.coe_one.symm

/-- A row after tiles `0 … k`. -/
theorem st_row (s : ℕ → FVec Ideal S1024x512 .f32) (v : ℕ → FVec Ideal S1x512x128 .bf16) (r : Fin 1024) (i n : ℕ) (hn : 512 * n ≤ i) (t : ℕ → ℝ) (y : ℕ → ℕ → ℝ)
    (hs : ∀ j ≤ n, ∀ x : Fin 512, (s j (ix2 r x) : EReal) = msk (512 * j + x.val ≤ i) (t (512 * j + x.val)))
    (hv : ∀ j ≤ n, ∀ (x : Fin 512) (l : Fin 128), (v j (ix3 0 x l) : EReal) = ((y (512 * j + x.val) l.val : ℝ) : EReal)) (k : ℕ) (hk : k ≤ n) :
    ∃ μ : ℝ, (∀ l : Fin 128, ((st (F := Ideal) s v k).1 (ix2 r l) : EReal) = (μ : EReal))
      ∧ ∀ l : Fin 256, ((st (F := Ideal) s v k).2 (ix2 r l) : EReal) = ((2 ^ (-μ) * tot i t (wcol y l.val) (512 * (k + 1)) : ℝ) : EReal) := by
  induction k with
  | zero =>
    have h1 := hs 0 (Nat.zero_le _)
    have h2 := hv 0 (Nat.zero_le _)
    rw [Nat.mul_zero] at h1 h2
    rw [Nat.zero_add, Nat.mul_one]
    simp only [st]
    exact first_row (s 0) (v 0) r i t y h1 h2
  | succ k ih =>
    obtain ⟨μ, h1, h2⟩ := ih (by omega)
    rw [Nat.mul_add 512 (k + 1) 1, Nat.mul_one]
    simp only [st]
    exact next_row (s (k + 1)) (v (k + 1)) _ _ r i (512 * (k + 1)) (by omega) t y μ (hs _ hk) (hv _ hk) h1 h2

end Cert.KernelIdeal.Diff

end
-- ==== Proof.Scores.lean ====
/- The kernel's rotated queries and keys and its masked scores, as reals. -/
module

public import proofs.«01_k».proof.Proof.Fold
public import proofs.«01_k».proof.Proof.Track
public import Idealize.ShloMosaic.Lib.WordCmp

@[expose] public section

set_option maxRecDepth 16384
set_option maxHeartbeats 4000000

noncomputable section

namespace Cert.KernelIdeal.Diff

open Idealize.ShloMosaic Cert.Soft
open Cert.KernelIdeal Cert.KernelIdeal.Gen

/-- The cosine table's entry. -/
def tC (s l : ℕ) : ℝ := if l % 64 < 8 then cs s (l % 64) else if l % 64 < 16 then cs s (l % 64 - 8) else 1
/-- The first sine table's entry. -/
def tS (s l : ℕ) : ℝ := if l % 64 < 8 then -sn s (l % 64) else 0
/-- The second sine table's entry. -/
def tU (s l : ℕ) : ℝ := if l % 64 < 8 then 0 else if l % 64 < 16 then sn s (l % 64 - 8) else 0

/-- The rotation by rolled lanes and tables is the rotation of each 64 lanes. -/
theorem rot_eq (y : ℕ → ℝ) (s l : ℕ) (hl : l < 128) :
    y l * tC s l + y ((l + 128 - 120) % 128) * tS s l + y ((l + 128 - 8) % 128) * tU s l = rp (fun d => y (64 * (l / 64) + d)) s (l % 64) := by
  unfold rp tC tS tU
  have e0 : 64 * (l / 64) + l % 64 = l := by omega
  by_cases h1 : l % 64 < 8
  · have e1 : (l + 128 - 120) % 128 = 64 * (l / 64) + (l % 64 + 8) := by omega
    simp only [h1, if_true, e0, e1]; ring
  · by_cases h2 : l % 64 < 16
    · have e1 : (l + 128 - 8) % 128 = 64 * (l / 64) + (l % 64 - 8) := by omega
      simp only [h1, h2, if_true, if_false, e0, e1]; ring
    · simp only [h1, h2, if_false, e0]; ring

/-- The scale of the scores, to base two. -/
def sc2 : ℝ := (1 / 8) * (Real.log 2)⁻¹

/-- The scale constant is `1/8` over the logarithm of 2. -/
theorem scale_val : (Named.named (F := Ideal) Cert.KernelIdeal.κ "scale" (φ := .f32) 1043900987#32 : EReal) = ((sc2 : ℝ) : EReal) :=
  IdealRules.named_const.ideal_named_scalar Cert.KernelIdeal.κ "scale" _ _ rfl
/-- The mask constant is `⊥`. -/
theorem mask_val : (Named.named (F := Ideal) Cert.KernelIdeal.κ "mask" (φ := .f32) 4051697664#32 : EReal) = ⊥ :=
  IdealRules.named_const.ideal_named_scalar Cert.KernelIdeal.κ "mask" _ _ rfl

section
variable (q : FVec Ideal S1x512x128 .bf16) (c s1 s2 : FVec Ideal S512x128 .f32) (r : Fin 512) (s : ℕ) (y : ℕ → ℝ)
  (hq : ∀ l : Fin 128, (q (ix3 0 r l) : EReal) = ((y l.val : ℝ) : EReal))
  (hc : ∀ l : Fin 128, (c (ix2 r l) : EReal) = ((tC s l.val : ℝ) : EReal))
  (h1 : ∀ l : Fin 128, (s1 (ix2 r l) : EReal) = ((tS s l.val : ℝ) : EReal))
  (h2 : ∀ l : Fin 128, (s2 (ix2 r l) : EReal) = ((tU s l.val : ℝ) : EReal))
include hq hc h1 h2

/-- The first component's rotated query, zero on the second's lanes. -/
theorem lo_at (l : Fin 128) : (k0_pay105 (F := Ideal) q c s1 s2 (ix2 r l) : EReal)
    = ((if l.val < 64 then rp (fun d => y (64 * (l.val / 64) + d)) s (l.val % 64) * sc2 else 0 : ℝ) : EReal) := by
  pointwise [k0_pay105, k0_pay104]
  rw [show (64#32) = BitVec.ofNat 32 64 from rfl, WordCmp.cmpi_slt_ofNat (by omega) (by omega), scale_val]
  simp only [hq, hc, h1, h2, ← EReal.coe_mul, ← EReal.coe_add]
  rw [rot_eq y s l.val l.isLt]
  by_cases h : l.val < 64
  · rw [if_pos h, decide_eq_true h]; rfl
  · rw [if_neg h, decide_eq_false h]; exact EReal.coe_zero.symm

/-- The second component's rotated query, zero on the first's lanes. -/
theorem hi_at (l : Fin 128) : (k0_pay106 (F := Ideal) q c s1 s2 (ix2 r l) : EReal)
    = ((if 64 ≤ l.val then rp (fun d => y (64 * (l.val / 64) + d)) s (l.val % 64) * sc2 else 0 : ℝ) : EReal) := by
  pointwise [k0_pay106, k0_pay104]
  rw [show (64#32) = BitVec.ofNat 32 64 from rfl, WordCmp.cmpi_sge_ofNat (by omega) (by omega), scale_val]
  simp only [hq, hc, h1, h2, ← EReal.coe_mul, ← EReal.coe_add]
  rw [rot_eq y s l.val l.isLt]
  by_cases h : 64 ≤ l.val
  · rw [if_pos h, decide_eq_true h]; rfl
  · rw [if_neg h, decide_eq_false h]; exact EReal.coe_zero.symm

/-- The rotated key. -/
theorem key_at (l : Fin 128) : (kT (F := Ideal) q c s1 s2 (ix2 r l) : EReal)
    = ((rp (fun d => y (64 * (l.val / 64) + d)) s (l.val % 64) : ℝ) : EReal) := by
  pointwise [kT, k0_pay101]
  simp only [hq, hc, h1, h2, ← EReal.coe_mul, ← EReal.coe_add]
  rw [rot_eq y s l.val l.isLt]
end

/-- The arrays hold the reals `x` and the rotation tables. -/
structure Reads (X : Arrs Ideal) (x : ℕ → ℕ → ℕ → ℝ) : Prop where
  p : ∀ (a : Fin 4) (b : Fin 8192) (c : Fin 12288), (X.p (ix3 a b c) : EReal) = ((x a.val b.val c.val : ℝ) : EReal)
  c : ∀ (s : Fin 8192) (l : Fin 128), (X.c (ix2 s l) : EReal) = ((tC s.val l.val : ℝ) : EReal)
  s1 : ∀ (s : Fin 8192) (l : Fin 128), (X.s1 (ix2 s l) : EReal) = ((tS s.val l.val : ℝ) : EReal)
  s2 : ∀ (s : Fin 8192) (l : Fin 128), (X.s2 (ix2 s l) : EReal) = ((tU s.val l.val : ℝ) : EReal)

variable {X : Arrs Ideal} {x : ℕ → ℕ → ℕ → ℝ} (H : Reads X x)
include H

/-- A block of the activations, as reals. -/
theorem pB_at (b cb n : ℕ) (hb : b < 4) (hcb : cb < 96) (hn : n < 16) (r : Fin 512) (l : Fin 128) :
    (pB X.p b cb n (ix3 0 r l) : EReal) = ((x b (512 * n + r.val) (128 * cb + l.val) : ℝ) : EReal) := by
  refine (H.p _ _ _).trans ?_
  show ((x (b % 4) ((512 * n + r.val) % 8192) ((128 * cb + l.val) % 12288) : ℝ) : EReal) = _
  rw [Nat.mod_eq_of_lt hb, Nat.mod_eq_of_lt (by omega), Nat.mod_eq_of_lt (by omega)]

/-- A block of the tables, as reals. -/
theorem tB_at (n : ℕ) (hn : n < 16) (r : Fin 512) (l : Fin 128) :
    (tB X.c n (ix2 r l) : EReal) = ((tC (512 * n + r.val) l.val : ℝ) : EReal)
      ∧ (tB X.s1 n (ix2 r l) : EReal) = ((tS (512 * n + r.val) l.val : ℝ) : EReal)
      ∧ (tB X.s2 n (ix2 r l) : EReal) = ((tU (512 * n + r.val) l.val : ℝ) : EReal) := by
  have e : (512 * n + r.val) % 8192 = 512 * n + r.val := Nat.mod_eq_of_lt (by omega)
  refine ⟨(H.c _ _).trans ?_, (H.s1 _ _).trans ?_, (H.s2 _ _).trans ?_⟩
  · show ((tC ((512 * n + r.val) % 8192) l.val : ℝ) : EReal) = _; rw [e]
  · show ((tS ((512 * n + r.val) % 8192) l.val : ℝ) : EReal) = _; rw [e]
  · show ((tU ((512 * n + r.val) % 8192) l.val : ℝ) : EReal) = _; rw [e]

/-- The split query block: row `r` holds component `r / 512` of query `512 n + r % 512`, zero on the other's lanes. -/
theorem qAt_at (b h n : ℕ) (hb : b < 4) (hh : h < 8) (hn : n < 16) (r : Fin 1024) (l : Fin 128) :
    (qAt X b h n (ix2 r l) : EReal) = ((if l.val / 64 = r.val / 512 then
      rp (fun d => x b (512 * n + r.val % 512) (128 * (36 + h) + 64 * (r.val / 512) + d)) (512 * n + r.val % 512) (l.val % 64) * sc2 else 0 : ℝ) : EReal) := by
  show (if g : r.val < 512 then k0_pay105 (F := Ideal) _ _ _ _ (ix2 (n0 := 512) (n1 := 128) ⟨r.val, g⟩ l) else k0_pay106 (F := Ideal) _ _ _ _ (ix2 (n0 := 512) (n1 := 128) ⟨r.val - 512, _⟩ l) : EReal) = _
  have key : ∀ (e i : ℕ), l.val / 64 = e → rp (fun d => x b i (128 * (36 + h) + (64 * (l.val / 64) + d))) i (l.val % 64) = rp (fun d => x b i (128 * (36 + h) + 64 * e + d)) i (l.val % 64) := fun e i he => by
    simp only [he, Nat.add_assoc]
  split
  · rename_i g
    rw [lo_at _ _ _ _ ⟨r.val, g⟩ (512 * n + r.val) (fun d => x b (512 * n + r.val) (128 * (36 + h) + d))
      (fun l => pB_at H b (36 + h) n hb (by omega) hn _ l) (fun l => (tB_at H n hn _ l).1) (fun l => (tB_at H n hn _ l).2.1) (fun l => (tB_at H n hn _ l).2.2) l]
    have e1 : r.val % 512 = r.val := by omega
    have e2 : r.val / 512 = 0 := by omega
    rw [e1, e2]
    by_cases hl : l.val < 64
    · rw [if_pos hl, if_pos (by omega), key 0 _ (by omega)]
    · rw [if_neg hl, if_neg (by omega)]
  · rename_i g
    have hr := r.isLt
    rw [hi_at _ _ _ _ ⟨r.val - 512, by omega⟩ (512 * n + (r.val - 512)) (fun d => x b (512 * n + (r.val - 512)) (128 * (36 + h) + d))
      (fun l => pB_at H b (36 + h) n hb (by omega) hn _ l) (fun l => (tB_at H n hn _ l).1) (fun l => (tB_at H n hn _ l).2.1) (fun l => (tB_at H n hn _ l).2.2) l]
    have e1 : r.val % 512 = r.val - 512 := by omega
    have e2 : r.val / 512 = 1 := by omega
    rw [e1, e2]
    by_cases hl : 64 ≤ l.val
    · rw [if_pos hl, if_pos (by omega), key 1 _ (by omega)]
    · rw [if_neg hl, if_neg (by omega)]

/-- A rotated key tile, as reals. -/
theorem kAt_at (b h j : ℕ) (hb : b < 4) (hh : h < 8) (hj : j < 16) (y : Fin 512) (l : Fin 128) :
    (kAt X b h j (ix2 y l) : EReal) = ((rp (fun d => x b (512 * j + y.val) (128 * (44 + h) + 64 * (l.val / 64) + d)) (512 * j + y.val) (l.val % 64) : ℝ) : EReal) := by
  refine (key_at _ _ _ _ y (512 * j + y.val) (fun d => x b (512 * j + y.val) (128 * (44 + h) + d))
      (fun l => pB_at H b (44 + h) j hb (by omega) hj _ l) (fun l => (tB_at H j hj _ l).1) (fun l => (tB_at H j hj _ l).2.1) (fun l => (tB_at H j hj _ l).2.2) l).trans ?_
  simp only [Nat.add_assoc]

omit H in
/-- The dot product over 128 lanes of which one component's 64 count. -/
theorem split_sum (A : ℕ → ℝ) (B : ℕ → ℕ → ℝ) (k : ℝ) (e : ℕ) (he : e < 2) :
    ∑ l : Fin 128, (if l.val / 64 = e then A (l.val % 64) * k else 0) * B (l.val / 64) (l.val % 64) = (∑ d ∈ Finset.range 64, A d * B e d) * k := by
  rw [← Finset.sum_range (fun l => (if l / 64 = e then A (l % 64) * k else 0) * B (l / 64) (l % 64)),
    show (128 : ℕ) = 64 + 64 from rfl, Finset.sum_range_add, Finset.sum_mul]
  have h0 : ∀ d ∈ Finset.range 64, (if d / 64 = e then A (d % 64) * k else 0) * B (d / 64) (d % 64) = if e = 0 then A d * B e d * k else 0 := fun d hd => by
    have := Finset.mem_range.1 hd
    rw [show d / 64 = 0 by omega, show d % 64 = d by omega]
    rcases (by omega : e = 0 ∨ e = 1) with rfl | rfl
    · simp; ring
    · simp
  have h1 : ∀ d ∈ Finset.range 64, (if (64 + d) / 64 = e then A ((64 + d) % 64) * k else 0) * B ((64 + d) / 64) ((64 + d) % 64) = if e = 1 then A d * B e d * k else 0 := fun d hd => by
    have := Finset.mem_range.1 hd
    rw [show (64 + d) / 64 = 1 by omega, show (64 + d) % 64 = d by omega]
    rcases (by omega : e = 0 ∨ e = 1) with rfl | rfl
    · simp
    · simp; ring
  rw [Finset.sum_congr rfl h0, Finset.sum_congr rfl h1]
  rcases (by omega : e = 0 ∨ e = 1) with rfl | rfl <;> simp

/-- A score, to base two. -/
theorem score_at (b h n j : ℕ) (hb : b < 4) (hh : h < 8) (hn : n < 16) (hj : j < 16) (r : Fin 1024) (y : Fin 512) :
    (scoreT (F := Ideal) (qAt X b h n) (kAt X b h j) (ix2 r y) : EReal) = ((dot x b h (r.val / 512) (512 * n + r.val % 512) (512 * j + y.val) * sc2 : ℝ) : EReal) := by
  pointwise [scoreT, k0_pay16]
  simp only [qAt_at H b h n hb hh hn, kAt_at H b h j hb hh hj, ← EReal.coe_mul, ← coe_sum]
  rw [split_sum (fun d => rp (fun d => x b (512 * n + r.val % 512) (128 * (36 + h) + 64 * (r.val / 512) + d)) (512 * n + r.val % 512) d)
    (fun e d => rp (fun d => x b (512 * j + y.val) (128 * (44 + h) + 64 * e + d)) (512 * j + y.val) d) sc2 (r.val / 512) (by omega)]
  rfl

omit H in
/-- The low nine bits of a row's number. -/
theorem and_511 (r : ℕ) (hr : r < 1024) : IntOp.andi (BitVec.ofNat 32 r) 511#32 = BitVec.ofNat 32 (r % 512) := by
  apply BitVec.eq_of_toNat_eq
  show (BitVec.ofNat 32 r &&& 511#32).toNat = _
  rw [BitVec.toNat_and, BitVec.toNat_ofNat, BitVec.toNat_ofNat, BitVec.toNat_ofNat, Nat.mod_eq_of_lt (by omega : r < 2 ^ 32)]
  show r &&& (2 ^ 9 - 1) = _
  rw [Nat.and_two_pow_sub_one_eq_mod]
  omega

omit H in
/-- The diagonal tile's mask. -/
theorem mask_at (s : FVec Ideal S1024x512 .f32) (r : Fin 1024) (y : Fin 512) :
    (maskT (F := Ideal) s (ix2 r y) : EReal) = if y.val ≤ r.val % 512 then s (ix2 r y) else (⊥ : EReal) := by
  pointwise [maskT, k0_pay127, k0_pay98, k0_pay99]
  have e0 : IntOp.addi (BitVec.ofNat 32 y.val) 0#32 = BitVec.ofNat 32 y.val := BitVec.add_zero _
  rw [e0, and_511 r.val r.isLt, WordCmp.cmpi_sle_ofNat (by omega) (by omega), mask_val]
  by_cases h : y.val ≤ r.val % 512
  · rw [if_pos h, decide_eq_true h]; rfl
  · rw [if_neg h, decide_eq_false h]; rfl

/-- A masked score of query block `n` and key tile `j`. -/
theorem sAt_at (b h n j : ℕ) (hb : b < 4) (hh : h < 8) (hn : n < 16) (hj : j ≤ n) (r : Fin 1024) (y : Fin 512) :
    (sAt X b h n j (ix2 r y) : EReal) = msk (512 * j + y.val ≤ 512 * n + r.val % 512) (dot x b h (r.val / 512) (512 * n + r.val % 512) (512 * j + y.val) * sc2) := by
  unfold sAt msk
  by_cases e : j = n
  · subst e
    rw [if_pos rfl, mask_at, score_at H b h j j hb hh hn hn]
    by_cases g : y.val ≤ r.val % 512
    · rw [if_pos g, if_pos (by omega)]
    · rw [if_neg g, if_neg (by omega)]
  · rw [if_neg e, if_pos (by omega), score_at H b h n j hb hh hn (by omega)]

/-- A value tile, as reals. -/
theorem vT_at (b h j : ℕ) (hb : b < 4) (hh : h < 8) (hj : j < 16) (y : Fin 512) (l : Fin 128) :
    (vT (vB X.p b (52 + h)) j (ix3 0 y l) : EReal) = ((x b (512 * j + y.val) (128 * (52 + h) + l.val) : ℝ) : EReal) := by
  refine (H.p _ _ _).trans ?_
  show ((x (b % 4) ((512 * j + y.val) % 8192) ((128 * (52 + h) + l.val) % 12288) : ℝ) : EReal) = _
  rw [Nat.mod_eq_of_lt hb, Nat.mod_eq_of_lt (by omega), Nat.mod_eq_of_lt (by omega)]

end Cert.KernelIdeal.Diff

end
-- ==== Proof.Attn.lean ====
/- What the kernel writes: the difference of the two attentions, as reals, and the block made of it. -/
module

public import proofs.«01_k».proof.Proof.Scores

@[expose] public section

set_option maxRecDepth 16384
set_option maxHeartbeats 4000000

noncomputable section

namespace Cert.Soft

open Idealize.ShloMosaic

/-- Two to the scaled score is the exponential of the score's eighth. -/
theorem two_pow_scale (a : ℝ) : (2 : ℝ) ^ (a * ((1 / 8) * (Real.log 2)⁻¹)) = Real.exp (a * (1 / 8)) := by
  rw [Real.rpow_def_of_pos two_pos]
  congr 1
  have : Real.log 2 ≠ 0 := (Real.log_pos one_lt_two).ne'
  field_simp

/-- The keys after the query add nothing. -/
theorem tot_eq (x : ℕ → ℕ → ℕ → ℝ) (b h e i N : ℕ) (hN : i < N) (hN' : N ≤ 8192) (w : ℕ → ℝ) :
    tot i (fun j => dot x b h e i j * ((1 / 8) * (Real.log 2)⁻¹)) w N = ∑ j ∈ Finset.range 8192, wt x b h e i j * w j := by
  unfold tot
  rw [show (8192 : ℕ) = N + (8192 - N) by omega, Finset.sum_range_add]
  have z : ∑ j ∈ Finset.range (8192 - N), wt x b h e i (N + j) * w (N + j) = 0 := Finset.sum_eq_zero fun j _ => by
    unfold wt; rw [if_neg (by omega), zero_mul]
  rw [z, add_zero]
  refine Finset.sum_congr rfl fun j _ => ?_
  unfold wt
  rw [two_pow_scale]
  split <;> simp

/-- The weights' sum is positive. -/
theorem wt_pos (x : ℕ → ℕ → ℕ → ℝ) (b h e i : ℕ) (hi : i < 8192) : 0 < ∑ j ∈ Finset.range 8192, wt x b h e i j :=
  Finset.sum_pos' (fun j _ => by unfold wt; split <;> [exact (Real.exp_pos _).le; exact le_rfl])
    ⟨i, Finset.mem_range.2 hi, by unfold wt; rw [if_pos le_rfl]; exact Real.exp_pos _⟩

/-- The weight of the second attention, from the four vectors. -/
def lamE (l1 l2 l3 l4 : Fin 64 → EReal) : EReal :=
  Ideal.exp (∑ x, l1 x * l2 x) - Ideal.exp (∑ x, l3 x * l4 x) + Ideal.ofBits .f32 1045220557#32

/-- It is a real where the vectors are. -/
theorem lam_real (l1 l2 l3 l4 : Fin 64 → EReal) (h1 : ∀ i, ∃ r : ℝ, l1 i = (r : EReal)) (h2 : ∀ i, ∃ r : ℝ, l2 i = (r : EReal))
    (h3 : ∀ i, ∃ r : ℝ, l3 i = (r : EReal)) (h4 : ∀ i, ∃ r : ℝ, l4 i = (r : EReal)) : ∃ lam : ℝ, lamE l1 l2 l3 l4 = (lam : EReal) := by
  choose a1 h1 using h1
  choose a2 h2 using h2
  choose a3 h3 using h3
  choose a4 h4 using h4
  obtain ⟨k, hk⟩ := bits_lam
  refine ⟨Real.exp (∑ x, a1 x * a2 x) - Real.exp (∑ x, a3 x * a4 x) + k, ?_⟩
  unfold lamE
  rw [show Ideal.ofBits .f32 1045220557#32 = _ from hk]
  simp only [h1, h2, h3, h4, ← EReal.coe_mul, ← coe_sum]
  rfl

/-- The end of the layer on a row of 128 values: normalise, weigh, scale and gate. -/
def fin (D : Fin 128 → EReal) (l : Fin 128) (g z : EReal) : EReal :=
  D l * Ideal.rsqrt (Ideal.div (∑ x, D x * D x) (Ideal.ofBits .f32 1124073472#32) + Ideal.ofBits .f32 897988541#32) * g
    * Ideal.ofBits .f32 1061997773#32 * (z * Ideal.div 1 (1 + Ideal.exp (-z)))

end Cert.Soft

namespace Cert.KernelIdeal.Diff

open Idealize.ShloMosaic Cert.Soft
open Cert.KernelIdeal Cert.KernelIdeal.Gen

/-- The written block from the difference. -/
theorem outT_at (a : FVec Ideal S1024x256 .f32) (l1 l2 l3 l4 : FVec Ideal S1x64 .f32) (g : FVec Ideal S1x128 .f32) (z : FVec Ideal S1x512x128 .bf16)
    (r : Fin 512) (l : Fin 128) (D : Fin 128 → EReal) (hD : ∀ l, (k0_pay131 (F := Ideal) a l1 l2 l3 l4 (ix2 r l) : EReal) = D l) :
    (outT (F := Ideal) a l1 l2 l3 l4 g z (ix3 0 r l) : EReal) = fin D l (g (ix2 0 l)) (z (ix3 0 r l)) := by
  pointwise [outT, k0_pay1, k0_pay132]
  simp only [hD]
  rfl

variable {X : Arrs Ideal} {x : ℕ → ℕ → ℕ → ℝ} (H : Reads X x)
include H

/-- A row's quotient is its attention. -/
theorem quot_at (b h n : ℕ) (hb : b < 4) (hh : h < 8) (hn : n < 16) (r : Fin 1024) (l : Fin 128) :
    (Ideal.div ((st (F := Ideal) (sAt X b h n) (vT (vB X.p b (52 + h))) n).2 (ix2 (n0 := 1024) (n1 := 256) r ⟨l.val, by omega⟩))
      ((st (F := Ideal) (sAt X b h n) (vT (vB X.p b (52 + h))) n).2 (ix2 (n0 := 1024) (n1 := 256) r ⟨128 + l.val, by omega⟩)) : EReal)
      = ((att x b h (r.val / 512) (512 * n + r.val % 512) l.val : ℝ) : EReal) := by
  obtain ⟨μ, -, hA⟩ := st_row (sAt X b h n) (vT (vB X.p b (52 + h))) r (512 * n + r.val % 512) n (by omega)
    (fun j => dot x b h (r.val / 512) (512 * n + r.val % 512) j * sc2) (fun j l => x b j (128 * (52 + h) + l))
    (fun j hj y => sAt_at H b h n j hb hh hn hj r y) (fun j hj y l => vT_at H b h j hb hh (by omega) y l) n le_rfl
  rw [hA, hA]
  unfold sc2
  rw [tot_eq x b h _ _ _ (by omega) (by omega), tot_eq x b h _ _ _ (by omega) (by omega)]
  have e1 : wcol (fun j l => x b j (128 * (52 + h) + l)) l.val = fun j => x b j (128 * (52 + h) + l.val) := by
    unfold wcol; simp only [l.isLt, if_true]
  have e2 : wcol (fun j l => x b j (128 * (52 + h) + l)) (128 + l.val) = fun j => 1 := by
    unfold wcol; simp only [show ¬ 128 + l.val < 128 by omega, if_false]
  have pp := wt_pos x b h (r.val / 512) (512 * n + r.val % 512) (by omega)
  have p2 : (0 : ℝ) < 2 ^ (-μ) := Real.rpow_pos_of_pos two_pos _
  simp only [e1, e2, mul_one]
  rw [div_coe _ _ (mul_pos p2 pp).ne', mul_div_mul_left _ _ p2.ne']
  rfl

/-- The difference of the two attentions. -/
theorem diff_at (b h n : ℕ) (hb : b < 4) (hh : h < 8) (hn : n < 16) (lam : ℝ)
    (hl : lamE (fun i => X.l1 (ix2 0 i)) (fun i => X.l2 (ix2 0 i)) (fun i => X.l3 (ix2 0 i)) (fun i => X.l4 (ix2 0 i)) = (lam : EReal)) (r : Fin 512) (l : Fin 128) :
    (k0_pay131 (F := Ideal) (st (F := Ideal) (sAt X b h n) (vT (vB X.p b (52 + h))) n).2 X.l1 X.l2 X.l3 X.l4 (ix2 r l) : EReal)
      = ((dif x lam b h (512 * n + r.val) l.val : ℝ) : EReal) := by
  have q0 := quot_at H b h n hb hh hn ⟨r.val, by omega⟩ l
  have q1 := quot_at H b h n hb hh hn ⟨512 + r.val, by omega⟩ l
  generalize (st (F := Ideal) (sAt X b h n) (vT (vB X.p b (52 + h))) n).2 = a at q0 q1 ⊢
  pointwise [k0_pay131]
  unfold lamE at hl
  rw [hl]
  have e0 : r.val / 512 = 0 := by omega
  have e1 : r.val % 512 = r.val := by omega
  have e2 : (512 + r.val) / 512 = 1 := by omega
  have e3 : (512 + r.val) % 512 = r.val := by omega
  simp only [e0, e1] at q0
  simp only [e2, e3] at q1
  refine (congrArg₂ (fun u v : EReal => u - (lam : EReal) * v) q0 q1).trans ?_
  rw [← EReal.coe_mul, ← EReal.coe_sub]
  rfl

/-- The block written, at an index. -/
theorem oAt_at (b h n : ℕ) (hb : b < 4) (hh : h < 8) (hn : n < 16) (lam : ℝ)
    (hl : lamE (fun i => X.l1 (ix2 0 i)) (fun i => X.l2 (ix2 0 i)) (fun i => X.l3 (ix2 0 i)) (fun i => X.l4 (ix2 0 i)) = (lam : EReal)) (r : Fin 512) (l : Fin 128) :
    (oAt X b h n (ix3 0 r l) : EReal) = fin (fun l => ((dif x lam b h (512 * n + r.val) l.val : ℝ) : EReal)) l (X.g (ix2 0 l))
      ((x b (512 * n + r.val) (128 * (60 + h) + l.val) : ℝ) : EReal) := by
  unfold oAt
  rw [outT_at _ _ _ _ _ _ _ r l _ (fun l => diff_at H b h n hb hh hn lam hl r l), pB_at H b (60 + h) n hb (by omega) hn]

end Cert.KernelIdeal.Diff

end
-- ==== Proof.RefVal.lean ====
module
public import proofs.«01_k».proof.Proof.Attn
public import proofs.«01_k».proof.Proof.Gen.ReferenceIdeal.Run
@[expose] public section
set_option maxRecDepth 16384
set_option maxHeartbeats 4000000
/-! # The reference's value

What the reference computes, entry by entry: rotated queries and keys, masked scores, the softmax, the
difference of the two components, and the normalised, gated result. -/
noncomputable section
namespace Cert.ReferenceIdeal.Diff
open Idealize.ShloMosaic Idealize.ShloMosaic.TcCoe Cert.Soft
open Cert.ReferenceIdeal Cert.ReferenceIdeal.Gen Cert.ReferenceIdeal.Value

/-- Rotated rows, cut into heads and components. -/
def rot (a b : FVec Ideal S4x8192x16x8 .f32) (c s : FVec Ideal S8192x1x8 .f32) (y : FVec Ideal S4x8192x16x64 .f32) : FVec Ideal S4x8192x8x2x64 .f32 :=
  shapeCast _ (concatenate S4x8192x16x64 3 [⟨S4x8192x16x16, (concatenate S4x8192x16x16 3 [⟨S4x8192x16x8, (subf (mulf a (broadcastInDim S4x8192x16x8 ![0, 1, 2, 3] bcast_S1x8192x1x8_S4x8192x16x8_0_1_2_3 (broadcastInDim S1x8192x1x8 ![1, 2, 3] bcast_S8192x1x8_S1x8192x1x8_1_2_3 c))) (mulf b (broadcastInDim S4x8192x16x8 ![0, 1, 2, 3] bcast_S1x8192x1x8_S4x8192x16x8_0_1_2_3 (broadcastInDim S1x8192x1x8 ![1, 2, 3] bcast_S8192x1x8_S1x8192x1x8_1_2_3 s))))⟩, ⟨S4x8192x16x8, (addf (mulf b (broadcastInDim S4x8192x16x8 ![0, 1, 2, 3] bcast_S1x8192x1x8_S4x8192x16x8_0_1_2_3 (broadcastInDim S1x8192x1x8 ![1, 2, 3] bcast_S8192x1x8_S1x8192x1x8_1_2_3 c))) (mulf a (broadcastInDim S4x8192x16x8 ![0, 1, 2, 3] bcast_S1x8192x1x8_S4x8192x16x8_0_1_2_3 (broadcastInDim S1x8192x1x8 ![1, 2, 3] bcast_S8192x1x8_S1x8192x1x8_1_2_3 s))))⟩] concatenates_S4x8192x16x8_S4x8192x16x8_S4x8192x16x16_d3)⟩, ⟨S4x8192x16x48, (extractStridedSlice S4x8192x16x48 ![0, 0, 0, 16] y slices_S4x8192x16x64_S4x8192x16x48_0_0_0_16)⟩] concatenates_S4x8192x16x16_S4x8192x16x48_S4x8192x16x64_d3) shapeCasts_S4x8192x16x64_S4x8192x8x2x64

/-- Every entry of the rotated rows is the real rotation of the row. -/
theorem rot_at (a b : FVec Ideal S4x8192x16x8 .f32) (c s : FVec Ideal S8192x1x8 .f32) (y : FVec Ideal S4x8192x16x64 .f32) (f : ℕ → ℕ → ℕ → ℝ)
    (hy : ∀ (z : Fin 4) (i : Fin 8192) (k : Fin 16) (d : Fin 64), (y (ix4 z i k d) : EReal) = ((f z i (64 * k.val + d.val) : ℝ) : EReal))
    (ha : ∀ (z : Fin 4) (i : Fin 8192) (k : Fin 16) (d : Fin 8), (a (ix4 z i k d) : EReal) = ((f z i (64 * k.val + d.val) : ℝ) : EReal))
    (hb : ∀ (z : Fin 4) (i : Fin 8192) (k : Fin 16) (d : Fin 8), (b (ix4 z i k d) : EReal) = ((f z i (64 * k.val + (d.val + 8)) : ℝ) : EReal))
    (hc : ∀ (i : Fin 8192) (d : Fin 8), (c (ix3 i 0 d) : EReal) = ((cs i d : ℝ) : EReal))
    (hs : ∀ (i : Fin 8192) (d : Fin 8), (s (ix3 i 0 d) : EReal) = ((sn i d : ℝ) : EReal))
    (z : Fin 4) (h : Fin 8) (e : Fin 2) (i : Fin 8192) (d : Fin 64) :
    (rot a b c s y (ix5 z i h e d) : EReal) = ((rp (fun d => f z i (64 * (h.val * 2 + e.val) + d)) i d : ℝ) : EReal) := by
  pointwise [rot]
  unfold rp
  by_cases h1 : d.val < 8
  · have h2 : d.val < 16 := by omega
    simp only [h1, h2, if_true, dif_pos]
    rw [ha, hb, hc, hs, ← EReal.coe_mul, ← EReal.coe_mul, ← EReal.coe_sub]
  · by_cases h2 : d.val < 16
    · simp only [h1, h2, if_true, dif_pos, if_false, dif_neg, not_false_eq_true]
      have e8 : d.val - 8 + 8 = d.val := by omega
      rw [ha, hb, hc, hs, ← EReal.coe_mul, ← EReal.coe_mul, ← EReal.coe_add]
      simp only [e8]
    · simp only [h1, h2, if_false, dif_neg, not_false_eq_true]
      have e16 : 16 + (d.val - 16) = d.val := by omega
      rw [hy]
      simp only [e16]

/-- The masked, scaled scores of queries and keys. -/
def sco (A B : FVec Ideal S4x8192x8x2x64 .f32) : FVec Ideal S4x8x2x8192x8192 .f32 :=
  select (broadcastInDim S4x8x2x8192x8192 ![3, 4] bcast_S8192x8192_S4x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S4x8192x8x2x64_S4x8192x8x2x64_S4x8x2x8192x8192_4_4_1_1_023_023 none A B) (broadcastInDim S4x8x2x8192x8192 ![] bcast_S_S4x8x2x8192x8192 (constant S_ .f32 0x3E000000#32))) (broadcastInDim S4x8x2x8192x8192 ![] bcast_S_S4x8x2x8192x8192 (constant S_ .f32 0xFF800000#32))

/-- A score is the scaled product of its query and key, or `⊥` where the key is later than the query. -/
theorem sco_at (A B : FVec Ideal S4x8192x8x2x64 .f32) (p q : ℕ → ℝ) (b : Fin 4) (h : Fin 8) (e : Fin 2) (i j : Fin 8192)
    (hA : ∀ d : Fin 64, (A (ix5 b i h e d) : EReal) = ((p d : ℝ) : EReal)) (hB : ∀ d : Fin 64, (B (ix5 b j h e d) : EReal) = ((q d : ℝ) : EReal)) :
    (sco A B (ix5 b h e i j) : EReal) = msk (j.val ≤ i.val) ((∑ d ∈ Finset.range 64, p d * q d) * (1 / 8)) := by
  pointwise [sco]
  rw [show Ideal.ofBits .f32 1040187392#32 = _ from bits_eighth, show Ideal.ofBits .f32 4286578688#32 = _ from bits_neg_inf]
  have s : ∑ d : Fin 64, (A (ix5 b i h e d) : EReal) * B (ix5 b j h e d) = ((∑ d ∈ Finset.range 64, p d * q d : ℝ) : EReal) := by
    rw [Finset.sum_range (fun d => p d * q d), coe_sum]
    exact Finset.sum_congr rfl fun d _ => by rw [hA, hB, EReal.coe_mul]
  erw [s]
  rw [← EReal.coe_mul, WordCmp.cmpi_sle_ofNat (by omega) (by omega)]
  unfold msk
  by_cases hj : j.val ≤ i.val
  · rw [if_pos hj, decide_eq_true hj]; rfl
  · rw [if_neg hj, decide_eq_false hj]; rfl

/-- The largest score of every row. -/
def top (s : FVec Ideal S4x8x2x8192x8192 .f32) : FVec Ideal S4x8x2x8192 .f32 :=
  Host.reduce FloatOps.maximumf s (constant S_ .f32 0xFF800000#32) reducesTo_S4x8x2x8192x8192_S4x8x2x8192_d4 h_S_

/-- It is the fold of the row's maximum. -/
theorem top_at (s : FVec Ideal S4x8x2x8192x8192 .f32) (b : Fin 4) (h : Fin 8) (e : Fin 2) (i : Fin 8192) :
    (top s (ix4 b h e i) : EReal) = Finset.fold max (Ideal.ofBits .f32 4286578688#32) (fun x => s (ix5 b h e i x)) Finset.univ := by
  pointwise [top]

/-- The exponentials of scores less a value for each row. -/
def exq (s : FVec Ideal S4x8x2x8192x8192 .f32) (M : FVec Ideal S4x8x2x8192 .f32) : FVec Ideal S4x8x2x8192x8192 .f32 :=
  Host.exp (subf s (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (maximumf (broadcastInDim S4x8x2x8192 ![] bcast_S_S4x8x2x8192 (constant S_ .f32 0xFF800000#32)) M))))

/-- An exponential at an index. -/
theorem exq_at (s : FVec Ideal S4x8x2x8192x8192 .f32) (M : FVec Ideal S4x8x2x8192 .f32) (b : Fin 4) (h : Fin 8) (e : Fin 2) (i j : Fin 8192) :
    (exq s M (ix5 b h e i j) : EReal) = Ideal.exp (s (ix5 b h e i j) - max (Ideal.ofBits .f32 4286578688#32) (M (ix4 b h e i))) := by
  pointwise [exq]

/-- The weights: exponentials over the sum of their row. -/
def wts (s : FVec Ideal S4x8x2x8192x8192 .f32) : FVec Ideal S4x8x2x8192x8192 .f32 :=
  Host.divf s (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd s (constant S_ .f32 0x00000000#32) reducesTo_S4x8x2x8192x8192_S4x8x2x8192_d4 h_S_)))

/-- A weight at an index. -/
theorem wts_at (s : FVec Ideal S4x8x2x8192x8192 .f32) (b : Fin 4) (h : Fin 8) (e : Fin 2) (i j : Fin 8192) :
    (wts s (ix5 b h e i j) : EReal) = Ideal.div (s (ix5 b h e i j)) (∑ x : Fin 8192, s (ix5 b h e i x)) := by
  pointwise [wts]

/-- The weights of rows of masked real scores are the causal softmax. -/
theorem soft_at (s : FVec Ideal S4x8x2x8192x8192 .f32) (p : ℕ → ℝ) (b : Fin 4) (h : Fin 8) (e : Fin 2) (i j : Fin 8192)
    (hs : ∀ j : Fin 8192, (s (ix5 b h e i j) : EReal) = msk (j.val ≤ i.val) (p j)) :
    (wts (exq s (top s)) (ix5 b h e i j) : EReal) = (((if j.val ≤ i.val then Real.exp (p j) else 0) / ∑ j ∈ Finset.range 8192, (if j ≤ i.val then Real.exp (p j) else 0) : ℝ) : EReal) := by
  obtain ⟨μ, hμ⟩ := fold_real (Finset.univ : Finset (Fin 8192)) (fun x => (s (ix5 b h e i x) : EReal))
    (fun x _ => by rw [hs]; exact msk_ne_top _ _) ⟨i, Finset.mem_univ _, by rw [hs]; unfold msk; rw [if_pos le_rfl]; exact EReal.coe_ne_bot _⟩
  have q : ∀ j : Fin 8192, (exq s (top s) (ix5 b h e i j) : EReal) = Ideal.exp (msk (j.val ≤ i.val) (p j) - (μ : EReal)) := fun j => by
    have t := top_at s b h e i
    rw [show Ideal.ofBits .f32 4286578688#32 = _ from bits_neg_inf] at t
    rw [exq_at, hs, t.trans hμ, show Ideal.ofBits .f32 4286578688#32 = _ from bits_neg_inf, max_eq_right bot_le]
  obtain ⟨t, _, w⟩ := soft_row 8192 i.val i.isLt p μ
  generalize exq s (top s) = y at q ⊢
  rw [wts_at, q j, (Finset.sum_congr rfl fun x _ => q x).trans t]
  exact w j.val

/-- The values under the difference of the two components' weights. -/
def mix (v : FVec Ideal S4x8192x12288 .bf16) (p : FVec Ideal S4x8x2x8192x8192 .f32) (l : FVec Ideal S_ .f32) : FVec Ideal S4x8192x8x128 .f32 :=
  transpose S4x8192x8x128 [0, 3, 1, 2] (Host.dotGeneral dot_S4x8192x8x128_S4x8x8192x8192_S4x8x128x8192_1_3_3_2_02_01 none (shapeCast _ (extf .f32 (extractStridedSlice S4x8192x1024 ![0, 0, 6656] v slices_S4x8192x12288_S4x8192x1024_0_0_6656) bitsLt_bf16_f32) shapeCasts_S4x8192x1024_S4x8192x8x128) (subf (shapeCast _ (extractStridedSlice S4x8x1x8192x8192 ![0, 0, 0, 0, 0] p slices_S4x8x2x8192x8192_S4x8x1x8192x8192_0_0_0_0_0) shapeCasts_S4x8x1x8192x8192_S4x8x8192x8192) (mulf (broadcastInDim S4x8x8192x8192 ![] bcast_S_S4x8x8192x8192 l) (shapeCast _ (extractStridedSlice S4x8x1x8192x8192 ![0, 0, 1, 0, 0] p slices_S4x8x2x8192x8192_S4x8x1x8192x8192_0_0_1_0_0) shapeCasts_S4x8x1x8192x8192_S4x8x8192x8192)))) transposes_S4x8x128x8192_S4x8192x8x128_0_3_1_2

/-- The mixed values at an index are the differential attention. -/
theorem mix_at (v : FVec Ideal S4x8192x12288 .bf16) (p : FVec Ideal S4x8x2x8192x8192 .f32) (l : FVec Ideal S_ .f32) (x : ℕ → ℕ → ℕ → ℝ) (lam : ℝ)
    (hv : ∀ (b : Fin 4) (i : Fin 8192) (k : Fin 12288), (v (ix3 b i k) : EReal) = ((x b i k : ℝ) : EReal)) (hl : (l ix0 : EReal) = (lam : EReal))
    (hp : ∀ (b : Fin 4) (h : Fin 8) (e : Fin 2) (i j : Fin 8192), (p (ix5 b h e i j) : EReal) = ((wt x b h e i j / ∑ j ∈ Finset.range 8192, wt x b h e i j : ℝ) : EReal))
    (b : Fin 4) (i : Fin 8192) (h : Fin 8) (d : Fin 128) : (mix v p l (ix4 b i h d) : EReal) = ((dif x lam b h i d : ℝ) : EReal) := by
  pointwise [mix]
  have s : ∀ j : Fin 8192, (v (ix3 b j ⟨6656 + (h.val * 128 + d.val), by omega⟩) : EReal) * (p (ix5 b h 0 i j) - l ix0 * p (ix5 b h 1 i j))
      = ((x b j (128 * (52 + h.val) + d.val) * (wt x b h 0 i j / (∑ j ∈ Finset.range 8192, wt x b h 0 i j) - lam * (wt x b h 1 i j / ∑ j ∈ Finset.range 8192, wt x b h 1 i j)) : ℝ) : EReal) := fun j => by
    rw [hv, hp, hp, hl, ← EReal.coe_mul, ← EReal.coe_sub, ← EReal.coe_mul]
    have n : 6656 + (h.val * 128 + d.val) = 128 * (52 + h.val) + d.val := by omega
    simp only [n]
    rfl
  refine (Finset.sum_congr rfl fun j _ => s j).trans ?_
  rw [← coe_sum, ← Finset.sum_range (fun j => x b j (128 * (52 + h.val) + d.val) * (wt x b h 0 i j / (∑ j ∈ Finset.range 8192, wt x b h 0 i j) - lam * (wt x b h 1 i j / ∑ j ∈ Finset.range 8192, wt x b h 1 i j)))]
  unfold dif att
  rw [Finset.sum_div, Finset.sum_div, Finset.mul_sum, ← Finset.sum_sub_distrib]
  exact congrArg _ (Finset.sum_congr rfl fun j _ => by ring)

/-- The end of the layer: normalise, weigh, scale and gate. -/
def fno (t : FVec Ideal S4x8192x8x128 .f32) (g : FVec Ideal S1x128 .f32) (z : FVec Ideal S4x8192x1024 .f32) : FVec Ideal S4x8192x1024 .bf16 :=
  truncf .bf16 (mulf (shapeCast _ (mulf (mulf (mulf t (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf t t) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32)))))) (broadcastInDim S4x8192x8x128 ![0, 1, 2, 3] bcast_S1x1x1x128_S4x8192x8x128_0_1_2_3 (broadcastInDim S1x1x1x128 ![3] bcast_S128_S1x1x1x128_3 (shapeCast _ g shapeCasts_S1x128_S128)))) (broadcastInDim S4x8192x8x128 ![] bcast_S_S4x8192x8x128 (constant S_ .f32 0x3F4CCCCD#32))) shapeCasts_S4x8192x8x128_S4x8192x1024) (mulf z (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf z)))))) bitsLt_bf16_f32

/-- The result at an index. -/
theorem fno_at (t : FVec Ideal S4x8192x8x128 .f32) (g : FVec Ideal S1x128 .f32) (z : FVec Ideal S4x8192x1024 .f32) (b : Fin 4) (i : Fin 8192) (k : Fin 1024) :
    (fno t g z (ix3 b i k) : EReal) = fin (fun l => t (ix4 b i ⟨k.val / 128, by omega⟩ l)) ⟨k.val % 128, by omega⟩ (g (ix2 0 ⟨k.val % 128, by omega⟩)) (z (ix3 b i k)) := by
  unfold fin
  pointwise [fno]

/-- The first eight lanes. -/
theorem lanes_lo (y : FVec Ideal S4x8192x16x64 .f32) (b : Fin 4) (i : Fin 8192) (k : Fin 16) (d : Fin 8) :
    ((extractStridedSlice S4x8192x16x8 ![0, 0, 0, 0] y slices_S4x8192x16x64_S4x8192x16x8_0_0_0_0 : FVec Ideal S4x8192x16x8 .f32) (ix4 b i k d) : EReal) = y (ix4 b i k ⟨d.val, by omega⟩) := by
  pointwise

/-- The next eight lanes. -/
theorem lanes_hi (y : FVec Ideal S4x8192x16x64 .f32) (b : Fin 4) (i : Fin 8192) (k : Fin 16) (d : Fin 8) :
    ((extractStridedSlice S4x8192x16x8 ![0, 0, 0, 8] y slices_S4x8192x16x64_S4x8192x16x8_0_0_0_8 : FVec Ideal S4x8192x16x8 .f32) (ix4 b i k d) : EReal) = y (ix4 b i k ⟨8 + d.val, by omega⟩) := by
  pointwise

/-- The programs' `λ`. -/
def lamV (l1 l2 l3 l4 : FVec Ideal S1x64 .f32) : FVec Ideal S_ .f32 :=
  addf (subf (Host.exp (Host.reduceAdd (mulf (shapeCast _ l1 shapeCasts_S1x64_S64) (shapeCast _ l2 shapeCasts_S1x64_S64)) (constant S_ .f32 0x00000000#32) reducesTo_S64_S_d0 h_S_)) (Host.exp (Host.reduceAdd (mulf (shapeCast _ l3 shapeCasts_S1x64_S64) (shapeCast _ l4 shapeCasts_S1x64_S64)) (constant S_ .f32 0x00000000#32) reducesTo_S64_S_d0 h_S_))) (constant S_ .f32 0x3E4CCCCD#32)

/-- It is the real function of the four vectors. -/
theorem lamV_at (l1 l2 l3 l4 : FVec Ideal S1x64 .f32) :
    (lamV l1 l2 l3 l4 ix0 : EReal) = lamE (fun i => l1 (ix2 0 i)) (fun i => l2 (ix2 0 i)) (fun i => l3 (ix2 0 i)) (fun i => l4 (ix2 0 i)) := by
  unfold lamE
  pointwise [lamV]

section Value
variable (W : Valuation τ sig (Elt Ideal)) (x : ℕ → ℕ → ℕ → ℝ)
  (hp : ∀ (a : Fin 4) (b : Fin 8192) (c : Fin 12288), ((W (Proc.devRef .tc main_arg0) : FVec Ideal S4x8192x12288 .bf16) (ix3 a b c) : EReal) = ((x a b c : ℝ) : EReal))
include hp

/-- The queries' columns. -/
theorem v9_at (b : Fin 4) (i : Fin 8192) (k : Fin 16) (d : Fin 64) :
    ((res_main_v9 W : FVec Ideal S4x8192x16x64 .f32) (ix4 b i k d) : EReal) = ((x b i (4608 + (64 * k.val + d.val)) : ℝ) : EReal) := by
  pointwise [res_main_v9]
  rw [hp]
  have n : k.val * 64 + d.val = 64 * k.val + d.val := by omega
  simp only [n]

/-- The keys' columns. -/
theorem v47_at (b : Fin 4) (i : Fin 8192) (k : Fin 16) (d : Fin 64) :
    ((res_main_v47 W : FVec Ideal S4x8192x16x64 .f32) (ix4 b i k d) : EReal) = ((x b i (5632 + (64 * k.val + d.val)) : ℝ) : EReal) := by
  pointwise [res_main_v47]
  rw [hp]
  have n : k.val * 64 + d.val = 64 * k.val + d.val := by omega
  simp only [n]

omit hp in
/-- The queries' angles. -/
theorem v22_at (i : Fin 8192) (d : Fin 8) : ((res_main_v22 W : FVec Ideal S8192x8 .f32) (ix2 i d) : EReal) = ((ang i d : ℝ) : EReal) := by
  refine Eq.trans ?_ (ang_coe i d i.isLt d.isLt)
  pointwise [res_main_v22, res_main_v8]

omit hp in
/-- The keys' angles. -/
theorem v60_at (i : Fin 8192) (d : Fin 8) : ((res_main_v60 W : FVec Ideal S8192x8 .f32) (ix2 i d) : EReal) = ((ang i d : ℝ) : EReal) :=
  v22_at W i d

omit hp in
/-- The queries' cosines. -/
theorem v24_at (i : Fin 8192) (d : Fin 8) : ((res_main_v24 W : FVec Ideal S8192x1x8 .f32) (ix3 i 0 d) : EReal) = ((cs i d : ℝ) : EReal) := by
  have q := v22_at W i d
  have e : ((res_main_v24 W : FVec Ideal S8192x1x8 .f32) (ix3 i 0 d) : EReal) = Ideal.cos ((res_main_v22 W : FVec Ideal S8192x8 .f32) (ix2 i d)) := by
    pointwise [res_main_v24]
  rw [e]; erw [q]; rfl

omit hp in
/-- The queries' sines. -/
theorem v26_at (i : Fin 8192) (d : Fin 8) : ((res_main_v26 W : FVec Ideal S8192x1x8 .f32) (ix3 i 0 d) : EReal) = ((sn i d : ℝ) : EReal) := by
  have q := v22_at W i d
  have e : ((res_main_v26 W : FVec Ideal S8192x1x8 .f32) (ix3 i 0 d) : EReal) = Ideal.sin ((res_main_v22 W : FVec Ideal S8192x8 .f32) (ix2 i d)) := by
    pointwise [res_main_v26]
  rw [e]; erw [q]; rfl

/-- The rotated queries. -/
theorem q_at (b : Fin 4) (h : Fin 8) (e : Fin 2) (i : Fin 8192) (d : Fin 64) :
    (rot (res_main_v27 W) (res_main_v28 W) (res_main_v24 W) (res_main_v26 W) (res_main_v9 W) (ix5 b i h e d) : EReal)
      = ((rp (fun d => x b i (128 * (36 + h.val) + 64 * e.val + d)) i d : ℝ) : EReal) := by
  refine (rot_at (res_main_v27 W) (res_main_v28 W) _ _ _ (fun b i n => x b i (4608 + n)) (v9_at W x hp) (fun z i k d => (lanes_lo _ z i k d).trans (v9_at W x hp z i k _))
    (fun z i k d => (lanes_hi _ z i k d).trans ((v9_at W x hp z i k _).trans (congrArg (fun n : ℕ => ((x z i n : ℝ) : EReal))
      (show 4608 + (64 * k.val + (8 + d.val)) = 4608 + (64 * k.val + (d.val + 8)) by omega)))) (v24_at W) (v26_at W) b h e i d).trans ?_
  rw [show (fun d => x b i (4608 + (64 * (h.val * 2 + e.val) + d))) = fun d => x b i (128 * (36 + h.val) + 64 * e.val + d) from
    funext fun d => congrArg _ (by omega)]

/-- The rotated keys. -/
theorem k_at (b : Fin 4) (h : Fin 8) (e : Fin 2) (i : Fin 8192) (d : Fin 64) :
    (rot (res_main_v65 W) (res_main_v66 W) (res_main_v62 W) (res_main_v64 W) (res_main_v47 W) (ix5 b i h e d) : EReal)
      = ((rp (fun d => x b i (128 * (44 + h.val) + 64 * e.val + d)) i d : ℝ) : EReal) := by
  refine (rot_at (res_main_v65 W) (res_main_v66 W) _ _ _ (fun b i n => x b i (5632 + n)) (v47_at W x hp) (fun z i k d => (lanes_lo _ z i k d).trans (v47_at W x hp z i k _))
    (fun z i k d => (lanes_hi _ z i k d).trans ((v47_at W x hp z i k _).trans (congrArg (fun n : ℕ => ((x z i n : ℝ) : EReal))
      (show 5632 + (64 * k.val + (8 + d.val)) = 5632 + (64 * k.val + (d.val + 8)) by omega)))) (v24_at W) (v26_at W) b h e i d).trans ?_
  rw [show (fun d => x b i (5632 + (64 * (h.val * 2 + e.val) + d))) = fun d => x b i (128 * (44 + h.val) + 64 * e.val + d) from
    funext fun d => congrArg _ (by omega)]

omit hp in
/-- The masked scores are those of the rotated queries and keys. -/
theorem v110_eq : res_main_v110 W = sco (rot (res_main_v27 W) (res_main_v28 W) (res_main_v24 W) (res_main_v26 W) (res_main_v9 W))
    (rot (res_main_v65 W) (res_main_v66 W) (res_main_v62 W) (res_main_v64 W) (res_main_v47 W)) := rfl

/-- The masked scores. -/
theorem v110_at (b : Fin 4) (h : Fin 8) (e : Fin 2) (i j : Fin 8192) :
    ((res_main_v110 W : FVec Ideal S4x8x2x8192x8192 .f32) (ix5 b h e i j) : EReal) = msk (j.val ≤ i.val) (dot x b h e i j * (1 / 8)) := by
  rw [v110_eq]
  exact sco_at _ _ _ _ b h e i j (fun d => q_at W x hp b h e i d) (fun d => k_at W x hp b h e j d)

omit hp in
/-- The weights are the softmax of the masked scores. -/
theorem v121_eq : res_main_v121 W = wts (exq (res_main_v110 W) (top (res_main_v110 W))) := rfl

/-- The weights. -/
theorem v121_at (b : Fin 4) (h : Fin 8) (e : Fin 2) (i j : Fin 8192) :
    ((res_main_v121 W : FVec Ideal S4x8x2x8192x8192 .f32) (ix5 b h e i j) : EReal) = ((wt x b h e i j / ∑ j ∈ Finset.range 8192, wt x b h e i j : ℝ) : EReal) := by
  rw [v121_eq]
  exact soft_at _ (fun j => dot x b h e i j * (1 / 8)) b h e i j (fun j => v110_at W x hp b h e i j)

omit hp in
/-- The attention mixes the values by the weights. -/
theorem v130_eq : res_main_v130 W = mix (W (Proc.devRef .tc main_arg0)) (res_main_v121 W)
    (lamV (W (Proc.devRef .tc main_arg1)) (W (Proc.devRef .tc main_arg2)) (W (Proc.devRef .tc main_arg3)) (W (Proc.devRef .tc main_arg4))) := rfl

/-- The attention. -/
theorem v130_at (lam : ℝ) (hl : (lamV (W (Proc.devRef .tc main_arg1)) (W (Proc.devRef .tc main_arg2)) (W (Proc.devRef .tc main_arg3)) (W (Proc.devRef .tc main_arg4)) ix0 : EReal) = (lam : EReal))
    (b : Fin 4) (i : Fin 8192) (h : Fin 8) (d : Fin 128) :
    ((res_main_v130 W : FVec Ideal S4x8192x8x128 .f32) (ix4 b i h d) : EReal) = ((dif x lam b h i d : ℝ) : EReal) := by
  rw [v130_eq]
  exact mix_at _ _ _ x lam hp hl (v121_at W x hp) b i h d

/-- The gate. -/
theorem v7_at (b : Fin 4) (i : Fin 8192) (k : Fin 1024) :
    ((res_main_v7 W : FVec Ideal S4x8192x1024 .f32) (ix3 b i k) : EReal) = ((x b i (128 * (60 + k.val / 128) + k.val % 128) : ℝ) : EReal) := by
  pointwise [res_main_v7]
  rw [hp]
  have n : 7680 + k.val = 128 * (60 + k.val / 128) + k.val % 128 := by omega
  simp only [n]

/-- The reference's result at an index: the normalised, weighed and gated differential attention. -/
theorem res_at (lam : ℝ) (hl : (lamV (W (Proc.devRef .tc main_arg1)) (W (Proc.devRef .tc main_arg2)) (W (Proc.devRef .tc main_arg3)) (W (Proc.devRef .tc main_arg4)) ix0 : EReal) = (lam : EReal))
    (b : Fin 4) (i : Fin 8192) (k : Fin 1024) :
    (fno (res_main_v130 W) (W (Proc.devRef .tc main_arg5)) (res_main_v7 W) (ix3 b i k) : EReal)
      = fin (fun l => ((dif x lam b (k.val / 128) i l : ℝ) : EReal)) ⟨k.val % 128, by omega⟩ ((W (Proc.devRef .tc main_arg5) : FVec Ideal S1x128 .f32) (ix2 0 ⟨k.val % 128, by omega⟩))
        ((x b i (128 * (60 + k.val / 128) + k.val % 128) : ℝ) : EReal) := by
  have t : (fun l : Fin 128 => ((res_main_v130 W : FVec Ideal S4x8192x8x128 .f32) (ix4 b i ⟨k.val / 128, by omega⟩ l) : EReal)) = fun l : Fin 128 => ((dif x lam b (k.val / 128) i l : ℝ) : EReal) :=
    funext fun l => v130_at W x hp lam hl b i ⟨k.val / 128, by omega⟩ l
  have z := v7_at W x hp b i k
  generalize res_main_v130 W = v at t ⊢
  generalize res_main_v7 W = y at z ⊢
  rw [fno_at, t, z]

end Value

end Cert.ReferenceIdeal.Diff
end
-- ==== Proof.Tables.lean ====
/- The rotation tables the host computes, at an index. -/
module

public import proofs.«01_k».proof.Proof.Spec
public import proofs.«01_k».proof.Proof.Gen.KernelIdeal.Frame
public import Idealize.ShloMosaic.Lib.Claim
public import Idealize.ShloMosaic.Lib.Pointwise

@[expose] public section

set_option maxHeartbeats 4000000
set_option maxRecDepth 100000

noncomputable section

namespace Cert.KernelIdeal.Diff

open Idealize.ShloMosaic Idealize.ShloMosaic.TcCoe Cert.Soft
open Cert.KernelIdeal Cert.KernelIdeal.Gen

variable {F : FTy → Type} [FloatOps F] [Named F]

/-- The angles, position by pair. -/
def hAng : FVec F S8192x8 .f32 :=
  mulf (broadcastInDim S8192x8 ![0, 1] bcast_S8192x1_S8192x8_0_1 (broadcastInDim S8192x1 ![0] bcast_S8192_S8192x1_0 (sitofp .f32 (iotaInDim S8192 32 0) : FVec F S8192 .f32)))
    (broadcastInDim S8192x8 ![0, 1] bcast_S1x8_S8192x8_0_1 (broadcastInDim S1x8 ![1] bcast_S8_S1x8_1
      (Host.divf (broadcastInDim S8 ![] bcast_S_S8 (constant S_ .f32 0x3F800000#32))
        (Host.powf (broadcastInDim S8 ![] bcast_S_S8 (constant S_ .f32 0x48F42400#32))
          (mulf (sitofp .f32 (iotaInDim S8 32 0)) (broadcastInDim S8 ![] bcast_S_S8 (constant S_ .f32 0x3E000000#32)))))))
/-- Zeros. -/
def hZero : FVec F S8192x8 .f32 := broadcastInDim S8192x8 ![] bcast_S_S8192x8 (constant S_ .f32 0x00000000#32)
/-- The padding of the tables. -/
def hPad : FVec F S8192x48 .f32 := broadcastInDim S8192x48 ![] bcast_S_S8192x48 (constant S_ .f32 0x00000000#32)
/-- Three parts side by side, the 64 lanes twice. -/
def hTab (u v : FVec F S8192x8 .f32) (w : FVec F S8192x48 .f32) : FVec F S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x8, u⟩, ⟨S8192x8, v⟩, ⟨S8192x48, w⟩] concatenates_S8192x8_S8192x8_S8192x48_S8192x64_d1 : FVec F S8192x64 .f32)
      shapeCasts_S8192x64_S1x8192x1x64)) shapeCasts_S1x8192x2x64_S8192x128

variable (m : (ℓ : Loc nD τ sig) → Buf (Elt F) ℓ) (c : Dev nD)

/-- The cosine table as the host leaves it. -/
theorem V_c : V m c main_v26 = hTab (Host.cos hAng) (Host.cos hAng) (addf hPad (broadcastInDim S8192x48 ![] bcast_S_S8192x48 (constant S_ .f32 0x3F800000#32))) := by
  unfold V hostOps0
  after_results
  all_goals rfl
/-- The first sine table. -/
theorem V_s1 : V m c main_v29 = hTab (Host.negf (Host.sin hAng)) hZero hPad := by
  unfold V hostOps0
  after_results
  all_goals rfl
/-- The second sine table. -/
theorem V_s2 : V m c main_v32 = hTab hZero (Host.sin hAng) hPad := by
  unfold V hostOps0
  after_results
  all_goals rfl

/-- The angles are the reals they should be. -/
theorem hAng_at (s : Fin 8192) (d : Fin 8) : ((hAng (F := Ideal)) (ix2 s d) : EReal) = ((ang s.val d.val : ℝ) : EReal) := by
  pointwise [hAng]
  exact ang_coe s.val d.val s.isLt d.isLt

/-- A table at an index. -/
theorem hTab_at (u v : FVec Ideal S8192x8 .f32) (w : FVec Ideal S8192x48 .f32) (s : Fin 8192) (d : Fin 128) : (hTab u v w) (ix2 s d)
    = if h : d.val % 64 < 8 then u (ix2 s ⟨d.val % 64, h⟩) else if h : d.val % 64 - 8 < 8 then v (ix2 s ⟨d.val % 64 - 8, h⟩)
      else w (ix2 s ⟨d.val % 64 - 8 - 8, by omega⟩) := by
  pointwise [hTab]

variable (m : (ℓ : Loc nD τ sig) → Buf (Elt Ideal) ℓ)

/-- The cosine table at an index. -/
theorem tab_c (s : Fin 8192) (l : Fin 128) : ((V m c main_v26 : FVec Ideal S8192x128 .f32) (ix2 s l) : EReal)
    = ((if l.val % 64 < 8 then cs s.val (l.val % 64) else if l.val % 64 < 16 then cs s.val (l.val % 64 - 8) else 1 : ℝ) : EReal) := by
  rw [V_c]
  refine (hTab_at _ _ _ s l).trans ?_
  have e : ∀ d : Fin 8, ((Host.cos (hAng (F := Ideal)) : FVec Ideal S8192x8 .f32) (ix2 s d) : EReal) = ((cs s.val d.val : ℝ) : EReal) := fun d => by
    refine Eq.trans ?_ (cos_ang s.val d.val); rw [← hAng_at]; rfl
  split_ifs with h1 h2 h3 h3
  · exact e _
  · exact e _
  · omega
  · omega
  · pointwise [hPad]
    exact EReal.coe_one.symm

/-- The first sine table at an index. -/
theorem tab_s1 (s : Fin 8192) (l : Fin 128) : ((V m c main_v29 : FVec Ideal S8192x128 .f32) (ix2 s l) : EReal)
    = ((if l.val % 64 < 8 then -sn s.val (l.val % 64) else 0 : ℝ) : EReal) := by
  rw [V_s1]
  refine (hTab_at _ _ _ s l).trans ?_
  have e : ∀ d : Fin 8, ((Host.negf (Host.sin (hAng (F := Ideal))) : FVec Ideal S8192x8 .f32) (ix2 s d) : EReal) = ((-sn s.val d.val : ℝ) : EReal) := fun d => by
    refine Eq.trans ?_ (congrArg (fun z : EReal => -z) (sin_ang s.val d.val)); rw [← hAng_at]; rfl
  split_ifs with h1 h2
  · exact e _
  · pointwise [hZero]
    exact EReal.coe_zero.symm
  · pointwise [hPad]
    exact EReal.coe_zero.symm

/-- The second sine table at an index. -/
theorem tab_s2 (s : Fin 8192) (l : Fin 128) : ((V m c main_v32 : FVec Ideal S8192x128 .f32) (ix2 s l) : EReal)
    = ((if l.val % 64 < 8 then 0 else if l.val % 64 < 16 then sn s.val (l.val % 64 - 8) else 0 : ℝ) : EReal) := by
  rw [V_s2]
  refine (hTab_at _ _ _ s l).trans ?_
  have e : ∀ d : Fin 8, ((Host.sin (hAng (F := Ideal)) : FVec Ideal S8192x8 .f32) (ix2 s d) : EReal) = ((sn s.val d.val : ℝ) : EReal) := fun d => by
    refine Eq.trans ?_ (sin_ang s.val d.val); rw [← hAng_at]; rfl
  split_ifs with h1 h2 h3 h3
  · pointwise [hZero]
    exact EReal.coe_zero.symm
  · exact e _
  · omega
  · omega
  · pointwise [hPad]
    exact EReal.coe_zero.symm

end Cert.KernelIdeal.Diff

end
-- ==== Proof.Value.lean ====
/- The two programs' results are the same: the kernel's blocks cover the array of the layer's values, and the reference computes that array. -/
module

public import proofs.«01_k».proof.Defs
public import proofs.«01_k».proof.Proof.Frames
public import proofs.«01_k».proof.Proof.RefVal
public import proofs.«01_k».proof.Proof.Tables
public import proofs.«01_k».proof.Proof.Consts
public import Idealize.ShloMosaic.Lib.Pipeline.ValueKit

@[expose] public section

set_option maxRecDepth 16384
set_option maxHeartbeats 4000000

noncomputable section

namespace Cert.KernelIdeal.Diff

open Idealize.ShloMosaic Idealize.ShloMosaic.TcCoe Idealize.SL.Sem Cert.Soft
open Cert.KernelIdeal Cert.KernelIdeal.Gen

variable (m : (ℓ : Loc nD τ sig) → Buf (Elt Ideal) ℓ)

/-- The layer's values: the normalised, weighed and gated differential attention of real activations. -/
def G (x : ℕ → ℕ → ℕ → ℝ) (lam : ℝ) (g : FVec Ideal S1x128 .f32) : FVec Ideal S4x8192x1024 .bf16 := fun y =>
  fin (fun l => ((dif x lam (y 0).val ((y 2).val / 128) (y 1).val l.val : ℝ) : EReal)) ⟨(y 2).val % 128, Nat.mod_lt _ (by decide)⟩
    (g (ix2 0 ⟨(y 2).val % 128, Nat.mod_lt _ (by decide)⟩)) ((x (y 0).val (y 1).val (128 * (60 + (y 2).val / 128) + (y 2).val % 128) : ℝ) : EReal)

/-- The layer's value at an index given by batch, position, head and lane. -/
theorem G_at (x : ℕ → ℕ → ℕ → ℝ) (lam : ℝ) (g : FVec Ideal S1x128 .f32) (y : S4x8192x1024.Idx) (b i h : ℕ) (l : Fin 128)
    (h0 : (y 0).val = b) (h1 : (y 1).val = i) (h2 : (y 2).val = 128 * h + l.val) :
    (G x lam g y : EReal) = fin (fun l => ((dif x lam b h i l.val : ℝ) : EReal)) l (g (ix2 0 l)) ((x b i (128 * (60 + h) + l.val) : ℝ) : EReal) := by
  have e1 : (y 2).val / 128 = h := by omega
  have e2 : (⟨(y 2).val % 128, Nat.mod_lt _ (by decide)⟩ : Fin 128) = l := Fin.ext (show (y 2).val % 128 = l.val by omega)
  unfold G
  rw [e2, e1, h0, h1, show (y 2).val % 128 = l.val by omega]

/-- Where the activations are real, the kernel reads them and its tables hold the rotations. -/
theorem reads (c : Dev nD) (x : ℕ → ℕ → ℕ → ℝ)
    (hx : ∀ (a : Fin 4) (b : Fin 8192) (k : Fin 12288), ((m ((c.tc : Thread nD τ).loc main_arg0) : FVec Ideal S4x8192x12288 .bf16) (ix3 a b k) : EReal) = ((x a b k : ℝ) : EReal)) :
    Reads (arrs m c) x where
  p a b k := (congrFun (V_main_arg0 m c) _).trans (hx a b k)
  c s l := tab_c c m s l
  s1 s l := tab_s1 c m s l
  s2 s l := tab_s2 c m s l

/-- The kernel's result array is the layer's values. -/
theorem out_eq (c : Dev nD) (x : ℕ → ℕ → ℕ → ℝ) (lam : ℝ)
    (hx : ∀ (a : Fin 4) (b : Fin 8192) (k : Fin 12288), ((m ((c.tc : Thread nD τ).loc main_arg0) : FVec Ideal S4x8192x12288 .bf16) (ix3 a b k) : EReal) = ((x a b k : ℝ) : EReal))
    (hl : lamE (fun i => (m ((c.tc : Thread nD τ).loc main_arg1) : FVec Ideal S1x64 .f32) (ix2 0 i)) (fun i => (m ((c.tc : Thread nD τ).loc main_arg2) : FVec Ideal S1x64 .f32) (ix2 0 i))
      (fun i => (m ((c.tc : Thread nD τ).loc main_arg3) : FVec Ideal S1x64 .f32) (ix2 0 i)) (fun i => (m ((c.tc : Thread nD τ).loc main_arg4) : FVec Ideal S1x64 .f32) (ix2 0 i)) = (lam : EReal)) :
    (dats m 0 c).arrAt 16 cfg0.N = G x lam (m ((c.tc : Thread nD τ).loc main_arg5)) := by
  refine (dats m 0 c).arrAt_eq_of_covers 16 (G x lam (m ((c.tc : Thread nD τ).loc main_arg5))) (by decide +kernel) fun t hf y => ?_
  have H := reads m c x hx
  have ix := (show ∀ t : Fin grid0.N, win0_16.index t = ![t.val / 128, t.val % 16, t.val / 16 % 8] from tr16) t
  have ht : t.val < 512 := t.isLt
  rw [after16]
  idx_vars y
  blk_simp [ix]
  obtain rfl : y0 = 0 := Subsingleton.elim _ _
  have q := oAt_at H (t.val / 128) (t.val / 16 % 8) (t.val % 16) (by omega) (by omega) (by omega) lam
    (by
      have e1 : (arrs m c).l1 = m ((c.tc : Thread nD τ).loc main_arg1) := V_main_arg1 m c
      have e2 : (arrs m c).l2 = m ((c.tc : Thread nD τ).loc main_arg2) := V_main_arg2 m c
      have e3 : (arrs m c).l3 = m ((c.tc : Thread nD τ).loc main_arg3) := V_main_arg3 m c
      have e4 : (arrs m c).l4 = m ((c.tc : Thread nD τ).loc main_arg4) := V_main_arg4 m c
      rw [e1, e2, e3, e4]; exact hl) y1 y2
  have eg : (arrs m c).g = m ((c.tc : Thread nD τ).loc main_arg5) := V_main_arg5 m c
  rw [eg] at q
  refine q.trans (G_at x lam _ _ (t.val / 128) (512 * (t.val % 16) + y1.val) (t.val / 16 % 8) y2 ?_ ?_ ?_).symm
  · blk_simp [ix]
    exact Nat.add_zero _
  · blk_simp [ix]
    omega
  · blk_simp [ix]
    omega

/-- The reference's result array is the layer's values. -/
theorem ref_eq (W : Valuation Cert.ReferenceIdeal.τ Cert.ReferenceIdeal.sig (Elt Ideal)) (x : ℕ → ℕ → ℕ → ℝ) (lam : ℝ)
    (hp : ∀ (a : Fin 4) (b : Fin 8192) (k : Fin 12288), ((W (Proc.devRef .tc Cert.ReferenceIdeal.main_arg0) : FVec Ideal S4x8192x12288 .bf16) (ix3 a b k) : EReal) = ((x a b k : ℝ) : EReal))
    (hl : lamE (fun i => (W (Proc.devRef .tc Cert.ReferenceIdeal.main_arg1) : FVec Ideal S1x64 .f32) (ix2 0 i)) (fun i => (W (Proc.devRef .tc Cert.ReferenceIdeal.main_arg2) : FVec Ideal S1x64 .f32) (ix2 0 i))
      (fun i => (W (Proc.devRef .tc Cert.ReferenceIdeal.main_arg3) : FVec Ideal S1x64 .f32) (ix2 0 i)) (fun i => (W (Proc.devRef .tc Cert.ReferenceIdeal.main_arg4) : FVec Ideal S1x64 .f32) (ix2 0 i)) = (lam : EReal)) :
    Cert.ReferenceIdeal.Diff.fno (Cert.ReferenceIdeal.Value.res_main_v130 W) (W (Proc.devRef .tc Cert.ReferenceIdeal.main_arg5)) (Cert.ReferenceIdeal.Value.res_main_v7 W)
      = G x lam (W (Proc.devRef .tc Cert.ReferenceIdeal.main_arg5)) := by
  funext y
  rw [eq_ix3 y]
  generalize y 0 = b
  generalize y 1 = i
  generalize y 2 = k
  refine (Cert.ReferenceIdeal.Diff.res_at W x hp lam ((Cert.ReferenceIdeal.Diff.lamV_at _ _ _ _).trans hl) b i k).trans ?_
  rfl

/-- On finite arguments the two programs end with the same result. -/
theorem same : Cert.algebraic_KernelIdeal_ReferenceIdeal_pre_finite := by
  intro m ρ m' ρ' hpre hagree
  have fin := fun c => finite_of_pre _ _ _ _ _ _ (hpre c)
  refine ⟨_, (θ_run (Cert.KernelIdeal.defs (F := Ideal)) _ _).mono (fun _ h c => ⟨(h.1 c).1, (h.1 c).2⟩) (run_kept m ρ), ?_⟩
  refine (θ_run (Cert.ReferenceIdeal.defs (F := Ideal)) _ _).mono (fun _ h c => ⟨(h c).1.trans ?_, (h c).2⟩) (Cert.ReferenceIdeal.Value.run (F := Ideal) m' ρ')
  obtain ⟨fp, f1, f2, f3, f4⟩ := fin c
  obtain ⟨a0, a1, a2, a3, a4, a5⟩ := hagree c
  obtain ⟨lam, hl⟩ := lam_real _ _ _ _ (fun i : Fin 64 => f1 (ix2 0 i)) (fun i => f2 (ix2 0 i)) (fun i => f3 (ix2 0 i)) (fun i => f4 (ix2 0 i))
  choose f hf using fp
  let x : ℕ → ℕ → ℕ → ℝ := fun a b k => f (ix3 ⟨a % 4, Nat.mod_lt _ (by decide)⟩ ⟨b % 8192, Nat.mod_lt _ (by decide)⟩ ⟨k % 12288, Nat.mod_lt _ (by decide)⟩)
  have hx : ∀ (a : Fin 4) (b : Fin 8192) (k : Fin 12288), ((m ((c.tc : Thread nD τ).loc main_arg0) : FVec Ideal S4x8192x12288 .bf16) (ix3 a b k) : EReal) = ((x a b k : ℝ) : EReal) := fun a b k => by
    refine (hf (ix3 a b k)).trans (congrArg (fun i => ((f i : ℝ) : EReal)) ?_)
    have e0 : (⟨a.val % 4, Nat.mod_lt _ (by decide)⟩ : Fin 4) = a := Fin.ext (Nat.mod_eq_of_lt a.isLt)
    have e1 : (⟨b.val % 8192, Nat.mod_lt _ (by decide)⟩ : Fin 8192) = b := Fin.ext (Nat.mod_eq_of_lt b.isLt)
    have e2 : (⟨k.val % 12288, Nat.mod_lt _ (by decide)⟩ : Fin 12288) = k := Fin.ext (Nat.mod_eq_of_lt k.isLt)
    rw [e0, e1, e2]
  rw [out_eq m c x lam hx hl]
  refine (ref_eq (StableHlo.launchContents m' c) x lam (fun a b k => ?_) ?_).trans ?_
  · exact (congrFun a0 _).trans (hx a b k)
  · refine Eq.trans ?_ hl
    show lamE (fun i => (m' ((c.tc : Thread nD τ).loc Cert.ReferenceIdeal.main_arg1) : FVec Ideal S1x64 .f32) (ix2 0 i)) (fun i => (m' ((c.tc : Thread nD τ).loc Cert.ReferenceIdeal.main_arg2) : FVec Ideal S1x64 .f32) (ix2 0 i))
      (fun i => (m' ((c.tc : Thread nD τ).loc Cert.ReferenceIdeal.main_arg3) : FVec Ideal S1x64 .f32) (ix2 0 i)) (fun i => (m' ((c.tc : Thread nD τ).loc Cert.ReferenceIdeal.main_arg4) : FVec Ideal S1x64 .f32) (ix2 0 i)) = _
    rw [a1, a2, a3, a4]
  · exact congrArg (G x lam) a5

end Cert.KernelIdeal.Diff

end
-- ==== Proof.OutSpec.lean ====
/- What one row of the last projection is, over the row's own values. -/
module
public import Idealize.ShloMosaic.PureOps.Ideal
@[expose] public section
noncomputable section
namespace Cert.Out
open Idealize.ShloMosaic

/-- The logistic function of a gate. -/
def sg (x : EReal) : EReal := Ideal.div (Ideal.ofBits .f32 0x3F800000#32) (Ideal.ofBits .f32 0x3F800000#32 + Ideal.exp (-x))

/-- One row of the two branches' gated sum: `a`, `b` the branches' rows, `p`, `q` their gates, `U`, `V` their weights. -/
def mx (a b : Fin 1024 → EReal) (p q : Fin 2048 → EReal) (U V : Fin 1024 → Fin 2048 → EReal) (k : Fin 2048) : EReal :=
  sg (p k) * (∑ j : Fin 1024, a j * U j k) + sg (q k) * ∑ j : Fin 1024, b j * V j k

/-- One row of the residual: the row plus the gated projection of the branches' sum. -/
def rs (x g : Fin 2048 → EReal) (y : Fin 2048 → EReal) (O : Fin 2048 → Fin 2048 → EReal) (k : Fin 2048) : EReal :=
  x k + g k * ∑ j : Fin 2048, y j * O j k

/-- One row under the last norm. -/
def nr (t g : Fin 2048 → EReal) (k : Fin 2048) : EReal :=
  t k * Ideal.rsqrt (Ideal.div (∑ j : Fin 2048, t j * t j) (Ideal.ofBits .f32 0x45000000#32) + Ideal.ofBits .f32 0x358637BD#32) * g k

/-- One row of the last projection. -/
def row (a b : Fin 1024 → EReal) (p q : Fin 2048 → EReal) (x g f : Fin 2048 → EReal) (U V : Fin 1024 → Fin 2048 → EReal) (O : Fin 2048 → Fin 2048 → EReal) (k : Fin 2048) : EReal :=
  nr (rs x g (mx a b p q U V) O) f k

end Cert.Out
end
-- ==== Proof.OutRef.lean ====
/- What the last projection's reference computes, entry by entry. -/
module
public import proofs.«01_k».proof.Proof.OutSpec
public import proofs.«01_k».proof.Proof.Gen.Reference3Ideal.Run
public import Idealize.ShloMosaic.Lib.Pointwise
@[expose] public section
set_option maxRecDepth 16384
set_option maxHeartbeats 1600000
noncomputable section
namespace Cert.Reference3Ideal.Out
open Idealize.ShloMosaic Idealize.ShloMosaic.TcCoe Cert.Out
open Cert.Reference3Ideal Cert.Reference3Ideal.Gen Cert.Reference3Ideal.Value

/-- The two branches' gated sum. -/
def mixR (oa ob : FVec Ideal S4x8192x1024 .bf16) (p : FVec Ideal S32768x12288 .bf16) (wb : FVec Ideal S1x2048x2048 .f32) : FVec Ideal S4x8192x2048 .f32 :=
  (addf (mulf (extractStridedSlice S4x8192x2048 ![0, 0, 0] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf (extf .f32 (extractStridedSlice S32768x4096 ![0, 0] p slices_S32768x12288_S32768x4096_0_0) bitsLt_bf16_f32))))) shapeCasts_S32768x4096_S4x8192x4096) slices_S4x8192x4096_S4x8192x2048_0_0_0) (Host.dotGeneral dot_S4x8192x1024_S1024x2048_S4x8192x2048_2_0_01_1_n_n none (extf .f32 oa bitsLt_bf16_f32) (shapeCast _ (extractStridedSlice S1x1024x2048 ![0, 0, 0] wb slices_S1x2048x2048_S1x1024x2048_0_0_0) shapeCasts_S1x1024x2048_S1024x2048))) (mulf (extractStridedSlice S4x8192x2048 ![0, 0, 2048] (shapeCast _ (Host.divf (broadcastInDim S32768x4096 ![] bcast_S_S32768x4096 (constant S_ .f32 0x3F800000#32)) (addf (broadcastInDim S32768x4096 ![] bcast_S_S32768x4096 (constant S_ .f32 0x3F800000#32)) (Host.exp (Host.negf (extf .f32 (extractStridedSlice S32768x4096 ![0, 0] p slices_S32768x12288_S32768x4096_0_0) bitsLt_bf16_f32))))) shapeCasts_S32768x4096_S4x8192x4096) slices_S4x8192x4096_S4x8192x2048_0_0_2048) (Host.dotGeneral dot_S4x8192x1024_S1024x2048_S4x8192x2048_2_0_01_1_n_n none (extf .f32 ob bitsLt_bf16_f32) (shapeCast _ (extractStridedSlice S1x1024x2048 ![0, 1024, 0] wb slices_S1x2048x2048_S1x1024x2048_0_1024_0) shapeCasts_S1x1024x2048_S1024x2048))))

/-- The gated sum at an index. -/
theorem mixR_at (oa ob : FVec Ideal S4x8192x1024 .bf16) (p : FVec Ideal S32768x12288 .bf16) (wb : FVec Ideal S1x2048x2048 .f32) (b : Fin 4) (i : Fin 8192) (k : Fin 2048) :
    (mixR oa ob p wb (ix3 b i k) : EReal) = mx (fun j => oa (ix3 b i j)) (fun j => ob (ix3 b i j)) (fun j => p (ix2 ⟨b.val * 8192 + i.val, by omega⟩ ⟨j.val, by omega⟩)) (fun j => p (ix2 ⟨b.val * 8192 + i.val, by omega⟩ ⟨2048 + j.val, by omega⟩))
      (fun j l => wb (ix3 0 ⟨j.val, by omega⟩ l)) (fun j l => wb (ix3 0 ⟨1024 + j.val, by omega⟩ l)) k := by
  unfold mx sg
  pointwise [mixR]

/-- The residual. -/
def resR (x : FVec Ideal S4x8192x2048 .f32) (g : FVec Ideal S4x2048 .f32) (y : FVec Ideal S4x8192x2048 .f32) (wo : FVec Ideal S1x2048x2048 .f32) : FVec Ideal S4x8192x2048 .f32 :=
  (addf x (mulf (broadcastInDim S4x8192x2048 ![0, 1, 2] bcast_S4x1x2048_S4x8192x2048_0_1_2 (broadcastInDim S4x1x2048 ![0, 2] bcast_S4x2048_S4x1x2048_0_2 g)) (Host.dotGeneral dot_S4x8192x2048_S2048x2048_S4x8192x2048_2_0_01_1_n_n none y (shapeCast _ wo shapeCasts_S1x2048x2048_S2048x2048))))

/-- The residual at an index. -/
theorem resR_at (x : FVec Ideal S4x8192x2048 .f32) (g : FVec Ideal S4x2048 .f32) (y : FVec Ideal S4x8192x2048 .f32) (wo : FVec Ideal S1x2048x2048 .f32) (b : Fin 4) (i : Fin 8192) (k : Fin 2048) :
    (resR x g y wo (ix3 b i k) : EReal) = rs (fun j => x (ix3 b i j)) (fun j => g (ix2 b j)) (fun j => y (ix3 b i j)) (fun j l => wo (ix3 0 j l)) k := by
  unfold rs
  pointwise [resR]

/-- The last norm. -/
def norR (t : FVec Ideal S4x8192x2048 .f32) (f : FVec Ideal S2048 .f32) : FVec Ideal S32768x2048 .f32 :=
  shapeCast _ (mulf (mulf t (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf t t) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32)))))) (broadcastInDim S4x8192x2048 ![0, 1, 2] bcast_S1x1x2048_S4x8192x2048_0_1_2 (broadcastInDim S1x1x2048 ![2] bcast_S2048_S1x1x2048_2 f))) shapeCasts_S4x8192x2048_S32768x2048

/-- The normed row at an index. -/
theorem norR_at (t : FVec Ideal S4x8192x2048 .f32) (f : FVec Ideal S2048 .f32) (n : Fin 32768) (k : Fin 2048) :
    (norR t f (ix2 n k) : EReal) = nr (fun j => t (ix3 ⟨n.val / 8192, by omega⟩ ⟨n.val % 8192, by omega⟩ j)) (fun j => f (ix1 j)) k := by
  unfold nr
  pointwise [norR]

/-- The result is these three steps. -/
theorem res_eq (m : (ℓ : Loc nD τ sig) → Buf (Elt Ideal) ℓ) (c : Dev nD) : res_main_v41 m c
    = norR (resR (m ((c.tc : Thread nD τ).loc main_arg3)) (m ((c.tc : Thread nD τ).loc main_arg4)) (mixR (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg6))) (m ((c.tc : Thread nD τ).loc main_arg7)) := rfl

/-- The reference's value over variable arrays, at an index. -/
theorem out_at (oa ob : FVec Ideal S4x8192x1024 .bf16) (p : FVec Ideal S32768x12288 .bf16) (x : FVec Ideal S4x8192x2048 .f32) (g : FVec Ideal S4x2048 .f32) (wb wo : FVec Ideal S1x2048x2048 .f32) (f : FVec Ideal S2048 .f32) (n : Fin 32768) (k : Fin 2048) :
    (norR (resR x g (mixR oa ob p wb) wo) f (ix2 n k) : EReal)
      = row (fun j => oa (ix3 ⟨n.val / 8192, by omega⟩ ⟨n.val % 8192, by omega⟩ j)) (fun j => ob (ix3 ⟨n.val / 8192, by omega⟩ ⟨n.val % 8192, by omega⟩ j))
          (fun j => p (ix2 n ⟨j.val, by omega⟩)) (fun j => p (ix2 n ⟨2048 + j.val, by omega⟩))
          (fun j => x (ix3 ⟨n.val / 8192, by omega⟩ ⟨n.val % 8192, by omega⟩ j)) (fun j => g (ix2 ⟨n.val / 8192, by omega⟩ j)) (fun j => f (ix1 j))
          (fun j l => wb (ix3 0 ⟨j.val, by omega⟩ l)) (fun j l => wb (ix3 0 ⟨1024 + j.val, by omega⟩ l)) (fun j l => wo (ix3 0 j l)) k := by
  have e : n.val / 8192 * 8192 + n.val % 8192 = n.val := by omega
  rw [norR_at]
  unfold row
  refine congrArg (fun t => nr t _ k) (funext fun j => (resR_at _ _ _ _ _ _ j).trans (congrArg (fun y => rs _ _ y _ j) (funext fun l => ?_)))
  refine (mixR_at _ _ _ _ _ _ l).trans ?_
  simp only [e]

end Cert.Reference3Ideal.Out
end
-- ==== Proof.OutVal.lean ====
/- The last projection's blocks hold the rows of the reference's array. -/
module
public import proofs.«01_k».proof.Defs
public import proofs.«01_k».proof.Proof.OutRef
public import proofs.«01_k».proof.Proof.Gen.Kernel3Ideal.Frame
public import Idealize.ShloMosaic.Lib.Pipeline.ValueKit
@[expose] public section
set_option maxRecDepth 16384
set_option maxHeartbeats 1600000
noncomputable section
namespace Cert.Kernel3Ideal.Out
open Idealize.ShloMosaic Idealize.ShloMosaic.TcCoe Idealize.SL.Sem Cert.Out
open Cert.Kernel3Ideal Cert.Kernel3Ideal.Gen

/-- The block's branches, gated and added. -/
def mixK (v0 : FVec Ideal S512x1024 .bf16) (v2 : FVec Ideal S1024x2048 .bf16) (v5 : FVec Ideal S512x1024 .bf16) (v7 : FVec Ideal S1024x2048 .bf16) (v10 v14 : FVec Ideal S512x2048 .bf16) : FVec Ideal S512x2048 .f32 :=
  addf (mulf (logistic (extf .f32 v10 bitsLt_bf16_f32)) (matmul dot_S512x1024_S1024x2048_S512x2048_1_0_0_1_n_n none (shapeCast S512x1024 v0 shapeCasts_S512x1024_S512x1024) (shapeCast S1024x2048 v2 shapeCasts_S1024x2048_S1024x2048) (constant S512x2048 .f32 0x00000000#32)))
    (mulf (logistic (extf .f32 v14 bitsLt_bf16_f32)) (matmul dot_S512x1024_S1024x2048_S512x2048_1_0_0_1_n_n none (shapeCast S512x1024 v5 shapeCasts_S512x1024_S512x1024) (shapeCast S1024x2048 v7 shapeCasts_S1024x2048_S1024x2048) (constant S512x2048 .f32 0x00000000#32)))

/-- The branches' sum at an index. -/
theorem mixK_at (v0 : FVec Ideal S512x1024 .bf16) (v2 : FVec Ideal S1024x2048 .bf16) (v5 : FVec Ideal S512x1024 .bf16) (v7 : FVec Ideal S1024x2048 .bf16) (v10 v14 : FVec Ideal S512x2048 .bf16) (r : Fin 512) (k : Fin 2048) :
    (mixK v0 v2 v5 v7 v10 v14 (ix2 r k) : EReal) = mx (fun j => v0 (ix2 r j)) (fun j => v5 (ix2 r j)) (fun j => v10 (ix2 r j)) (fun j => v14 (ix2 r j)) (fun j l => v2 (ix2 j l)) (fun j l => v7 (ix2 j l)) k := by
  unfold mx sg
  pointwise [mixK]
  rfl

/-- The block's residual. -/
def resK (x : FVec Ideal S512x2048 .f32) (g : FVec Ideal S1x1x2048 .f32) (y : FVec Ideal S512x2048 .f32) (o : FVec Ideal S2048x2048 .bf16) : FVec Ideal S512x2048 .f32 :=
  addf (shapeCast S512x2048 x shapeCasts_S512x2048_S512x2048) (mulf (broadcastTo S512x2048 (shapeCast S1x2048 g shapeCasts_S1x1x2048_S1x2048) broadcasts_S1x2048_S512x2048)
    (matmul dot_S512x2048_S2048x2048_S512x2048_1_0_0_1_n_n none (truncf .bf16 y bitsLt_bf16_f32) (shapeCast S2048x2048 o shapeCasts_S2048x2048_S2048x2048) (constant S512x2048 .f32 0x00000000#32)))

/-- The block's residual at an index. -/
theorem resK_at (x : FVec Ideal S512x2048 .f32) (g : FVec Ideal S1x1x2048 .f32) (y : FVec Ideal S512x2048 .f32) (o : FVec Ideal S2048x2048 .bf16) (r : Fin 512) (k : Fin 2048) :
    (resK x g y o (ix2 r k) : EReal) = rs (fun j => x (ix2 r j)) (fun j => g (ix3 0 0 j)) (fun j => y (ix2 r j)) (fun j l => o (ix2 j l)) k := by
  unfold rs
  pointwise [resK]

/-- The residual's mean square. -/
def msK (t : FVec Ideal S512x2048 .f32) : FVec Ideal S512x1 .f32 :=
  divf (shapeCast S512x1 (multiReduction .add [1] S512 (mulf t t) 0x00000000#32 reduces_S512x2048_S512 (.inl rfl) rfl) shapeCasts_S512_S512x1) (broadcast S512x1 (Scalar.ofBits .f32 0x45000000#32))

/-- The stored block at an index, from the residual. -/
theorem norK_at (t : FVec Ideal S512x2048 .f32) (g : FVec Ideal S1x2048 .f32) (r : Fin 512) (k : Fin 2048) :
    (k0_pay1 t (msK t) g (ix2 r k) : EReal) = nr (fun j => t (ix2 r j)) (fun j => g (ix2 0 j)) k := by
  unfold nr
  pointwise [k0_pay1, msK]

/-- The stored block is these three steps. -/
theorem pay_eq (v0 : FVec Ideal S512x1024 .bf16) (v2 : FVec Ideal S1024x2048 .bf16) (v5 : FVec Ideal S512x1024 .bf16) (v7 : FVec Ideal S1024x2048 .bf16) (v10 v14 : FVec Ideal S512x2048 .bf16) (v20 : FVec Ideal S2048x2048 .bf16) (v23 : FVec Ideal S512x2048 .f32) (v25 : FVec Ideal S1x1x2048 .f32) (g : FVec Ideal S1x2048 .f32) :
    k0_pay1 (k0_pay2 v0 v2 v5 v7 v10 v14 v20 v23 v25) (k0_pay3 v0 v2 v5 v7 v10 v14 v20 v23 v25) g
      = k0_pay1 (resK v23 v25 (mixK v0 v2 v5 v7 v10 v14) v20) (msK (resK v23 v25 (mixK v0 v2 v5 v7 v10 v14) v20)) g := rfl

/-- The stored block at an index. -/
theorem pay_at (v0 : FVec Ideal S512x1024 .bf16) (v2 : FVec Ideal S1024x2048 .bf16) (v5 : FVec Ideal S512x1024 .bf16) (v7 : FVec Ideal S1024x2048 .bf16) (v10 v14 : FVec Ideal S512x2048 .bf16) (v20 : FVec Ideal S2048x2048 .bf16) (v23 : FVec Ideal S512x2048 .f32) (v25 : FVec Ideal S1x1x2048 .f32) (g : FVec Ideal S1x2048 .f32) (r : Fin 512) (k : Fin 2048) :
    ((k0_pay1 (k0_pay2 v0 v2 v5 v7 v10 v14 v20 v23 v25) (k0_pay3 v0 v2 v5 v7 v10 v14 v20 v23 v25) g : FVec Ideal S512x2048 .f32) (ix2 r k) : EReal)
      = row (fun j => v0 (ix2 r j)) (fun j => v5 (ix2 r j)) (fun j => v10 (ix2 r j)) (fun j => v14 (ix2 r j)) (fun j => v23 (ix2 r j)) (fun j => v25 (ix3 0 0 j)) (fun j => g (ix2 0 j))
          (fun j l => v2 (ix2 j l)) (fun j l => v7 (ix2 j l)) (fun j l => v20 (ix2 j l)) k := by
  rw [pay_eq, norK_at]
  unfold row
  exact congrArg (fun t => nr t _ k) (funext fun j => (resK_at _ _ _ _ _ j).trans (congrArg (fun y => rs _ _ y _ j) (funext fun l => mixK_at _ _ _ _ _ _ _ l)))

/-- Where every window's block lies. -/
theorem tr : ∀ t : Fin cfg0.N, win0_0.index t = ![t.val, 0] ∧ win0_1.index t = ![t.val, 0] ∧ win0_2.index t = ![t.val, 0] ∧ win0_3.index t = ![t.val, 1] ∧ win0_4.index t = ![t.val, 0] ∧ win0_5.index t = ![t.val / 16, 0, 0] ∧ win0_6.index t = ![0, 0] ∧ win0_7.index t = ![0, 0] ∧ win0_8.index t = ![0, 0] ∧ win0_9.index t = ![0, 0] ∧ win0_10.index t = ![t.val, 0] :=
  (by decide +kernel : ∀ t : Fin grid0.N, _)

variable (m : (ℓ : Loc nD τ sig) → Buf (Elt Ideal) ℓ)

/-- The array the reference computes, over the kernel's arguments. -/
def G (c : Dev nD) : FVec Ideal S32768x2048 .f32 :=
  Cert.Reference3Ideal.Out.norR (Cert.Reference3Ideal.Out.resR (m ((c.tc : Thread nD τ).loc main_arg3)) (m ((c.tc : Thread nD τ).loc main_arg4)) (Cert.Reference3Ideal.Out.mixR (m ((c.tc : Thread nD τ).loc main_arg0)) (m ((c.tc : Thread nD τ).loc main_arg1)) (m ((c.tc : Thread nD τ).loc main_arg2)) (m ((c.tc : Thread nD τ).loc main_arg5))) (m ((c.tc : Thread nD τ).loc main_arg6))) (m ((c.tc : Thread nD τ).loc main_arg7))

/-- The first branch's block. -/
theorem blk0 (c : Dev nD) (t : Fin cfg0.N) (r : Fin 512) (j : Fin 1024) (h : t.val * 512 + r.val < 32768) :
    (iblk m c 0 t (ix2 r j) : EReal) = (m ((c.tc : Thread nD τ).loc main_arg0) : FVec Ideal S4x8192x1024 .bf16) (ix3 ⟨(t.val * 512 + r.val) / 8192, by omega⟩ ⟨(t.val * 512 + r.val) % 8192, by omega⟩ j) := by
  have ht : t.val < 64 := t.isLt
  blk_simp [iblk, tr t]
  try entry_read
  try pointwise
  blk_ext [tr t]

/-- The second branch's block. -/
theorem blk1 (c : Dev nD) (t : Fin cfg0.N) (r : Fin 512) (j : Fin 1024) (h : t.val * 512 + r.val < 32768) :
    (iblk m c 1 t (ix2 r j) : EReal) = (m ((c.tc : Thread nD τ).loc main_arg1) : FVec Ideal S4x8192x1024 .bf16) (ix3 ⟨(t.val * 512 + r.val) / 8192, by omega⟩ ⟨(t.val * 512 + r.val) % 8192, by omega⟩ j) := by
  have ht : t.val < 64 := t.isLt
  blk_simp [iblk, tr t]
  try entry_read
  try pointwise
  blk_ext [tr t]

/-- The first branch's gates. -/
theorem blk2 (c : Dev nD) (t : Fin cfg0.N) (r : Fin 512) (j : Fin 2048) (h : t.val * 512 + r.val < 32768) :
    (iblk m c 2 t (ix2 r j) : EReal) = (m ((c.tc : Thread nD τ).loc main_arg2) : FVec Ideal S32768x12288 .bf16) (ix2 ⟨t.val * 512 + r.val, h⟩ ⟨j.val, by omega⟩) := by
  have ht : t.val < 64 := t.isLt
  blk_simp [iblk, tr t]
  try entry_read
  try pointwise
  blk_ext [tr t]

/-- The second branch's gates. -/
theorem blk3 (c : Dev nD) (t : Fin cfg0.N) (r : Fin 512) (j : Fin 2048) (h : t.val * 512 + r.val < 32768) :
    (iblk m c 3 t (ix2 r j) : EReal) = (m ((c.tc : Thread nD τ).loc main_arg2) : FVec Ideal S32768x12288 .bf16) (ix2 ⟨t.val * 512 + r.val, h⟩ ⟨2048 + j.val, by omega⟩) := by
  have ht : t.val < 64 := t.isLt
  blk_simp [iblk, tr t]
  try entry_read
  try pointwise
  blk_ext [tr t]

/-- The residual's block. -/
theorem blk4 (c : Dev nD) (t : Fin cfg0.N) (r : Fin 512) (j : Fin 2048) (h : t.val * 512 + r.val < 32768) :
    (iblk m c 4 t (ix2 r j) : EReal) = (m ((c.tc : Thread nD τ).loc main_arg3) : FVec Ideal S4x8192x2048 .f32) (ix3 ⟨(t.val * 512 + r.val) / 8192, by omega⟩ ⟨(t.val * 512 + r.val) % 8192, by omega⟩ j) := by
  have ht : t.val < 64 := t.isLt
  blk_simp [iblk, tr t]
  try entry_read
  try pointwise
  blk_ext [tr t]

/-- The residual's gate. -/
theorem blk5 (c : Dev nD) (t : Fin cfg0.N) (r : Fin 512) (j : Fin 2048) (h : t.val * 512 + r.val < 32768) :
    (iblk m c 5 t (ix3 0 0 j) : EReal) = (m ((c.tc : Thread nD τ).loc main_arg4) : FVec Ideal S4x2048 .f32) (ix2 ⟨(t.val * 512 + r.val) / 8192, by omega⟩ j) := by
  have ht : t.val < 64 := t.isLt
  blk_simp [iblk, tr t]
  try entry_read
  try pointwise
  blk_ext [tr t]

/-- The first branch's weights. -/
theorem blk6 (c : Dev nD) (t : Fin cfg0.N) (j : Fin 1024) (l : Fin 2048) :
    (iblk m c 6 t (ix2 j l) : EReal) = (m ((c.tc : Thread nD τ).loc main_arg5) : FVec Ideal S1x2048x2048 .f32) (ix3 0 ⟨j.val, by omega⟩ l) := by
  have ht : t.val < 64 := t.isLt
  blk_simp [iblk, tr t]
  try entry_read
  try pointwise
  blk_ext [tr t]

/-- The second branch's weights. -/
theorem blk7 (c : Dev nD) (t : Fin cfg0.N) (j : Fin 1024) (l : Fin 2048) :
    (iblk m c 7 t (ix2 j l) : EReal) = (m ((c.tc : Thread nD τ).loc main_arg5) : FVec Ideal S1x2048x2048 .f32) (ix3 0 ⟨1024 + j.val, by omega⟩ l) := by
  have ht : t.val < 64 := t.isLt
  blk_simp [iblk, tr t]
  try entry_read
  try pointwise
  blk_ext [tr t]

/-- The last weights. -/
theorem blk8 (c : Dev nD) (t : Fin cfg0.N) (j : Fin 2048) (l : Fin 2048) :
    (iblk m c 8 t (ix2 j l) : EReal) = (m ((c.tc : Thread nD τ).loc main_arg6) : FVec Ideal S1x2048x2048 .f32) (ix3 0 j l) := by
  have ht : t.val < 64 := t.isLt
  blk_simp [iblk, tr t]
  try entry_read
  try pointwise
  blk_ext [tr t]

/-- The norm's weights. -/
theorem blk9 (c : Dev nD) (t : Fin cfg0.N) (j : Fin 2048) :
    (iblk m c 9 t (ix2 0 j) : EReal) = (m ((c.tc : Thread nD τ).loc main_arg7) : FVec Ideal S2048 .f32) (ix1 j) := by
  have ht : t.val < 64 := t.isLt
  blk_simp [iblk, tr t]
  try entry_read
  try pointwise
  blk_ext [tr t]

/-- The stored block holds the array's rows. -/
theorem point (c : Dev nD) (t : Fin cfg0.N) (r : Fin 512) (k : Fin 2048) (h : t.val * 512 + r.val < 32768) :
    ((k0_pay1 (k0_pay2 (iblk m c 0 t) (iblk m c 6 t) (iblk m c 1 t) (iblk m c 7 t) (iblk m c 2 t) (iblk m c 3 t) (iblk m c 8 t) (iblk m c 4 t) (iblk m c 5 t))
      (k0_pay3 (iblk m c 0 t) (iblk m c 6 t) (iblk m c 1 t) (iblk m c 7 t) (iblk m c 2 t) (iblk m c 3 t) (iblk m c 8 t) (iblk m c 4 t) (iblk m c 5 t)) (iblk m c 9 t) : FVec Ideal S512x2048 .f32) (ix2 r k) : EReal)
      = G m c (ix2 ⟨t.val * 512 + r.val, h⟩ k) := by
  refine (pay_at _ _ _ _ _ _ _ _ _ _ r k).trans ?_
  refine Eq.trans ?_ (Cert.Reference3Ideal.Out.out_at _ _ _ _ _ _ _ _ ⟨t.val * 512 + r.val, h⟩ k).symm
  congr 1
  · exact funext fun j => blk0 m c t r j h
  · exact funext fun j => blk1 m c t r j h
  · exact funext fun j => blk2 m c t r j h
  · exact funext fun j => blk3 m c t r j h
  · exact funext fun j => blk4 m c t r j h
  · exact funext fun j => blk5 m c t r j h
  · exact funext fun j => blk9 m c t j
  · exact funext fun j => funext fun l => blk6 m c t j l
  · exact funext fun j => funext fun l => blk7 m c t j l
  · exact funext fun j => funext fun l => blk8 m c t j l

/-- The kernel's result array is the reference's. -/
theorem final (c : Dev nD) : (dats m 0 c).arrAt 10 cfg0.N = G m c := by
  refine (dats m 0 c).arrAt_eq_of_covers 10 (G m c) (by decide +kernel) fun t _ y => ?_
  have ht : t.val < 64 := t.isLt
  blk_simp
  rw [after0_10]
  frame_out
  idx_vars y
  refine (point m c t y0 y1 (by omega)).trans (congrArg (G m c) ?_)
  blk_ext [tr t]

/-- The two programs end with the same result. -/
theorem same : Cert.algebraic_Kernel3Ideal_Reference3Ideal := by
  intro m ρ m' ρ' _ hagree
  refine ⟨fun c => G m c, ?_, ?_⟩
  · exact (θ_run (Cert.Kernel3Ideal.defs (F := Ideal)) _ _).mono (fun _ h c => ⟨((h.1 c).1 10).trans (final m c), h.2 c⟩) (θ_run_and (run_main m ρ) (unchanged m ρ))
  refine (θ_run (Cert.Reference3Ideal.defs (F := Ideal)) _ _).mono (fun _ h c => ⟨(h c).1.trans ?_, (h c).2⟩) (Cert.Reference3Ideal.Value.run (F := Ideal) m' ρ')
  obtain ⟨a0, a1, a2, a3, a4, a5, a6, a7⟩ := hagree c
  refine (Cert.Reference3Ideal.Out.res_eq m' c).trans ?_
  rw [a0, a1, a2, a3, a4, a5, a6, a7]
  rfl

end Cert.Kernel3Ideal.Out
end
-- ==== Proof.AdaVal.lean ====
/- The conditioning's projection: the blocks hold the reference's array, and the kernel and the reference agree. -/
module
public import proofs.«01_k».proof.Defs
public import proofs.«01_k».proof.Proof.OutSpec
public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit
@[expose] public section
set_option maxRecDepth 16384
set_option maxHeartbeats 1600000
noncomputable section

namespace Cert.Ada
open Idealize.ShloMosaic Cert.Out

/-- One entry of the conditioning: a row under SiLU, times a column of weights, plus the bias. -/
def ent (a : Fin 2048 → EReal) (w : Fin 2048 → EReal) (b : EReal) : EReal := (∑ j : Fin 2048, a j * sg (a j) * w j) + b

/-- Equal rows, columns and biases have equal entries. -/
theorem ent_congr {a a' w w' : Fin 2048 → EReal} {b b' : EReal} (ha : ∀ j, a j = a' j) (hw : ∀ j, w j = w' j) (hb : b = b') : ent a w b = ent a' w' b' := by
  rw [funext ha, funext hw, hb]

end Cert.Ada

namespace Cert.Reference4Ideal.Ada
open Idealize.ShloMosaic Idealize.ShloMosaic.TcCoe Cert.Out Cert.Ada
open Cert.Reference4Ideal Cert.Reference4Ideal.Gen Cert.Reference4Ideal.Value

/-- The reference's array over variable arrays. -/
def aR (a : FVec Ideal S4x2048 .f32) (w : FVec Ideal S1x2048x6144 .f32) (b : FVec Ideal S1x6144 .f32) : FVec Ideal S4x6144 .f32 :=
  addf (Host.dotGeneral dot_S4x2048_S2048x6144_S4x6144_1_0_0_1_n_n none (mulf a (Host.divf (broadcastInDim S4x2048 ![] bcast_S_S4x2048 (constant S_ .f32 0x3F800000#32)) (addf (broadcastInDim S4x2048 ![] bcast_S_S4x2048 (constant S_ .f32 0x3F800000#32)) (Host.exp (Host.negf a))))) (shapeCast _ w shapeCasts_S1x2048x6144_S2048x6144)) (broadcastInDim S4x6144 ![0, 1] bcast_S1x6144_S4x6144_0_1 (broadcastInDim S1x6144 ![1] bcast_S6144_S1x6144_1 (shapeCast _ b shapeCasts_S1x6144_S6144)))

/-- The reference's array at an index. -/
theorem aR_at (a : FVec Ideal S4x2048 .f32) (w : FVec Ideal S1x2048x6144 .f32) (b : FVec Ideal S1x6144 .f32) (r : Fin 4) (k : Fin 6144) :
    (aR a w b (ix2 r k) : EReal) = ent (fun j => a (ix2 r j)) (fun j => w (ix3 0 j k)) (b (ix2 0 k)) := by
  unfold ent sg
  pointwise [aR]

end Cert.Reference4Ideal.Ada

namespace Cert.Kernel4Ideal.Ada
open Idealize.ShloMosaic Idealize.ShloMosaic.TcCoe Idealize.SL.Sem Cert.Out Cert.Ada
open Cert.Kernel4Ideal Cert.Kernel4Ideal.Gen

/-- The stored block at an index. -/
theorem pay_at (v0 : FVec Ideal S8x2048 .f32) (v4 : FVec Ideal S2048x768 .f32) (v7 : FVec Ideal S1x768 .f32) (r : Fin 8) (k : Fin 768) :
    ((k0_pay1 v0 v4 v7 : FVec Ideal S8x768 .f32) (ix2 r k) : EReal) = ent (fun j => v0 (ix2 r j)) (fun j => v4 (ix2 j k)) (v7 (ix2 0 k)) := by
  unfold ent sg
  pointwise [k0_pay1]
  rfl

/-- Where every window's block lies. -/
theorem tr : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The conditioning vectors with four more rows. -/
def pK (a : FVec Ideal S4x2048 .f32) : FVec Ideal S8x2048 .f32 :=
  pad S8x2048 ![0, 0] ![4, 0] ![0, 0] a (sitofp (F := Ideal) .f32 (constantI S_ 32 0#32)) pads_S4x2048_S8x2048_040_000 h_S_

/-- Its first rows are the vectors. -/
theorem pK_at (a : FVec Ideal S4x2048 .f32) (r : Fin 4) (j : Fin 2048) : pK a (ix2 ⟨r.val, by omega⟩ j) = a (ix2 r j) := by
  pointwise [pK]

/-- The weights' array. -/
def wK (w : FVec Ideal S1x2048x6144 .f32) : FVec Ideal S2048x6144 .f32 := shapeCast _ w shapeCasts_S1x2048x6144_S2048x6144

/-- The weights' array at an index. -/
theorem wK_at (w : FVec Ideal S1x2048x6144 .f32) (j : Fin 2048) (k : Fin 6144) : wK w (ix2 j k) = w (ix3 0 j k) := by
  pointwise [wK]

/-- The bias's array. -/
def bK (b : FVec Ideal S1x6144 .f32) : FVec Ideal S1x6144 .f32 :=
  broadcastInDim S1x6144 ![1] bcast_S6144_S1x6144_1 (shapeCast S6144 b shapeCasts_S1x6144_S6144)

/-- The bias's array at an index. -/
theorem bK_at (b : FVec Ideal S1x6144 .f32) (k : Fin 6144) : bK b (ix2 0 k) = b (ix2 0 k) := by
  pointwise [bK]

/-- The call's array over variable arrays. -/
def gK (p : FVec Ideal S8x2048 .f32) (w : FVec Ideal S2048x6144 .f32) (b : FVec Ideal S1x6144 .f32) : FVec Ideal S8x6144 .f32 := fun y =>
  ent (fun j => p (ix2 (y 0) j)) (fun j => w (ix2 j (y 1))) (b (ix2 0 (y 1)))

/-- The call's array at an index. -/
theorem gK_at (p : FVec Ideal S8x2048 .f32) (w : FVec Ideal S2048x6144 .f32) (b : FVec Ideal S1x6144 .f32) (r : Fin 8) (k : Fin 6144) :
    (gK p w b (ix2 r k) : EReal) = ent (fun j => p (ix2 r j)) (fun j => w (ix2 j k)) (b (ix2 0 k)) := rfl

variable (m : (ℓ : Loc nD τ sig) → Buf (Elt Ideal) ℓ)

/-- The longer vectors when the kernel starts. -/
theorem V_v0 (c : Dev nD) : V m c main_v0 = pK (m ((c.tc : Thread nD τ).loc main_arg0)) := by
  unfold V V0 hostOps0 hostOps0_1 hostOps0_2
  after_results
  all_goals rfl

/-- The weights' array when the kernel starts. -/
theorem V_v1 (c : Dev nD) : V m c main_v1 = wK (m ((c.tc : Thread nD τ).loc main_arg1)) := by
  unfold V V0 hostOps0 hostOps0_1 hostOps0_2
  after_results
  all_goals rfl

/-- The bias's array when the kernel starts. -/
theorem V_v3 (c : Dev nD) : V m c main_v3 = bK (m ((c.tc : Thread nD τ).loc main_arg2)) := by
  unfold V V0 hostOps0 hostOps0_1 hostOps0_2
  after_results
  all_goals rfl

/-- The call's array. -/
def G (c : Dev nD) : FVec Ideal S8x6144 .f32 := gK (pK (m ((c.tc : Thread nD τ).loc main_arg0))) (wK (m ((c.tc : Thread nD τ).loc main_arg1))) (bK (m ((c.tc : Thread nD τ).loc main_arg2)))

/-- The vectors' block. -/
theorem blk0 (c : Dev nD) (t : Fin cfg0.N) (r : Fin 8) (j : Fin 2048) :
    (iblk m c 0 t (ix2 r j) : EReal) = pK (m ((c.tc : Thread nD τ).loc main_arg0)) (ix2 r j) := by
  rw [← V_v0]
  blk_simp [iblk, tr t]
  blk_ext [tr t]

/-- The weights' block. -/
theorem blk1 (c : Dev nD) (t : Fin cfg0.N) (j : Fin 2048) (k : Fin 768) (h : t.val * 768 + k.val < 6144) :
    (iblk m c 1 t (ix2 j k) : EReal) = wK (m ((c.tc : Thread nD τ).loc main_arg1)) (ix2 j ⟨t.val * 768 + k.val, h⟩) := by
  rw [← V_v1]
  blk_simp [iblk, tr t]
  blk_ext [tr t]

/-- The bias's block. -/
theorem blk2 (c : Dev nD) (t : Fin cfg0.N) (k : Fin 768) (h : t.val * 768 + k.val < 6144) :
    (iblk m c 2 t (ix2 0 k) : EReal) = bK (m ((c.tc : Thread nD τ).loc main_arg2)) (ix2 0 ⟨t.val * 768 + k.val, h⟩) := by
  rw [← V_v3]
  blk_simp [iblk, tr t]
  blk_ext [tr t]

/-- The stored block holds the array's entries. -/
theorem point (c : Dev nD) (t : Fin cfg0.N) (r : Fin 8) (k : Fin 768) (h : t.val * 768 + k.val < 6144) :
    ((k0_pay1 (iblk m c 0 t) (iblk m c 1 t) (iblk m c 2 t) : FVec Ideal S8x768 .f32) (ix2 r k) : EReal) = G m c (ix2 r ⟨t.val * 768 + k.val, h⟩) := by
  refine (pay_at _ _ _ r k).trans ?_
  exact (ent_congr (fun j => blk0 m c t r j) (fun j => blk1 m c t j k h) (blk2 m c t k h)).trans (gK_at _ _ _ r ⟨t.val * 768 + k.val, h⟩).symm

/-- The call's array is this one. -/
theorem final (c : Dev nD) : (dats m 0 c).arrAt 3 cfg0.N = G m c := by
  refine (dats m 0 c).arrAt_eq_of_covers 3 (G m c) (by decide +kernel) fun t _ y => ?_
  have ht : t.val < 8 := t.isLt
  blk_simp
  rw [after0_3]
  frame_out
  idx_vars y
  refine (point m c t y0 y1 (by omega)).trans (congrArg (G m c) ?_)
  blk_ext [tr t]

/-- The result is the array's first rows. -/
theorem tail (c : Dev nD) : Pipeline.afterTail₀ cfgs (dats m) 0 (V0 m) [hostOps1] c main_v5
    = extractStridedSlice S4x6144 ![0, 0] (G m c) slices_S8x6144_S4x6144_0_0 := by
  rw [← final m c]
  unfold Pipeline.afterTail₀
  refine Eq.trans ?_ (congrArg (fun A => extractStridedSlice S4x6144 ![0, 0] A slices_S8x6144_S4x6144_0_0) (Pipeline.withArrays_arr spec0 (by decide) c (V0 m c) (fun w => (dats m 0 c).arrAt w cfg0.N) 3))
  simp only [List.flatten_cons, List.flatten_nil, List.append_nil]
  after_results
  all_goals rfl

/-- Which are the reference's. -/
theorem rows (c : Dev nD) : extractStridedSlice S4x6144 ![0, 0] (G m c) slices_S8x6144_S4x6144_0_0
    = Cert.Reference4Ideal.Ada.aR (m ((c.tc : Thread nD τ).loc main_arg0)) (m ((c.tc : Thread nD τ).loc main_arg1)) (m ((c.tc : Thread nD τ).loc main_arg2)) := by
  funext y
  idx_vars y
  refine Eq.trans ?_ (Cert.Reference4Ideal.Ada.aR_at _ _ _ y0 y1).symm
  have e : (extractStridedSlice S4x6144 ![0, 0] (G m c) slices_S8x6144_S4x6144_0_0 (ix2 y0 y1) : EReal) = G m c (ix2 ⟨y0.val, by omega⟩ y1) := by
    pointwise
  refine e.trans ?_
  exact (gK_at _ _ _ ⟨y0.val, by omega⟩ y1).trans (ent_congr (fun j => pK_at _ y0 j) (fun j => wK_at _ j y1) (bK_at _ y1))

/-- The two programs end with the same result. -/
theorem same : Cert.algebraic_Kernel4Ideal_Reference4Ideal := by
  intro m ρ m' ρ' _ hagree
  refine ⟨fun c => Cert.Reference4Ideal.Ada.aR (m ((c.tc : Thread nD τ).loc main_arg0)) (m ((c.tc : Thread nD τ).loc main_arg1)) (m ((c.tc : Thread nD τ).loc main_arg2)), ?_, ?_⟩
  · exact (θ_run (Cert.Kernel4Ideal.defs (F := Ideal)) _ _).mono (fun _ h c => ⟨(((h.1 c).2 main_v5 (by decide)).trans (tail m c)).trans (rows m c), h.2 c⟩) (θ_run_and (run_main m ρ) (unchanged m ρ))
  refine (θ_run (Cert.Reference4Ideal.defs (F := Ideal)) _ _).mono (fun _ h c => ⟨(h c).1.trans ?_, (h c).2⟩) (Cert.Reference4Ideal.Value.run (F := Ideal) m' ρ')
  obtain ⟨a0, a1, a2⟩ := hagree c
  rw [a0, a1, a2]
  rfl

end Cert.Kernel4Ideal.Ada
end
-- ==== Proof.ProjSpec.lean ====
/- What one row of the first projection is, over the row's own values. -/
module
public import Idealize.ShloMosaic.PureOps.Ideal
@[expose] public section
noncomputable section
namespace Cert.Proj
open Idealize.ShloMosaic

/-- One row under the first norm, scaled and shifted. -/
def hr (x g s b : Fin 2048 → EReal) (k : Fin 2048) : EReal :=
  x k * Ideal.rsqrt (Ideal.div (∑ j : Fin 2048, x j * x j) (Ideal.ofBits .f32 0x45000000#32) + Ideal.ofBits .f32 0x358637BD#32) * g k * (Ideal.ofBits .f32 0x3F800000#32 + s k) + b k

/-- The columns of a projected row in the kernel's order: the merge gates, the two branch gates with zeros behind, then the rest. -/
def col (d : ℕ → EReal) (k : ℕ) : EReal :=
  if k < 4096 then d (7704 + k) else if k < 4108 then d (7680 + (k - 4096)) else if k < 4224 then 0
    else if k < 4236 then d (7692 + (k - 4224)) else if k < 4608 then 0 else d (k - 4608)

end Cert.Proj
end
-- ==== Proof.ProjRef.lean ====
/- What the first projection's reference computes, entry by entry. -/
module
public import proofs.«01_k».proof.Proof.ProjSpec
public import proofs.«01_k».proof.Proof.Gen.Reference2Ideal.Run
public import Idealize.ShloMosaic.Lib.Pointwise
@[expose] public section
set_option maxRecDepth 16384
set_option maxHeartbeats 1600000
noncomputable section
namespace Cert.Reference2Ideal.Proj
open Idealize.ShloMosaic Idealize.ShloMosaic.TcCoe Cert.Proj
open Cert.Reference2Ideal Cert.Reference2Ideal.Gen Cert.Reference2Ideal.Value

/-- The normed, scaled and shifted rows. -/
def hR (x : FVec Ideal S4x8192x2048 .f32) (s b : FVec Ideal S4x2048 .f32) (g : FVec Ideal S1x2048 .f32) : FVec Ideal S4x8192x2048 .f32 :=
  (addf (mulf (mulf (mulf x (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf x x) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32)))))) (broadcastInDim S4x8192x2048 ![0, 1, 2] bcast_S1x1x2048_S4x8192x2048_0_1_2 (broadcastInDim S1x1x2048 ![2] bcast_S2048_S1x1x2048_2 (shapeCast _ g shapeCasts_S1x2048_S2048)))) (broadcastInDim S4x8192x2048 ![0, 1, 2] bcast_S4x1x2048_S4x8192x2048_0_1_2 (addf (broadcastInDim S4x1x2048 ![] bcast_S_S4x1x2048 (constant S_ .f32 0x3F800000#32)) (broadcastInDim S4x1x2048 ![0, 2] bcast_S4x2048_S4x1x2048_0_2 s)))) (broadcastInDim S4x8192x2048 ![0, 1, 2] bcast_S4x1x2048_S4x8192x2048_0_1_2 (broadcastInDim S4x1x2048 ![0, 2] bcast_S4x2048_S4x1x2048_0_2 b)))

/-- Such a row at an index. -/
theorem hR_at (x : FVec Ideal S4x8192x2048 .f32) (s b : FVec Ideal S4x2048 .f32) (g : FVec Ideal S1x2048 .f32) (z : Fin 4) (i : Fin 8192) (k : Fin 2048) :
    (hR x s b g (ix3 z i k) : EReal) = hr (fun j => x (ix3 z i j)) (fun j => g (ix2 0 j)) (fun j => s (ix2 z j)) (fun j => b (ix2 z j)) k := by
  unfold hr
  pointwise [hR]

/-- The projected rows. -/
def dR (h : FVec Ideal S4x8192x2048 .f32) (w : FVec Ideal S1x2048x11800 .f32) : FVec Ideal S4x8192x11800 .f32 :=
  (Host.dotGeneral dot_S4x8192x2048_S2048x11800_S4x8192x11800_2_0_01_1_n_n none h (shapeCast _ w shapeCasts_S1x2048x11800_S2048x11800))

/-- A projected row at an index. -/
theorem dR_at (h : FVec Ideal S4x8192x2048 .f32) (w : FVec Ideal S1x2048x11800 .f32) (z : Fin 4) (i : Fin 8192) (k : Fin 11800) :
    (dR h w (ix3 z i k) : EReal) = ∑ j : Fin 2048, (h (ix3 z i j) : EReal) * w (ix3 0 j k) := by
  pointwise [dR]

/-- The columns put in the kernel's order. -/
def cR (d : FVec Ideal S4x8192x11800 .f32) : FVec Ideal S32768x12288 .bf16 :=
  truncf .bf16 (shapeCast _ ((concatenate S4x8192x12288 2 [⟨S4x8192x4096, ((extractStridedSlice S4x8192x4096 ![0, 0, 7704] d slices_S4x8192x11800_S4x8192x4096_0_0_7704) : FVec Ideal S4x8192x4096 .f32)⟩, ⟨S4x8192x12, ((extractStridedSlice S4x8192x12 ![0, 0, 0] (extractStridedSlice S4x8192x24 ![0, 0, 7680] d slices_S4x8192x11800_S4x8192x24_0_0_7680) slices_S4x8192x24_S4x8192x12_0_0_0) : FVec Ideal S4x8192x12 .f32)⟩, ⟨S4x8192x116, ((broadcastInDim S4x8192x116 ![] bcast_S_S4x8192x116 (constant S_ .f32 0x00000000#32)) : FVec Ideal S4x8192x116 .f32)⟩, ⟨S4x8192x12, ((extractStridedSlice S4x8192x12 ![0, 0, 12] (extractStridedSlice S4x8192x24 ![0, 0, 7680] d slices_S4x8192x11800_S4x8192x24_0_0_7680) slices_S4x8192x24_S4x8192x12_0_0_12) : FVec Ideal S4x8192x12 .f32)⟩, ⟨S4x8192x116, ((broadcastInDim S4x8192x116 ![] bcast_S_S4x8192x116 (constant S_ .f32 0x00000000#32)) : FVec Ideal S4x8192x116 .f32)⟩, ⟨S4x8192x256, ((broadcastInDim S4x8192x256 ![] bcast_S_S4x8192x256 (constant S_ .f32 0x00000000#32)) : FVec Ideal S4x8192x256 .f32)⟩, ⟨S4x8192x7680, ((extractStridedSlice S4x8192x7680 ![0, 0, 0] d slices_S4x8192x11800_S4x8192x7680_0_0_0) : FVec Ideal S4x8192x7680 .f32)⟩] concatenates_S4x8192x4096_S4x8192x12_S4x8192x116_S4x8192x12_S4x8192x116_S4x8192x256_S4x8192x7680_S4x8192x12288_d2 : FVec Ideal S4x8192x12288 .f32)) shapeCasts_S4x8192x12288_S32768x12288) bitsLt_bf16_f32

/-- The ordered row at an index. -/
theorem cR_at (d : FVec Ideal S4x8192x11800 .f32) (n : Fin 32768) (k : Fin 12288) :
    (cR d (ix2 n k) : EReal) = col (fun j => if hj : j < 11800 then d (ix3 ⟨n.val / 8192, by omega⟩ ⟨n.val % 8192, by omega⟩ ⟨j, hj⟩) else 0) k := by
  pointwise [cR]
  unfold col
  have hk := k.isLt
  by_cases h1 : k.val < 4096
  · simp only [h1, dif_pos, if_pos]
    rw [dif_pos (show 7704 + k.val < 11800 by omega)]
  by_cases h2 : k.val < 4108
  · have e : k.val - 4096 < 12 := by omega
    simp only [h1, h2, e, dif_pos, if_pos, dif_neg, if_neg, not_false_eq_true]
    rw [dif_pos (show 7680 + (k.val - 4096) < 11800 by omega)]
  by_cases h3 : k.val < 4224
  · have e : ¬k.val - 4096 < 12 := by omega
    have e3 : k.val - 4096 - 12 < 116 := by omega
    simp only [h1, h2, h3, e, e3, dif_pos, if_pos, dif_neg, if_neg, not_false_eq_true]
  have e : ¬k.val - 4096 < 12 := by omega
  have e3 : ¬k.val - 4096 - 12 < 116 := by omega
  by_cases h4 : k.val < 4236
  · have e4 : k.val - 4096 - 12 - 116 < 12 := by omega
    have e5 : 7680 + (12 + (k.val - 4096 - 12 - 116)) = 7692 + (k.val - 4224) := by omega
    simp only [h1, h2, h3, h4, e, e3, e4, dif_pos, if_pos, dif_neg, if_neg, not_false_eq_true]
    rw [dif_pos (show 7692 + (k.val - 4224) < 11800 by omega)]
    simp only [e5]
  have e4 : ¬k.val - 4096 - 12 - 116 < 12 := by omega
  by_cases h5 : k.val < 4608
  · simp only [h1, h2, h3, h4, h5, e, e3, e4, dif_pos, if_pos, dif_neg, if_neg, not_false_eq_true]
    by_cases e5 : k.val - 4096 - 12 - 116 - 12 < 116
    · rw [dif_pos e5]
    · rw [dif_neg e5, dif_pos (show k.val - 4096 - 12 - 116 - 12 - 116 < 256 by omega)]
  · have e5 : ¬k.val - 4096 - 12 - 116 - 12 < 116 := by omega
    have e6 : ¬k.val - 4096 - 12 - 116 - 12 - 116 < 256 := by omega
    have e7 : k.val - 4096 - 12 - 116 - 12 - 116 - 256 = k.val - 4608 := by omega
    simp only [h1, h2, h3, h4, h5, e, e3, e4, e5, e6, dif_pos, if_pos, dif_neg, if_neg, not_false_eq_true]
    rw [dif_pos (show k.val - 4608 < 11800 by omega)]
    simp only [e7]

/-- The result is these three steps. -/
theorem res_eq (m : (ℓ : Loc nD τ sig) → Buf (Elt Ideal) ℓ) (c : Dev nD) : res_main_v33 m c
    = cR (dR (hR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := rfl

/-- The projected row's entry, as a function of any column. -/
def dr (h : Fin 2048 → EReal) (w : FVec Ideal S1x2048x11800 .f32) (l : ℕ) : EReal := if hl : l < 11800 then ∑ j : Fin 2048, h j * w (ix3 0 j ⟨l, hl⟩) else 0

/-- The reference's value over variable arrays, at an index. -/
theorem out_at (x : FVec Ideal S4x8192x2048 .f32) (s b : FVec Ideal S4x2048 .f32) (g : FVec Ideal S1x2048 .f32) (w : FVec Ideal S1x2048x11800 .f32) (n : Fin 32768) (k : Fin 12288) :
    (cR (dR (hR x s b g) w) (ix2 n k) : EReal)
      = col (dr (hr (fun j => x (ix3 ⟨n.val / 8192, by omega⟩ ⟨n.val % 8192, by omega⟩ j)) (fun j => g (ix2 0 j)) (fun j => s (ix2 ⟨n.val / 8192, by omega⟩ j)) (fun j => b (ix2 ⟨n.val / 8192, by omega⟩ j))) w) k := by
  refine (cR_at _ n k).trans (congrArg (fun d => col d k) (funext fun l => ?_))
  unfold dr
  by_cases hl : l < 11800
  · rw [dif_pos hl, dif_pos hl, dR_at]
    exact Finset.sum_congr rfl fun j _ => by rw [hR_at]
  · rw [dif_neg hl, dif_neg hl]

end Cert.Reference2Ideal.Proj
end
-- ==== Proof.ProjVal.lean ====
/- The first projection's blocks hold the rows of the reference's array. -/
module
public import proofs.«01_k».proof.Defs
public import proofs.«01_k».proof.Proof.ProjRef
public import proofs.«01_k».proof.Proof.Gen.Kernel2Ideal.Frame
public import Idealize.ShloMosaic.Lib.Pipeline.ValueKit
public import Idealize.ShloMosaic.Lib.Pipeline.ReadBack
@[expose] public section
set_option maxRecDepth 16384
set_option maxHeartbeats 1600000
noncomputable section
namespace Cert.Kernel2Ideal.Proj
open Idealize.ShloMosaic Idealize.ShloMosaic.TcCoe Idealize.SL.Sem Cert.Proj
open Cert.Kernel2Ideal Cert.Kernel2Ideal.Gen

/-- The normed rows a block of rows gives, at an index. -/
theorem pay1_at (x : FVec Ideal S1024x2048 .f32) (g : FVec Ideal S1x2048 .f32) (s b : FVec Ideal S1x1x2048 .f32) (r : Fin 1024) (k : Fin 2048) :
    ((k0_pay1 x g s b : FVec Ideal S1024x2048 .bf16) (ix2 r k) : EReal) = hr (fun j => x (ix2 r j)) (fun j => g (ix2 0 j)) (fun j => s (ix3 0 0 j)) (fun j => b (ix3 0 0 j)) k := by
  unfold hr
  pointwise [k0_pay1]
  rw [← mul_assoc]

/-- A block of products with the gates' weights, at an index. -/
theorem pay2_at (h : FVec Ideal S1024x2048 .bf16) (w : FVec Ideal S2048x1536 .bf16) (r : Fin 1024) (k : Fin 1536) :
    ((k0_pay2 h w : FVec Ideal S1024x1536 .bf16) (ix2 r k) : EReal) = ∑ j : Fin 2048, (h (ix2 r j) : EReal) * w (ix2 j k) := by
  pointwise [k0_pay2]

/-- A block of products with the other weights, at an index. -/
theorem pay3_at (h : FVec Ideal S1024x2048 .bf16) (w : FVec Ideal S2048x1536 .bf16) (r : Fin 1024) (k : Fin 1536) :
    ((k0_pay3 h w : FVec Ideal S1024x1536 .bf16) (ix2 r k) : EReal) = ∑ j : Fin 2048, (h (ix2 r j) : EReal) * w (ix2 j k) := by
  pointwise [k0_pay3]

/-- Where every window's block lies. -/
theorem tr : ∀ t : Fin cfg0.N, win0_0.index t = ![t.val / 8, 0] ∧ win0_1.index t = ![0, 0] ∧ win0_2.index t = ![t.val / 64, 0, 0] ∧ win0_3.index t = ![t.val / 64, 0, 0] ∧ win0_4.index t = ![0, min (t.val % 8) 2] ∧ win0_5.index t = ![0, t.val % 8 - 3] ∧ win0_6.index t = ![t.val / 8, t.val % 8] :=
  (by decide +kernel : ∀ t : Fin grid0.N, _)

variable (m : (ℓ : Loc nD τ sig) → Buf (Elt Ideal) ℓ)

/-- The rows' block. -/
theorem blk0 (c : Dev nD) (t : Fin cfg0.N) (r : Fin 1024) (j : Fin 2048) (h : t.val / 8 * 1024 + r.val < 32768) :
    (iblk m c 0 t (ix2 r j) : EReal) = (m ((c.tc : Thread nD τ).loc main_arg0) : FVec Ideal S4x8192x2048 .f32) (ix3 ⟨(t.val / 8 * 1024 + r.val) / 8192, by omega⟩ ⟨(t.val / 8 * 1024 + r.val) % 8192, by omega⟩ j) := by
  have ht : t.val < 256 := t.isLt
  blk_simp [iblk, tr t]
  entry_read
  pointwise
  blk_ext [tr t]

/-- The norm's weights. -/
theorem blk1 (c : Dev nD) (t : Fin cfg0.N) (j : Fin 2048) :
    (iblk m c 1 t (ix2 0 j) : EReal) = (m ((c.tc : Thread nD τ).loc main_arg3) : FVec Ideal S1x2048 .f32) (ix2 0 j) := by
  blk_simp [iblk, tr t]
  entry_read
  pointwise
  blk_ext [tr t]

/-- The scales' row. -/
theorem blk2 (c : Dev nD) (t : Fin cfg0.N) (r : Fin 1024) (j : Fin 2048) (h : t.val / 8 * 1024 + r.val < 32768) :
    (iblk m c 2 t (ix3 0 0 j) : EReal) = (m ((c.tc : Thread nD τ).loc main_arg1) : FVec Ideal S4x2048 .f32) (ix2 ⟨(t.val / 8 * 1024 + r.val) / 8192, by omega⟩ j) := by
  have ht : t.val < 256 := t.isLt
  blk_simp [iblk, tr t]
  entry_read
  pointwise
  blk_ext [tr t]

/-- The shifts' row. -/
theorem blk3 (c : Dev nD) (t : Fin cfg0.N) (r : Fin 1024) (j : Fin 2048) (h : t.val / 8 * 1024 + r.val < 32768) :
    (iblk m c 3 t (ix3 0 0 j) : EReal) = (m ((c.tc : Thread nD τ).loc main_arg2) : FVec Ideal S4x2048 .f32) (ix2 ⟨(t.val / 8 * 1024 + r.val) / 8192, by omega⟩ j) := by
  have ht : t.val < 256 := t.isLt
  blk_simp [iblk, tr t]
  entry_read
  pointwise
  blk_ext [tr t]

/-- The weights' columns in the kernel's order. -/
def cK (w : FVec Ideal S2048x11800 .bf16) : FVec Ideal S2048x4608 .bf16 :=
  concatenate S2048x4608 1 [⟨S2048x4096, (extractStridedSlice S2048x4096 ![0, 7704] w slices_S2048x11800_S2048x4096_0_7704)⟩, ⟨S2048x12, (extractStridedSlice S2048x12 ![0, 7680] w slices_S2048x11800_S2048x12_0_7680)⟩, ⟨S2048x116, broadcastInDim S2048x116 ![] bcast_S_S2048x116 (constant S_ .bf16 0x0000#16)⟩, ⟨S2048x12, (extractStridedSlice S2048x12 ![0, 7692] w slices_S2048x11800_S2048x12_0_7692)⟩, ⟨S2048x116, broadcastInDim S2048x116 ![] bcast_S_S2048x116 (constant S_ .bf16 0x0000#16)⟩, ⟨S2048x256, broadcastInDim S2048x256 ![] bcast_S_S2048x256 (constant S_ .bf16 0x0000#16)⟩] concatenates_S2048x4096_S2048x12_S2048x116_S2048x12_S2048x116_S2048x256_S2048x4608_d1

/-- An ordered weight at an index. -/
theorem cK_at (w : FVec Ideal S2048x11800 .bf16) (j : Fin 2048) (k : Fin 4608) :
    (cK w (ix2 j k) : EReal) = col (fun l => if hl : l < 11800 then w (ix2 j ⟨l, hl⟩) else 0) k := by
  pointwise [cK]
  unfold col
  have hk := k.isLt
  by_cases h1 : k.val < 4096
  · simp only [h1, dif_pos, if_pos]
    rw [dif_pos (show 7704 + k.val < 11800 by omega)]
  by_cases h2 : k.val < 4108
  · have e : k.val - 4096 < 12 := by omega
    simp only [h1, h2, e, dif_pos, if_pos, dif_neg, if_neg, not_false_eq_true]
    rw [dif_pos (show 7680 + (k.val - 4096) < 11800 by omega)]
  by_cases h3 : k.val < 4224
  · have e : ¬k.val - 4096 < 12 := by omega
    have e3 : k.val - 4096 - 12 < 116 := by omega
    simp only [h1, h2, h3, e, e3, dif_pos, if_pos, dif_neg, if_neg, not_false_eq_true]
  have e : ¬k.val - 4096 < 12 := by omega
  have e3 : ¬k.val - 4096 - 12 < 116 := by omega
  by_cases h4 : k.val < 4236
  · have e4 : k.val - 4096 - 12 - 116 < 12 := by omega
    have e5 : k.val - 4096 - 12 - 116 = k.val - 4224 := by omega
    simp only [h1, h2, h3, h4, e, e3, e4, dif_pos, if_pos, dif_neg, if_neg, not_false_eq_true]
    rw [dif_pos (show 7692 + (k.val - 4224) < 11800 by omega)]
    simp only [e5]
  have e4 : ¬k.val - 4096 - 12 - 116 < 12 := by omega
  have h5 : k.val < 4608 := by omega
  simp only [h1, h2, h3, h4, h5, e, e3, e4, dif_pos, if_pos, dif_neg, if_neg, not_false_eq_true]
  split <;> rfl

/-- The weights as the kernel holds them. -/
def wK (a : FVec Ideal S1x2048x11800 .f32) : FVec Ideal S2048x11800 .bf16 := truncf .bf16 (shapeCast S2048x11800 a shapeCasts_S1x2048x11800_S2048x11800) bitsLt_bf16_f32

/-- A weight at an index. -/
theorem wK_at (a : FVec Ideal S1x2048x11800 .f32) (j : Fin 2048) (l : Fin 11800) : (wK a (ix2 j l) : EReal) = a (ix3 0 j l) := by
  pointwise [wK]

/-- The weights' array when the kernel starts. -/
theorem V_v2 (c : Dev nD) : V m c main_v2 = wK (m ((c.tc : Thread nD τ).loc main_arg4)) := by
  unfold V hostOps0
  after_results
  all_goals rfl

/-- The gates' weights' array when the kernel starts. -/
theorem V_v12 (c : Dev nD) : V m c main_v12 = cK (wK (m ((c.tc : Thread nD τ).loc main_arg4))) := by
  unfold V hostOps0
  after_results
  all_goals rfl

/-- The gates' weights. -/
theorem blk4 (c : Dev nD) (t : Fin cfg0.N) (h2 : t.val % 8 ≤ 2) (j : Fin 2048) (k : Fin 1536) :
    (iblk m c 4 t (ix2 j k) : EReal) = cK (wK (m ((c.tc : Thread nD τ).loc main_arg4))) (ix2 j ⟨t.val % 8 * 1536 + k.val, by omega⟩) := by
  rw [← V_v12]
  blk_ext [iblk, tr t]

/-- The other weights. -/
theorem blk5 (c : Dev nD) (t : Fin cfg0.N) (h2 : 3 ≤ t.val % 8) (j : Fin 2048) (k : Fin 1536) :
    (X0_5 m c t (ix2 j k) : EReal) = wK (m ((c.tc : Thread nD τ).loc main_arg4)) (ix2 j ⟨(t.val % 8 - 3) * 1536 + k.val, by omega⟩) := by
  rw [← V_v2]
  unfold X0_5 Pipeline.Window.fill
  rw [dif_pos (moved0_5 t (ix2 j k))]
  blk_simp [iblk, tr t]
  blk_ext [tr t]

/-- The kept rows and the stored block after a first point. -/
theorem outA (c : Dev nD) (t : Fin cfg0.N) (h0 : t.val % 8 = 0) : outsAt0 m c t.val t.isLt
    = (k0_pay2 (k0_pay1 (iblk m c 0 t) (iblk m c 1 t) (iblk m c 2 t) (iblk m c 3 t)) (iblk m c 4 t), k0_pay1 (iblk m c 0 t) (iblk m c 1 t) (iblk m c 2 t) (iblk m c 3 t)) := by
  rw [outsAt0_A m c t h0 (by omega) (by omega)]
  frame_out
/-- The kept rows and the stored block after a point over the gates. -/
theorem outB (c : Dev nD) (t : Fin cfg0.N) (h0 : ¬t.val % 8 = 0) (h1 : t.val % 8 ≤ 2) : outsAt0 m c t.val t.isLt
    = (k0_pay2 (outsAt0 m c (t.val - 1) (by omega)).2 (iblk m c 4 t), (outsAt0 m c (t.val - 1) (by omega)).2) := by
  rw [outsAt0_B m c t h0 h1 (by omega)]
  frame_out
  unfold sout0_B_0
  rw [read_unread_whole]
/-- The kept rows and the stored block after another point. -/
theorem outC (c : Dev nD) (t : Fin cfg0.N) (h1 : 3 ≤ t.val % 8) : outsAt0 m c t.val t.isLt
    = (k0_pay3 (outsAt0 m c (t.val - 1) (by omega)).2 (X0_5 m c t), (outsAt0 m c (t.val - 1) (by omega)).2) := by
  rw [outsAt0_C m c t (by omega) (by omega) h1]
  frame_out
  unfold sout0_C_0
  rw [read_unread_whole]

/-- The normed row of one position, over the kernel's arguments. -/
def HN (c : Dev nD) (n : ℕ) (h : n < 32768) : Fin 2048 → EReal :=
  hr (fun j => (m ((c.tc : Thread nD τ).loc main_arg0) : FVec Ideal S4x8192x2048 .f32) (ix3 ⟨n / 8192, by omega⟩ ⟨n % 8192, by omega⟩ j)) (fun j => (m ((c.tc : Thread nD τ).loc main_arg3) : FVec Ideal S1x2048 .f32) (ix2 0 j))
    (fun j => (m ((c.tc : Thread nD τ).loc main_arg1) : FVec Ideal S4x2048 .f32) (ix2 ⟨n / 8192, by omega⟩ j)) (fun j => (m ((c.tc : Thread nD τ).loc main_arg2) : FVec Ideal S4x2048 .f32) (ix2 ⟨n / 8192, by omega⟩ j))

/-- The rows a first point makes. -/
theorem made (c : Dev nD) (t : Fin cfg0.N) (r : Fin 1024) (j : Fin 2048) (h : t.val / 8 * 1024 + r.val < 32768) :
    ((k0_pay1 (iblk m c 0 t) (iblk m c 1 t) (iblk m c 2 t) (iblk m c 3 t) : FVec Ideal S1024x2048 .bf16) (ix2 r j) : EReal) = HN m c (t.val / 8 * 1024 + r.val) h j := by
  refine (pay1_at _ _ _ _ r j).trans ?_
  unfold HN
  congr 1
  · exact funext fun j => blk0 m c t r j h
  · exact funext fun j => blk1 m c t j
  · exact funext fun j => blk2 m c t r j h
  · exact funext fun j => blk3 m c t r j h

/-- The kept rows after any point are the normed rows of its block. -/
theorem kept (c : Dev nD) : ∀ (n : ℕ) (hn : n < cfg0.N) (r : Fin 1024) (j : Fin 2048) (h : n / 8 * 1024 + r.val < 32768),
    (((outsAt0 m c n hn).2 : FVec Ideal S1024x2048 .bf16) (ix2 r j) : EReal) = HN m c (n / 8 * 1024 + r.val) h j := by
  intro n
  induction n with
  | zero =>
    intro hn r j h
    have e := outA m c ⟨0, hn⟩ rfl
    exact (congrFun (congrArg Prod.snd e) (ix2 r j)).trans (made m c ⟨0, hn⟩ r j h)
  | succ n ih =>
    intro hn r j h
    by_cases h0 : (n + 1) % 8 = 0
    · exact (congrFun (congrArg Prod.snd (outA m c ⟨n + 1, hn⟩ h0)) (ix2 r j)).trans (made m c ⟨n + 1, hn⟩ r j h)
    · have e : n / 8 = (n + 1) / 8 := by omega
      have h' : n / 8 * 1024 + r.val < 32768 := by rw [e]; exact h
      have step : (outsAt0 m c (n + 1) hn).2 = (outsAt0 m c n (Nat.lt_of_succ_lt hn)).2 := by
        by_cases h1 : (n + 1) % 8 ≤ 2
        · have e1 := congrArg Prod.snd (outB m c ⟨n + 1, hn⟩ h0 h1)
          exact e1
        · have e1 := congrArg Prod.snd (outC m c ⟨n + 1, hn⟩ (by show 3 ≤ (n + 1) % 8; omega))
          exact e1
      refine (congrFun step (ix2 r j)).trans ((ih _ r j h').trans ?_)
      congr 1
      simp only [e]

/-- A sum of products with ordered weights is the ordered sums. -/
theorem col_sum (h : Fin 2048 → EReal) (e : Fin 2048 → ℕ → EReal) (k : ℕ) :
    ∑ j : Fin 2048, h j * col (e j) k = col (fun l => ∑ j : Fin 2048, h j * e j l) k := by
  unfold col
  split_ifs <;> simp only [mul_zero, Finset.sum_const_zero]

/-- The array the reference computes, over the kernel's arguments. -/
def G (c : Dev nD) : FVec Ideal S32768x12288 .bf16 :=
  Cert.Reference2Ideal.Proj.cR (Cert.Reference2Ideal.Proj.dR (Cert.Reference2Ideal.Proj.hR (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))

/-- That array at an index. -/
theorem G_at (c : Dev nD) (n : ℕ) (h : n < 32768) (k : Fin 12288) :
    (G m c (ix2 ⟨n, h⟩ k) : EReal) = col (Cert.Reference2Ideal.Proj.dr (HN m c n h) (m ((c.tc : Thread nD τ).loc main_arg4))) k :=
  Cert.Reference2Ideal.Proj.out_at _ _ _ _ _ ⟨n, h⟩ k

/-- Products of a row with the gates' weights are the array's first columns. -/
theorem gates (h : Fin 2048 → EReal) (a : FVec Ideal S1x2048x11800 .f32) (k : Fin 4608) :
    ∑ j : Fin 2048, h j * (cK (wK a) (ix2 j k) : EReal) = col (Cert.Reference2Ideal.Proj.dr h a) k := by
  refine (Finset.sum_congr rfl fun j _ => by rw [cK_at]).trans ((col_sum h _ k.val).trans ?_)
  refine congrArg (fun d => col d k.val) (funext fun l => ?_)
  unfold Cert.Reference2Ideal.Proj.dr
  by_cases hl : l < 11800
  · rw [dif_pos hl]
    exact Finset.sum_congr rfl fun j _ => by rw [dif_pos hl, wK_at]
  · rw [dif_neg hl]
    exact (Finset.sum_congr rfl fun j _ => by rw [dif_neg hl, mul_zero]).trans Finset.sum_const_zero

/-- Products of a row with the other weights are the array's last columns. -/
theorem rest (h : Fin 2048 → EReal) (a : FVec Ideal S1x2048x11800 .f32) (l : ℕ) (hl : l < 7680) :
    ∑ j : Fin 2048, h j * (wK a (ix2 j ⟨l, by omega⟩) : EReal) = col (Cert.Reference2Ideal.Proj.dr h a) (l + 4608) := by
  unfold col
  rw [if_neg (by omega), if_neg (by omega), if_neg (by omega), if_neg (by omega), if_neg (by omega), Nat.add_sub_cancel]
  unfold Cert.Reference2Ideal.Proj.dr
  rw [dif_pos (show l < 11800 by omega)]
  exact Finset.sum_congr rfl fun j _ => by rw [wK_at]

/-- The stored block after any point holds the array's entries. -/
theorem point (c : Dev nD) (t : Fin cfg0.N) (r : Fin 1024) (k : Fin 1536) (h : t.val / 8 * 1024 + r.val < 32768) (hk : t.val % 8 * 1536 + k.val < 12288) :
    (((outsAt0 m c t.val t.isLt).1 : FVec Ideal S1024x1536 .bf16) (ix2 r k) : EReal) = G m c (ix2 ⟨t.val / 8 * 1024 + r.val, h⟩ ⟨t.val % 8 * 1536 + k.val, hk⟩) := by
  rw [G_at]
  by_cases h1 : t.val % 8 ≤ 2
  · have q : ((outsAt0 m c t.val t.isLt).1 : FVec Ideal S1024x1536 .bf16) = k0_pay2 (outsAt0 m c t.val t.isLt).2 (iblk m c 4 t) := by
      by_cases h0 : t.val % 8 = 0
      · rw [outA m c t h0]
      · rw [outB m c t h0 h1]
    refine (congrFun q (ix2 r k)).trans ((pay2_at _ _ r k).trans ?_)
    refine (Finset.sum_congr rfl fun j _ => ?_).trans (gates (HN m c _ h) (m ((c.tc : Thread nD τ).loc main_arg4)) ⟨t.val % 8 * 1536 + k.val, by omega⟩)
    exact congrArg₂ (fun (a b : EReal) => a * b) (kept m c t.val t.isLt r j h) (blk4 m c t h1 j k)
  · have h3 : 3 ≤ t.val % 8 := by omega
    have q : ((outsAt0 m c t.val t.isLt).1 : FVec Ideal S1024x1536 .bf16) = k0_pay3 (outsAt0 m c t.val t.isLt).2 (X0_5 m c t) := by
      rw [outC m c t h3]
    refine (congrFun q (ix2 r k)).trans ((pay3_at _ _ r k).trans ?_)
    have e : t.val % 8 * 1536 + k.val = ((t.val % 8 - 3) * 1536 + k.val) + 4608 := by omega
    show _ = col _ (t.val % 8 * 1536 + k.val)
    rw [e]
    refine (Finset.sum_congr rfl fun j _ => ?_).trans (rest (HN m c _ h) (m ((c.tc : Thread nD τ).loc main_arg4)) ((t.val % 8 - 3) * 1536 + k.val) (by omega))
    exact congrArg₂ (fun (a b : EReal) => a * b) (kept m c t.val t.isLt r j h) (blk5 m c t h3 j k)

/-- The kernel's result array is the reference's. -/
theorem final (c : Dev nD) : (dats m 0 c).arrAt 6 cfg0.N = G m c := by
  refine (dats m 0 c).arrAt_eq_of_covers 6 (G m c) (by decide +kernel) fun t _ y => ?_
  have ht : t.val < 256 := t.isLt
  blk_simp
  rw [after0_6]
  idx_vars y
  refine (point m c t y0 y1 (by omega) (by omega)).trans (congrArg (G m c) ?_)
  blk_ext [tr t]

/-- The two programs end with the same result. -/
theorem same : Cert.algebraic_Kernel2Ideal_Reference2Ideal := by
  intro m ρ m' ρ' _ hagree
  refine ⟨fun c => G m c, ?_, ?_⟩
  · exact (θ_run (Cert.Kernel2Ideal.defs (F := Ideal)) _ _).mono (fun _ h c => ⟨((h.1 c).1 6).trans (final m c), h.2 c⟩) (θ_run_and (run_main m ρ) (unchanged m ρ))
  refine (θ_run (Cert.Reference2Ideal.defs (F := Ideal)) _ _).mono (fun _ h c => ⟨(h c).1.trans ?_, (h c).2⟩) (Cert.Reference2Ideal.Value.run (F := Ideal) m' ρ')
  obtain ⟨a0, a1, a2, a3, a4⟩ := hagree c
  refine (Cert.Reference2Ideal.Proj.res_eq m' c).trans ?_
  rw [a0, a1, a2, a3, a4]
  rfl

end Cert.Kernel2Ideal.Proj
end
-- ==== Proof.RFrame.lean ====
/- The references' runs as their frame claims read them. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import Idealize.ShloMosaic.Lib.Quiescent

@[expose] public section

set_option maxRecDepth 16384

noncomputable section

namespace Cert.RFrame

open Idealize.ShloMosaic Idealize.ShloMosaic.TcCoe Idealize.SL.Sem
open Cert.ReferenceIdeal Cert.ReferenceIdeal.Gen

/-- The reference runs, keeps its arguments and ends with every counter at zero. -/
theorem frame : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- So does the projection's reference. -/
theorem frame2 : Cert.quiescent_Reference2Ideal := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- So does the last call's reference. -/
theorem frame3 : Cert.quiescent_Reference3Ideal := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- So does the conditioning's reference. -/
theorem frame4 : Cert.quiescent_Reference4Ideal := fun m g _ =>
  (θ_run (Cert.Reference4Ideal.defs (F := Ideal)) _ _).mono (fun r h => ⟨fun c => (h c).2, sem_eq_zero_of_no_sems (by decide) r.2⟩)
    (Cert.Reference4Ideal.Value.run (F := Ideal) m g)

end Cert.RFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.OutVal
public import proofs.«01_k».proof.Proof.AdaVal
public import proofs.«01_k».proof.Proof.ProjVal
public import proofs.«01_k».proof.Proof.RFrame
public import proofs.«01_k».proof.Proof.P.Frames
public import Idealize.ShloMosaic.Adequacy
public import Idealize.ShloMosaic.Init

@[expose] public section

noncomputable section

namespace Cert.Proof

open Idealize.ShloMosaic Idealize.SL.Sem

/-- The kernel runs, keeps its arguments and ends with every counter at zero. -/
theorem frameP : Cert.quiescent_Kernel := fun m g _ =>
  (θ_run (Cert.Kernel.defs (F := Bits)) _ _).mono (fun _ h => ⟨fun c => (h.1 c).2, h.2⟩) (Cert.Kernel.Diff.run_kept m g)

/-- So does the kernel with its constants named. -/
theorem framePI : Cert.quiescent_KernelIdeal := fun m g _ =>
  (θ_run (Cert.KernelIdeal.defs (F := Ideal)) _ _).mono (fun _ h => ⟨fun c => (h.1 c).2, h.2⟩) (Cert.KernelIdeal.Diff.run_kept m g)

/-- Every claim holds. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  frameP, framePI, fun m g _ => framePI m g trivial, Cert.RFrame.frame, fun m g _ => Cert.RFrame.frame m g trivial,
  fun m g _ => Cert.Kernel2.Gen.frame m g, fun m g _ => Cert.Kernel2Ideal.Gen.frame m g, Cert.RFrame.frame2,
  fun m g _ => Cert.Kernel3.Gen.frame m g, fun m g _ => Cert.Kernel3Ideal.Gen.frame m g, Cert.RFrame.frame3,
  fun m g _ => Cert.Kernel4.Gen.frame m g, fun m g _ => Cert.Kernel4Ideal.Gen.frame m g, Cert.RFrame.frame4,
  ⟨IdealRules.named_const.statement Cert.KernelIdeal.κ "scale" .f32 0x3E38AA3B#32 (((1 / 8) * (Real.log 2)⁻¹ : ℝ) : EReal) rfl,
    IdealRules.named_const.statement Cert.KernelIdeal.κ "mask" .f32 0xF1800000#32 ⊥ rfl⟩,
  Cert.KernelIdeal.Diff.same, trivial, Cert.Kernel2Ideal.Proj.same, trivial, Cert.Kernel3Ideal.Out.same, trivial, Cert.Kernel4Ideal.Ada.same⟩

end Cert.Proof

end
